-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x128 : Shape := ⟨2, ![8192, 128]⟩
abbrev S32 : Shape := ⟨1, ![32]⟩
abbrev S2x256x8192 : Shape := ⟨3, ![2, 256, 8192]⟩
abbrev S128x8192 : Shape := ⟨2, ![128, 8192]⟩
abbrev S2 : Shape := ⟨1, ![2]⟩
abbrev S_ : Shape := ⟨0, ![]⟩
abbrev S1 : Shape := ⟨1, ![1]⟩
abbrev S1x256x8192 : Shape := ⟨3, ![1, 256, 8192]⟩
abbrev S256x128 : Shape := ⟨2, ![256, 128]⟩
abbrev S1x128x8192 : Shape := ⟨3, ![1, 128, 8192]⟩
abbrev S128x128 : Shape := ⟨2, ![128, 128]⟩

abbrev nBuf : Space → Nat
  | .hbm => 5
  | .vmem => 9
  | .smem => 2
  | _ => 0

abbrev bufTy : (tb : Table) → Fin (tcTables nBuf tb) → BufTy
  | .hbm, ⟨0, _⟩ => ⟨S256x8192, .bf16⟩
  | .hbm, ⟨1, _⟩ => ⟨S8192x128, .bf16⟩
  | .hbm, ⟨2, _⟩ => ⟨S32, .i32⟩
  | .hbm, ⟨3, _⟩ => ⟨S32, .i32⟩
  | .hbm, ⟨4, _⟩ => ⟨S8192x128, .f32⟩
  | .local _ .vmem, ⟨0, _⟩ => ⟨S256x8192, .bf16⟩
  | .local _ .vmem, ⟨1, _⟩ => ⟨S8192x128, .bf16⟩
  | .local _ .vmem, ⟨2, _⟩ => ⟨S8192x128, .f32⟩
  | .local _ .vmem, ⟨3, _⟩ => ⟨S2x256x8192, .bf16⟩
  | .local _ .vmem, ⟨4, _⟩ => ⟨S2x256x8192, .bf16⟩
  | .local _ .vmem, ⟨5, _⟩ => ⟨S128x8192, .bf16⟩
  | .local _ .vmem, ⟨6, _⟩ => ⟨S128x8192, .bf16⟩
  | .local _ .vmem, ⟨7, _⟩ => ⟨S128x8192, .bf16⟩
  | .local _ .vmem, ⟨8, _⟩ => ⟨S128x8192, .bf16⟩
  | .local _ .smem, ⟨0, _⟩ => ⟨S32, .i32⟩
  | .local _ .smem, ⟨1, _⟩ => ⟨S32, .i32⟩
  | _, _ => ⟨S256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let c0_i32 : BitVec 32 := 0#32
  let v6 : BitVec 1 := Scalar.cmpi .eq c32_i32_1 c0_i32
  let c1_i32_2 : BitVec 32 := 1#32
  let v7 : BitVec 32 := Scalar.select v6 c1_i32_2 c32_i32_1
  let v8 : BitVec 32 := Scalar.remsi v5 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v16 : Index := Scalar.indexCast v15
  ![v16.toNat]

def k0_off3 (v4 : BitVec 32) : Fin 1 → Nat :=
  let c32_i32_6 : BitVec 32 := 32#32
  let v18 : BitVec 32 := Scalar.addi v4 c32_i32_6
  let c1_i32_7 : BitVec 32 := 1#32
  let v19 : BitVec 32 := Scalar.subi v18 c1_i32_7
  let c32_i32_8 : BitVec 32 := 32#32
  let c0_i32_9 : BitVec 32 := 0#32
  let v20 : BitVec 1 := Scalar.cmpi .eq c32_i32_8 c0_i32_9
  let c1_i32_10 : BitVec 32 := 1#32
  let v21 : BitVec 32 := Scalar.select v20 c1_i32_10 c32_i32_8
  let v22 : BitVec 32 := Scalar.remsi v19 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let v30 : Index := Scalar.indexCast v29
  ![v30.toNat]
def k0_dev1 (v31 : BitVec 32) : Nat :=
  let c0_i32_16 : BitVec 32 := 0#32
  let c1_i32_15 : BitVec 32 := 1#32
  let v33 : BitVec 32 := Scalar.muli v31 c1_i32_15
  let v34 : BitVec 32 := Scalar.addi c0_i32_16 v33
  v34.toNat

def k0_dev2 (v17 : BitVec 32) : Nat :=
  let c0_i32_19 : BitVec 32 := 0#32
  let c1_i32_18 : BitVec 32 := 1#32
  let v35 : BitVec 32 := Scalar.muli v17 c1_i32_18
  let v36 : BitVec 32 := Scalar.addi c0_i32_19 v35
  v36.toNat

def k0_dev3 (v17 : BitVec 32) : Nat :=
  let c0_i32_34 : BitVec 32 := 0#32
  let c1_i32_33 : BitVec 32 := 1#32
  let v47 : BitVec 32 := Scalar.muli v17 c1_i32_33
  let v48 : BitVec 32 := Scalar.addi c0_i32_34 v47
  v48.toNat
def k0_dev4 (v31 : BitVec 32) : Nat :=
  let c0_i32_44 : BitVec 32 := 0#32
  let c1_i32_43 : BitVec 32 := 1#32
  let v57 : BitVec 32 := Scalar.muli v31 c1_i32_43
  let v58 : BitVec 32 := Scalar.addi c0_i32_44 v57
  v58.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v72 : BitVec 32 := Scalar.muli v2 c256_i32
  let v73 : Index := Scalar.indexCast v72
  let c0_54 : Index := 0#32
  ![v73.toNat, 0]
def k0_dev5 (v31 : BitVec 32) : Nat :=
  let c0_i32_75 : BitVec 32 := 0#32
  let c1_i32_74 : BitVec 32 := 1#32
  let v87 : BitVec 32 := Scalar.muli v31 c1_i32_74
  let v88 : BitVec 32 := Scalar.addi c0_i32_75 v87
  v88.toNat
def k0_dev6 (v17 : BitVec 32) : Nat :=
  let c0_i32_78 : BitVec 32 := 0#32
  let c1_i32_77 : BitVec 32 := 1#32
  let v89 : BitVec 32 := Scalar.muli v17 c1_i32_77
  let v90 : BitVec 32 := Scalar.addi c0_i32_78 v89
  v90.toNat
def k0_dev7 (v17 : BitVec 32) : Nat :=
  let c0_i32_108 : BitVec 32 := 0#32
  let c1_i32_107 : BitVec 32 := 1#32
  let v107 : BitVec 32 := Scalar.muli v17 c1_i32_107
  let v108 : BitVec 32 := Scalar.addi c0_i32_108 v107
  v108.toNat
def k0_dev8 (v31 : BitVec 32) : Nat :=
  let c0_i32_118 : BitVec 32 := 0#32
  let c1_i32_117 : BitVec 32 := 1#32
  let v117 : BitVec 32 := Scalar.muli v31 c1_i32_117
  let v118 : BitVec 32 := Scalar.addi c0_i32_118 v117
  v118.toNat
def k0_off5 (v4 : BitVec 32) : Fin 1 → Nat :=
  let c32_i32_123 : BitVec 32 := 32#32
  let v127 : BitVec 32 := Scalar.addi v4 c32_i32_123
  let c1_i32_124 : BitVec 32 := 1#32
  let v128 : BitVec 32 := Scalar.subi v127 c1_i32_124
  let c32_i32_125 : BitVec 32 := 32#32
  let c0_i32_126 : BitVec 32 := 0#32
  let v129 : BitVec 1 := Scalar.cmpi .eq c32_i32_125 c0_i32_126
  let c1_i32_127 : BitVec 32 := 1#32
  let v130 : BitVec 32 := Scalar.select v129 c1_i32_127 c32_i32_125
  let v131 : BitVec 32 := Scalar.remsi v128 v130
  let c0_i32_129 : BitVec 32 := 0#32
  let v133 : BitVec 1 := Scalar.cmpi .slt v131 c0_i32_129
  let c0_i32_130 : BitVec 32 := 0#32
  let v134 : BitVec 1 := Scalar.cmpi .slt v130 c0_i32_130
  let v135 : BitVec 1 := Scalar.xori v133 v134
  let c0_i32_128 : BitVec 32 := 0#32
  let v132 : BitVec 1 := Scalar.cmpi .ne v131 c0_i32_128
  let v136 : BitVec 1 := Scalar.andi v135 v132
  let v137 : BitVec 32 := Scalar.addi v131 v130
  let v138 : BitVec 32 := Scalar.select v136 v137 v131
  let v139 : Index := Scalar.indexCast v138
  ![v139.toNat]
def k0_off6 (v140 : BitVec 32) : Fin 2 → Nat :=
  let c256_i32_136 : BitVec 32 := 256#32
  let v146 : BitVec 32 := Scalar.muli v140 c256_i32_136
  let v147 : Index := Scalar.indexCast v146
  let c0_137 : Index := 0#32
  ![v147.toNat, 0]

def k0_chk4 (v140 : BitVec 32) : Prop :=
  (∀ a, (k0_off6 v140) a + S256x128.size a ≤ S8192x128.size a)
theorem k0_off6_inb : ∀ (v140 : BitVec 32) (k0_hw4 : k0_chk4 v140), ∀ a, (k0_off6 v140) a + S256x128.size a ≤ S8192x128.size a := fun v140 k0_hw4 => k0_hw4

def k0_off7 (v4 : BitVec 32) : Fin 1 → Nat :=
  let c1_i32_138 : BitVec 32 := 1#32
  let v149 : BitVec 32 := Scalar.addi v4 c1_i32_138
  let c32_i32_139 : BitVec 32 := 32#32
  let c0_i32_140 : BitVec 32 := 0#32
  let v150 : BitVec 1 := Scalar.cmpi .eq c32_i32_139 c0_i32_140
  let c1_i32_141 : BitVec 32 := 1#32
  let v151 : BitVec 32 := Scalar.select v150 c1_i32_141 c32_i32_139
  let v152 : BitVec 32 := Scalar.remsi v149 v151
  let c0_i32_143 : BitVec 32 := 0#32
  let v154 : BitVec 1 := Scalar.cmpi .slt v152 c0_i32_143
  let c0_i32_144 : BitVec 32 := 0#32
  let v155 : BitVec 1 := Scalar.cmpi .slt v151 c0_i32_144
  let v156 : BitVec 1 := Scalar.xori v154 v155
  let c0_i32_142 : BitVec 32 := 0#32
  let v153 : BitVec 1 := Scalar.cmpi .ne v152 c0_i32_142
  let v157 : BitVec 1 := Scalar.andi v156 v153
  let v158 : BitVec 32 := Scalar.addi v152 v151
  let v159 : BitVec 32 := Scalar.select v157 v158 v152
  let v160 : Index := Scalar.indexCast v159
  ![v160.toNat]
def k0_off8 (v161 : BitVec 32) : Fin 2 → Nat :=
  let c256_i32_151 : BitVec 32 := 256#32
  let v167 : BitVec 32 := Scalar.muli v161 c256_i32_151
  let v168 : Index := Scalar.indexCast v167
  let c0_152 : Index := 0#32
  ![v168.toNat, 0]

def k0_chk5 (v161 : BitVec 32) : Prop :=
  (∀ a, (k0_off8 v161) a + S256x128.size a ≤ S8192x128.size a)
theorem k0_off8_inb : ∀ (v161 : BitVec 32) (k0_hw5 : k0_chk5 v161), ∀ a, (k0_off8 v161) a + S256x128.size a ≤ S8192x128.size a := fun v161 k0_hw5 => k0_hw5

def k0_dev9 (v31 : BitVec 32) : Nat :=
  let c0_i32_173 : BitVec 32 := 0#32
  let c1_i32_172 : BitVec 32 := 1#32
  let v182 : BitVec 32 := Scalar.muli v31 c1_i32_172
  let v183 : BitVec 32 := Scalar.addi c0_i32_173 v182
  v183.toNat
def k0_dev10 (v17 : BitVec 32) : Nat :=
  let c0_i32_176 : BitVec 32 := 0#32
  let c1_i32_175 : BitVec 32 := 1#32
  let v184 : BitVec 32 := Scalar.muli v17 c1_i32_175
  let v185 : BitVec 32 := Scalar.addi c0_i32_176 v184
  v185.toNat
def k0_dev11 (v17 : BitVec 32) : Nat :=
  let c0_i32_206 : BitVec 32 := 0#32
  let c1_i32_205 : BitVec 32 := 1#32
  let v202 : BitVec 32 := Scalar.muli v17 c1_i32_205
  let v203 : BitVec 32 := Scalar.addi c0_i32_206 v202
  v203.toNat
def k0_dev12 (v31 : BitVec 32) : Nat :=
  let c0_i32_216 : BitVec 32 := 0#32
  let c1_i32_215 : BitVec 32 := 1#32
  let v212 : BitVec 32 := Scalar.muli v31 c1_i32_215
  let v213 : BitVec 32 := Scalar.addi c0_i32_216 v212
  v213.toNat
def k0_off9 (v4 : BitVec 32) : Fin 1 → Nat :=
  let c32_i32_221 : BitVec 32 := 32#32
  let v222 : BitVec 32 := Scalar.addi v4 c32_i32_221
  let c2_i32_222 : BitVec 32 := 2#32
  let v223 : BitVec 32 := Scalar.subi v222 c2_i32_222
  let c32_i32_223 : BitVec 32 := 32#32
  let c0_i32_224 : BitVec 32 := 0#32
  let v224 : BitVec 1 := Scalar.cmpi .eq c32_i32_223 c0_i32_224
  let c1_i32_225 : BitVec 32 := 1#32
  let v225 : BitVec 32 := Scalar.select v224 c1_i32_225 c32_i32_223
  let v226 : BitVec 32 := Scalar.remsi v223 v225
  let c0_i32_227 : BitVec 32 := 0#32
  let v228 : BitVec 1 := Scalar.cmpi .slt v226 c0_i32_227
  let c0_i32_228 : BitVec 32 := 0#32
  let v229 : BitVec 1 := Scalar.cmpi .slt v225 c0_i32_228
  let v230 : BitVec 1 := Scalar.xori v228 v229
  let c0_i32_226 : BitVec 32 := 0#32
  let v227 : BitVec 1 := Scalar.cmpi .ne v226 c0_i32_226
  let v231 : BitVec 1 := Scalar.andi v230 v227
  let v232 : BitVec 32 := Scalar.addi v226 v225
  let v233 : BitVec 32 := Scalar.select v231 v232 v226
  let v234 : Index := Scalar.indexCast v233
  ![v234.toNat]
def k0_off10 (v235 : BitVec 32) : Fin 2 → Nat :=
  let c256_i32_235 : BitVec 32 := 256#32
  let v241 : BitVec 32 := Scalar.muli v235 c256_i32_235
  let v242 : Index := Scalar.indexCast v241
  let c0_236 : Index := 0#32
  ![v242.toNat, 0]

def k0_chk6 (v235 : BitVec 32) : Prop :=
  (∀ a, (k0_off10 v235) a + S256x128.size a ≤ S8192x128.size a)
theorem k0_off10_inb : ∀ (v235 : BitVec 32) (k0_hw6 : k0_chk6 v235), ∀ a, (k0_off10 v235) a + S256x128.size a ≤ S8192x128.size a := fun v235 k0_hw6 => k0_hw6

def k0_off11 (v4 : BitVec 32) : Fin 1 → Nat :=
  let c2_i32_237 : BitVec 32 := 2#32
  let v244 : BitVec 32 := Scalar.addi v4 c2_i32_237
  let c32_i32_238 : BitVec 32 := 32#32
  let c0_i32_239 : BitVec 32 := 0#32
  let v245 : BitVec 1 := Scalar.cmpi .eq c32_i32_238 c0_i32_239
  let c1_i32_240 : BitVec 32 := 1#32
  let v246 : BitVec 32 := Scalar.select v245 c1_i32_240 c32_i32_238
  let v247 : BitVec 32 := Scalar.remsi v244 v246
  let c0_i32_242 : BitVec 32 := 0#32
  let v249 : BitVec 1 := Scalar.cmpi .slt v247 c0_i32_242
  let c0_i32_243 : BitVec 32 := 0#32
  let v250 : BitVec 1 := Scalar.cmpi .slt v246 c0_i32_243
  let v251 : BitVec 1 := Scalar.xori v249 v250
  let c0_i32_241 : BitVec 32 := 0#32
  let v248 : BitVec 1 := Scalar.cmpi .ne v247 c0_i32_241
  let v252 : BitVec 1 := Scalar.andi v251 v248
  let v253 : BitVec 32 := Scalar.addi v247 v246
  let v254 : BitVec 32 := Scalar.select v252 v253 v247
  let v255 : Index := Scalar.indexCast v254
  ![v255.toNat]
def k0_off12 (v256 : BitVec 32) : Fin 2 → Nat :=
  let c256_i32_250 : BitVec 32 := 256#32
  let v262 : BitVec 32 := Scalar.muli v256 c256_i32_250
  let v263 : Index := Scalar.indexCast v262
  let c0_251 : Index := 0#32
  ![v263.toNat, 0]

def k0_chk7 (v256 : BitVec 32) : Prop :=
  (∀ a, (k0_off12 v256) a + S256x128.size a ≤ S8192x128.size a)
theorem k0_off12_inb : ∀ (v256 : BitVec 32) (k0_hw7 : k0_chk7 v256), ∀ a, (k0_off12 v256) a + S256x128.size a ≤ S8192x128.size a := fun v256 k0_hw7 => k0_hw7

def k0_dev13 (v31 : BitVec 32) : Nat :=
  let c0_i32_272 : BitVec 32 := 0#32
  let c1_i32_271 : BitVec 32 := 1#32
  let v277 : BitVec 32 := Scalar.muli v31 c1_i32_271
  let v278 : BitVec 32 := Scalar.addi c0_i32_272 v277
  v278.toNat
def k0_dev14 (v17 : BitVec 32) : Nat :=
  let c0_i32_275 : BitVec 32 := 0#32
  let c1_i32_274 : BitVec 32 := 1#32
  let v279 : BitVec 32 := Scalar.muli v17 c1_i32_274
  let v280 : BitVec 32 := Scalar.addi c0_i32_275 v279
  v280.toNat
def k0_dev15 (v17 : BitVec 32) : Nat :=
  let c0_i32_305 : BitVec 32 := 0#32
  let c1_i32_304 : BitVec 32 := 1#32
  let v297 : BitVec 32 := Scalar.muli v17 c1_i32_304
  let v298 : BitVec 32 := Scalar.addi c0_i32_305 v297
  v298.toNat
def k0_dev16 (v31 : BitVec 32) : Nat :=
  let c0_i32_315 : BitVec 32 := 0#32
  let c1_i32_314 : BitVec 32 := 1#32
  let v307 : BitVec 32 := Scalar.muli v31 c1_i32_314
  let v308 : BitVec 32 := Scalar.addi c0_i32_315 v307
  v308.toNat
def k0_off13 (v4 : BitVec 32) : Fin 1 → Nat :=
  let c32_i32_320 : BitVec 32 := 32#32
  let v317 : BitVec 32 := Scalar.addi v4 c32_i32_320
  let c3_i32 : BitVec 32 := 3#32
  let v318 : BitVec 32 := Scalar.subi v317 c3_i32
  let c32_i32_321 : BitVec 32 := 32#32
  let c0_i32_322 : BitVec 32 := 0#32
  let v319 : BitVec 1 := Scalar.cmpi .eq c32_i32_321 c0_i32_322
  let c1_i32_323 : BitVec 32 := 1#32
  let v320 : BitVec 32 := Scalar.select v319 c1_i32_323 c32_i32_321
  let v321 : BitVec 32 := Scalar.remsi v318 v320
  let c0_i32_325 : BitVec 32 := 0#32
  let v323 : BitVec 1 := Scalar.cmpi .slt v321 c0_i32_325
  let c0_i32_326 : BitVec 32 := 0#32
  let v324 : BitVec 1 := Scalar.cmpi .slt v320 c0_i32_326
  let v325 : BitVec 1 := Scalar.xori v323 v324
  let c0_i32_324 : BitVec 32 := 0#32
  let v322 : BitVec 1 := Scalar.cmpi .ne v321 c0_i32_324
  let v326 : BitVec 1 := Scalar.andi v325 v322
  let v327 : BitVec 32 := Scalar.addi v321 v320
  let v328 : BitVec 32 := Scalar.select v326 v327 v321
  let v329 : Index := Scalar.indexCast v328
  ![v329.toNat]
def k0_off14 (v330 : BitVec 32) : Fin 2 → Nat :=
  let c256_i32_333 : BitVec 32 := 256#32
  let v336 : BitVec 32 := Scalar.muli v330 c256_i32_333
  let v337 : Index := Scalar.indexCast v336
  let c0_334 : Index := 0#32
  ![v337.toNat, 0]

def k0_chk8 (v330 : BitVec 32) : Prop :=
  (∀ a, (k0_off14 v330) a + S256x128.size a ≤ S8192x128.size a)
theorem k0_off14_inb : ∀ (v330 : BitVec 32) (k0_hw8 : k0_chk8 v330), ∀ a, (k0_off14 v330) a + S256x128.size a ≤ S8192x128.size a := fun v330 k0_hw8 => k0_hw8

def k0_off15 (v4 : BitVec 32) : Fin 1 → Nat :=
  let c3_i32_335 : BitVec 32 := 3#32
  let v339 : BitVec 32 := Scalar.addi v4 c3_i32_335
  let c32_i32_336 : BitVec 32 := 32#32
  let c0_i32_337 : BitVec 32 := 0#32
  let v340 : BitVec 1 := Scalar.cmpi .eq c32_i32_336 c0_i32_337
  let c1_i32_338 : BitVec 32 := 1#32
  let v341 : BitVec 32 := Scalar.select v340 c1_i32_338 c32_i32_336
  let v342 : BitVec 32 := Scalar.remsi v339 v341
  let c0_i32_340 : BitVec 32 := 0#32
  let v344 : BitVec 1 := Scalar.cmpi .slt v342 c0_i32_340
  let c0_i32_341 : BitVec 32 := 0#32
  let v345 : BitVec 1 := Scalar.cmpi .slt v341 c0_i32_341
  let v346 : BitVec 1 := Scalar.xori v344 v345
  let c0_i32_339 : BitVec 32 := 0#32
  let v343 : BitVec 1 := Scalar.cmpi .ne v342 c0_i32_339
  let v347 : BitVec 1 := Scalar.andi v346 v343
  let v348 : BitVec 32 := Scalar.addi v342 v341
  let v349 : BitVec 32 := Scalar.select v347 v348 v342
  let v350 : Index := Scalar.indexCast v349
  ![v350.toNat]
def k0_off16 (v351 : BitVec 32) : Fin 2 → Nat :=
  let c256_i32_348 : BitVec 32 := 256#32
  let v357 : BitVec 32 := Scalar.muli v351 c256_i32_348
  let v358 : Index := Scalar.indexCast v357
  let c0_349 : Index := 0#32
  ![v358.toNat, 0]

def k0_chk9 (v351 : BitVec 32) : Prop :=
  (∀ a, (k0_off16 v351) a + S256x128.size a ≤ S8192x128.size a)
theorem k0_off16_inb : ∀ (v351 : BitVec 32) (k0_hw9 : k0_chk9 v351), ∀ a, (k0_off16 v351) a + S256x128.size a ≤ S8192x128.size a := fun v351 k0_hw9 => k0_hw9

def k0_dev17 (v31 : BitVec 32) : Nat :=
  let c0_i32_370 : BitVec 32 := 0#32
  let c1_i32_369 : BitVec 32 := 1#32
  let v372 : BitVec 32 := Scalar.muli v31 c1_i32_369
  let v373 : BitVec 32 := Scalar.addi c0_i32_370 v372
  v373.toNat
def k0_dev18 (v17 : BitVec 32) : Nat :=
  let c0_i32_373 : BitVec 32 := 0#32
  let c1_i32_372 : BitVec 32 := 1#32
  let v374 : BitVec 32 := Scalar.muli v17 c1_i32_372
  let v375 : BitVec 32 := Scalar.addi c0_i32_373 v374
  v375.toNat
def k0_dev19 (v17 : BitVec 32) : Nat :=
  let c0_i32_403 : BitVec 32 := 0#32
  let c1_i32_402 : BitVec 32 := 1#32
  let v392 : BitVec 32 := Scalar.muli v17 c1_i32_402
  let v393 : BitVec 32 := Scalar.addi c0_i32_403 v392
  v393.toNat
def k0_dev20 (v31 : BitVec 32) : Nat :=
  let c0_i32_413 : BitVec 32 := 0#32
  let c1_i32_412 : BitVec 32 := 1#32
  let v402 : BitVec 32 := Scalar.muli v31 c1_i32_412
  let v403 : BitVec 32 := Scalar.addi c0_i32_413 v402
  v403.toNat
def k0_off17 (v4 : BitVec 32) : Fin 1 → Nat :=
  let c32_i32_418 : BitVec 32 := 32#32
  let v412 : BitVec 32 := Scalar.addi v4 c32_i32_418
  let c4_i32 : BitVec 32 := 4#32
  let v413 : BitVec 32 := Scalar.subi v412 c4_i32
  let c32_i32_419 : BitVec 32 := 32#32
  let c0_i32_420 : BitVec 32 := 0#32
  let v414 : BitVec 1 := Scalar.cmpi .eq c32_i32_419 c0_i32_420
  let c1_i32_421 : BitVec 32 := 1#32
  let v415 : BitVec 32 := Scalar.select v414 c1_i32_421 c32_i32_419
  let v416 : BitVec 32 := Scalar.remsi v413 v415
  let c0_i32_423 : BitVec 32 := 0#32
  let v418 : BitVec 1 := Scalar.cmpi .slt v416 c0_i32_423
  let c0_i32_424 : BitVec 32 := 0#32
  let v419 : BitVec 1 := Scalar.cmpi .slt v415 c0_i32_424
  let v420 : BitVec 1 := Scalar.xori v418 v419
  let c0_i32_422 : BitVec 32 := 0#32
  let v417 : BitVec 1 := Scalar.cmpi .ne v416 c0_i32_422
  let v421 : BitVec 1 := Scalar.andi v420 v417
  let v422 : BitVec 32 := Scalar.addi v416 v415
  let v423 : BitVec 32 := Scalar.select v421 v422 v416
  let v424 : Index := Scalar.indexCast v423
  ![v424.toNat]
def k0_off18 (v425 : BitVec 32) : Fin 2 → Nat :=
  let c256_i32_431 : BitVec 32 := 256#32
  let v431 : BitVec 32 := Scalar.muli v425 c256_i32_431
  let v432 : Index := Scalar.indexCast v431
  let c0_432 : Index := 0#32
  ![v432.toNat, 0]

def k0_chk10 (v425 : BitVec 32) : Prop :=
  (∀ a, (k0_off18 v425) a + S256x128.size a ≤ S8192x128.size a)
theorem k0_off18_inb : ∀ (v425 : BitVec 32) (k0_hw10 : k0_chk10 v425), ∀ a, (k0_off18 v425) a + S256x128.size a ≤ S8192x128.size a := fun v425 k0_hw10 => k0_hw10

def k0_off19 (v4 : BitVec 32) : Fin 1 → Nat :=
  let c4_i32_433 : BitVec 32 := 4#32
  let v434 : BitVec 32 := Scalar.addi v4 c4_i32_433
  let c32_i32_434 : BitVec 32 := 32#32
  let c0_i32_435 : BitVec 32 := 0#32
  let v435 : BitVec 1 := Scalar.cmpi .eq c32_i32_434 c0_i32_435
  let c1_i32_436 : BitVec 32 := 1#32
  let v436 : BitVec 32 := Scalar.select v435 c1_i32_436 c32_i32_434
  let v437 : BitVec 32 := Scalar.remsi v434 v436
  let c0_i32_438 : BitVec 32 := 0#32
  let v439 : BitVec 1 := Scalar.cmpi .slt v437 c0_i32_438
  let c0_i32_439 : BitVec 32 := 0#32
  let v440 : BitVec 1 := Scalar.cmpi .slt v436 c0_i32_439
  let v441 : BitVec 1 := Scalar.xori v439 v440
  let c0_i32_437 : BitVec 32 := 0#32
  let v438 : BitVec 1 := Scalar.cmpi .ne v437 c0_i32_437
  let v442 : BitVec 1 := Scalar.andi v441 v438
  let v443 : BitVec 32 := Scalar.addi v437 v436
  let v444 : BitVec 32 := Scalar.select v442 v443 v437
  let v445 : Index := Scalar.indexCast v444
  ![v445.toNat]
def k0_off20 (v446 : BitVec 32) : Fin 2 → Nat :=
  let c256_i32_446 : BitVec 32 := 256#32
  let v452 : BitVec 32 := Scalar.muli v446 c256_i32_446
  let v453 : Index := Scalar.indexCast v452
  let c0_447 : Index := 0#32
  ![v453.toNat, 0]

def k0_chk11 (v446 : BitVec 32) : Prop :=
  (∀ a, (k0_off20 v446) a + S256x128.size a ≤ S8192x128.size a)
theorem k0_off20_inb : ∀ (v446 : BitVec 32) (k0_hw11 : k0_chk11 v446), ∀ a, (k0_off20 v446) a + S256x128.size a ≤ S8192x128.size a := fun v446 k0_hw11 => k0_hw11

def k0_dev21 (v31 : BitVec 32) : Nat :=
  let c0_i32_468 : BitVec 32 := 0#32
  let c1_i32_467 : BitVec 32 := 1#32
  let v467 : BitVec 32 := Scalar.muli v31 c1_i32_467
  let v468 : BitVec 32 := Scalar.addi c0_i32_468 v467
  v468.toNat
def k0_dev22 (v17 : BitVec 32) : Nat :=
  let c0_i32_471 : BitVec 32 := 0#32
  let c1_i32_470 : BitVec 32 := 1#32
  let v469 : BitVec 32 := Scalar.muli v17 c1_i32_470
  let v470 : BitVec 32 := Scalar.addi c0_i32_471 v469
  v470.toNat
def k0_dev23 (v17 : BitVec 32) : Nat :=
  let c0_i32_501 : BitVec 32 := 0#32
  let c1_i32_500 : BitVec 32 := 1#32
  let v487 : BitVec 32 := Scalar.muli v17 c1_i32_500
  let v488 : BitVec 32 := Scalar.addi c0_i32_501 v487
  v488.toNat
def k0_dev24 (v31 : BitVec 32) : Nat :=
  let c0_i32_511 : BitVec 32 := 0#32
  let c1_i32_510 : BitVec 32 := 1#32
  let v497 : BitVec 32 := Scalar.muli v31 c1_i32_510
  let v498 : BitVec 32 := Scalar.addi c0_i32_511 v497
  v498.toNat
def k0_off21 (v4 : BitVec 32) : Fin 1 → Nat :=
  let c32_i32_516 : BitVec 32 := 32#32
  let v507 : BitVec 32 := Scalar.addi v4 c32_i32_516
  let c5_i32 : BitVec 32 := 5#32
  let v508 : BitVec 32 := Scalar.subi v507 c5_i32
  let c32_i32_517 : BitVec 32 := 32#32
  let c0_i32_518 : BitVec 32 := 0#32
  let v509 : BitVec 1 := Scalar.cmpi .eq c32_i32_517 c0_i32_518
  let c1_i32_519 : BitVec 32 := 1#32
  let v510 : BitVec 32 := Scalar.select v509 c1_i32_519 c32_i32_517
  let v511 : BitVec 32 := Scalar.remsi v508 v510
  let c0_i32_521 : BitVec 32 := 0#32
  let v513 : BitVec 1 := Scalar.cmpi .slt v511 c0_i32_521
  let c0_i32_522 : BitVec 32 := 0#32
  let v514 : BitVec 1 := Scalar.cmpi .slt v510 c0_i32_522
  let v515 : BitVec 1 := Scalar.xori v513 v514
  let c0_i32_520 : BitVec 32 := 0#32
  let v512 : BitVec 1 := Scalar.cmpi .ne v511 c0_i32_520
  let v516 : BitVec 1 := Scalar.andi v515 v512
  let v517 : BitVec 32 := Scalar.addi v511 v510
  let v518 : BitVec 32 := Scalar.select v516 v517 v511
  let v519 : Index := Scalar.indexCast v518
  ![v519.toNat]
def k0_off22 (v520 : BitVec 32) : Fin 2 → Nat :=
  let c256_i32_529 : BitVec 32 := 256#32
  let v526 : BitVec 32 := Scalar.muli v520 c256_i32_529
  let v527 : Index := Scalar.indexCast v526
  let c0_530 : Index := 0#32
  ![v527.toNat, 0]

def k0_chk12 (v520 : BitVec 32) : Prop :=
  (∀ a, (k0_off22 v520) a + S256x128.size a ≤ S8192x128.size a)
theorem k0_off22_inb : ∀ (v520 : BitVec 32) (k0_hw12 : k0_chk12 v520), ∀ a, (k0_off22 v520) a + S256x128.size a ≤ S8192x128.size a := fun v520 k0_hw12 => k0_hw12

def k0_off23 (v4 : BitVec 32) : Fin 1 → Nat :=
  let c5_i32_531 : BitVec 32 := 5#32
  let v529 : BitVec 32 := Scalar.addi v4 c5_i32_531
  let c32_i32_532 : BitVec 32 := 32#32
  let c0_i32_533 : BitVec 32 := 0#32
  let v530 : BitVec 1 := Scalar.cmpi .eq c32_i32_532 c0_i32_533
  let c1_i32_534 : BitVec 32 := 1#32
  let v531 : BitVec 32 := Scalar.select v530 c1_i32_534 c32_i32_532
  let v532 : BitVec 32 := Scalar.remsi v529 v531
  let c0_i32_536 : BitVec 32 := 0#32
  let v534 : BitVec 1 := Scalar.cmpi .slt v532 c0_i32_536
  let c0_i32_537 : BitVec 32 := 0#32
  let v535 : BitVec 1 := Scalar.cmpi .slt v531 c0_i32_537
  let v536 : BitVec 1 := Scalar.xori v534 v535
  let c0_i32_535 : BitVec 32 := 0#32
  let v533 : BitVec 1 := Scalar.cmpi .ne v532 c0_i32_535
  let v537 : BitVec 1 := Scalar.andi v536 v533
  let v538 : BitVec 32 := Scalar.addi v532 v531
  let v539 : BitVec 32 := Scalar.select v537 v538 v532
  let v540 : Index := Scalar.indexCast v539
  ![v540.toNat]
def k0_off24 (v541 : BitVec 32) : Fin 2 → Nat :=
  let c256_i32_544 : BitVec 32 := 256#32
  let v547 : BitVec 32 := Scalar.muli v541 c256_i32_544
  let v548 : Index := Scalar.indexCast v547
  let c0_545 : Index := 0#32
  ![v548.toNat, 0]

def k0_chk13 (v541 : BitVec 32) : Prop :=
  (∀ a, (k0_off24 v541) a + S256x128.size a ≤ S8192x128.size a)
theorem k0_off24_inb : ∀ (v541 : BitVec 32) (k0_hw13 : k0_chk13 v541), ∀ a, (k0_off24 v541) a + S256x128.size a ≤ S8192x128.size a := fun v541 k0_hw13 => k0_hw13

def k0_dev25 (v31 : BitVec 32) : Nat :=
  let c0_i32_566 : BitVec 32 := 0#32
  let c1_i32_565 : BitVec 32 := 1#32
  let v562 : BitVec 32 := Scalar.muli v31 c1_i32_565
  let v563 : BitVec 32 := Scalar.addi c0_i32_566 v562
  v563.toNat
def k0_dev26 (v17 : BitVec 32) : Nat :=
  let c0_i32_569 : BitVec 32 := 0#32
  let c1_i32_568 : BitVec 32 := 1#32
  let v564 : BitVec 32 := Scalar.muli v17 c1_i32_568
  let v565 : BitVec 32 := Scalar.addi c0_i32_569 v564
  v565.toNat
def k0_dev27 (v17 : BitVec 32) : Nat :=
  let c0_i32_599 : BitVec 32 := 0#32
  let c1_i32_598 : BitVec 32 := 1#32
  let v582 : BitVec 32 := Scalar.muli v17 c1_i32_598
  let v583 : BitVec 32 := Scalar.addi c0_i32_599 v582
  v583.toNat
def k0_dev28 (v31 : BitVec 32) : Nat :=
  let c0_i32_609 : BitVec 32 := 0#32
  let c1_i32_608 : BitVec 32 := 1#32
  let v592 : BitVec 32 := Scalar.muli v31 c1_i32_608
  let v593 : BitVec 32 := Scalar.addi c0_i32_609 v592
  v593.toNat
def k0_off25 (v4 : BitVec 32) : Fin 1 → Nat :=
  let c32_i32_614 : BitVec 32 := 32#32
  let v602 : BitVec 32 := Scalar.addi v4 c32_i32_614
  let c6_i32 : BitVec 32 := 6#32
  let v603 : BitVec 32 := Scalar.subi v602 c6_i32
  let c32_i32_615 : BitVec 32 := 32#32
  let c0_i32_616 : BitVec 32 := 0#32
  let v604 : BitVec 1 := Scalar.cmpi .eq c32_i32_615 c0_i32_616
  let c1_i32_617 : BitVec 32 := 1#32
  let v605 : BitVec 32 := Scalar.select v604 c1_i32_617 c32_i32_615
  let v606 : BitVec 32 := Scalar.remsi v603 v605
  let c0_i32_619 : BitVec 32 := 0#32
  let v608 : BitVec 1 := Scalar.cmpi .slt v606 c0_i32_619
  let c0_i32_620 : BitVec 32 := 0#32
  let v609 : BitVec 1 := Scalar.cmpi .slt v605 c0_i32_620
  let v610 : BitVec 1 := Scalar.xori v608 v609
  let c0_i32_618 : BitVec 32 := 0#32
  let v607 : BitVec 1 := Scalar.cmpi .ne v606 c0_i32_618
  let v611 : BitVec 1 := Scalar.andi v610 v607
  let v612 : BitVec 32 := Scalar.addi v606 v605
  let v613 : BitVec 32 := Scalar.select v611 v612 v606
  let v614 : Index := Scalar.indexCast v613
  ![v614.toNat]
def k0_off26 (v615 : BitVec 32) : Fin 2 → Nat :=
  let c256_i32_627 : BitVec 32 := 256#32
  let v621 : BitVec 32 := Scalar.muli v615 c256_i32_627
  let v622 : Index := Scalar.indexCast v621
  let c0_628 : Index := 0#32
  ![v622.toNat, 0]

def k0_chk14 (v615 : BitVec 32) : Prop :=
  (∀ a, (k0_off26 v615) a + S256x128.size a ≤ S8192x128.size a)
theorem k0_off26_inb : ∀ (v615 : BitVec 32) (k0_hw14 : k0_chk14 v615), ∀ a, (k0_off26 v615) a + S256x128.size a ≤ S8192x128.size a := fun v615 k0_hw14 => k0_hw14

def k0_off27 (v4 : BitVec 32) : Fin 1 → Nat :=
  let c6_i32_629 : BitVec 32 := 6#32
  let v624 : BitVec 32 := Scalar.addi v4 c6_i32_629
  let c32_i32_630 : BitVec 32 := 32#32
  let c0_i32_631 : BitVec 32 := 0#32
  let v625 : BitVec 1 := Scalar.cmpi .eq c32_i32_630 c0_i32_631
  let c1_i32_632 : BitVec 32 := 1#32
  let v626 : BitVec 32 := Scalar.select v625 c1_i32_632 c32_i32_630
  let v627 : BitVec 32 := Scalar.remsi v624 v626
  let c0_i32_634 : BitVec 32 := 0#32
  let v629 : BitVec 1 := Scalar.cmpi .slt v627 c0_i32_634
  let c0_i32_635 : BitVec 32 := 0#32
  let v630 : BitVec 1 := Scalar.cmpi .slt v626 c0_i32_635
  let v631 : BitVec 1 := Scalar.xori v629 v630
  let c0_i32_633 : BitVec 32 := 0#32
  let v628 : BitVec 1 := Scalar.cmpi .ne v627 c0_i32_633
  let v632 : BitVec 1 := Scalar.andi v631 v628
  let v633 : BitVec 32 := Scalar.addi v627 v626
  let v634 : BitVec 32 := Scalar.select v632 v633 v627
  let v635 : Index := Scalar.indexCast v634
  ![v635.toNat]
def k0_off28 (v636 : BitVec 32) : Fin 2 → Nat :=
  let c256_i32_642 : BitVec 32 := 256#32
  let v642 : BitVec 32 := Scalar.muli v636 c256_i32_642
  let v643 : Index := Scalar.indexCast v642
  let c0_643 : Index := 0#32
  ![v643.toNat, 0]

def k0_chk15 (v636 : BitVec 32) : Prop :=
  (∀ a, (k0_off28 v636) a + S256x128.size a ≤ S8192x128.size a)
theorem k0_off28_inb : ∀ (v636 : BitVec 32) (k0_hw15 : k0_chk15 v636), ∀ a, (k0_off28 v636) a + S256x128.size a ≤ S8192x128.size a := fun v636 k0_hw15 => k0_hw15

def k0_dev29 (v31 : BitVec 32) : Nat :=
  let c0_i32_664 : BitVec 32 := 0#32
  let c1_i32_663 : BitVec 32 := 1#32
  let v657 : BitVec 32 := Scalar.muli v31 c1_i32_663
  let v658 : BitVec 32 := Scalar.addi c0_i32_664 v657
  v658.toNat
def k0_dev30 (v17 : BitVec 32) : Nat :=
  let c0_i32_667 : BitVec 32 := 0#32
  let c1_i32_666 : BitVec 32 := 1#32
  let v659 : BitVec 32 := Scalar.muli v17 c1_i32_666
  let v660 : BitVec 32 := Scalar.addi c0_i32_667 v659
  v660.toNat
def k0_dev31 (v17 : BitVec 32) : Nat :=
  let c0_i32_697 : BitVec 32 := 0#32
  let c1_i32_696 : BitVec 32 := 1#32
  let v677 : BitVec 32 := Scalar.muli v17 c1_i32_696
  let v678 : BitVec 32 := Scalar.addi c0_i32_697 v677
  v678.toNat
def k0_dev32 (v31 : BitVec 32) : Nat :=
  let c0_i32_707 : BitVec 32 := 0#32
  let c1_i32_706 : BitVec 32 := 1#32
  let v687 : BitVec 32 := Scalar.muli v31 c1_i32_706
  let v688 : BitVec 32 := Scalar.addi c0_i32_707 v687
  v688.toNat
def k0_off29 (v4 : BitVec 32) : Fin 1 → Nat :=
  let c32_i32_712 : BitVec 32 := 32#32
  let v697 : BitVec 32 := Scalar.addi v4 c32_i32_712
  let c7_i32 : BitVec 32 := 7#32
  let v698 : BitVec 32 := Scalar.subi v697 c7_i32
  let c32_i32_713 : BitVec 32 := 32#32
  let c0_i32_714 : BitVec 32 := 0#32
  let v699 : BitVec 1 := Scalar.cmpi .eq c32_i32_713 c0_i32_714
  let c1_i32_715 : BitVec 32 := 1#32
  let v700 : BitVec 32 := Scalar.select v699 c1_i32_715 c32_i32_713
  let v701 : BitVec 32 := Scalar.remsi v698 v700
  let c0_i32_717 : BitVec 32 := 0#32
  let v703 : BitVec 1 := Scalar.cmpi .slt v701 c0_i32_717
  let c0_i32_718 : BitVec 32 := 0#32
  let v704 : BitVec 1 := Scalar.cmpi .slt v700 c0_i32_718
  let v705 : BitVec 1 := Scalar.xori v703 v704
  let c0_i32_716 : BitVec 32 := 0#32
  let v702 : BitVec 1 := Scalar.cmpi .ne v701 c0_i32_716
  let v706 : BitVec 1 := Scalar.andi v705 v702
  let v707 : BitVec 32 := Scalar.addi v701 v700
  let v708 : BitVec 32 := Scalar.select v706 v707 v701
  let v709 : Index := Scalar.indexCast v708
  ![v709.toNat]
def k0_off30 (v710 : BitVec 32) : Fin 2 → Nat :=
  let c256_i32_725 : BitVec 32 := 256#32
  let v716 : BitVec 32 := Scalar.muli v710 c256_i32_725
  let v717 : Index := Scalar.indexCast v716
  let c0_726 : Index := 0#32
  ![v717.toNat, 0]

def k0_chk16 (v710 : BitVec 32) : Prop :=
  (∀ a, (k0_off30 v710) a + S256x128.size a ≤ S8192x128.size a)
theorem k0_off30_inb : ∀ (v710 : BitVec 32) (k0_hw16 : k0_chk16 v710), ∀ a, (k0_off30 v710) a + S256x128.size a ≤ S8192x128.size a := fun v710 k0_hw16 => k0_hw16

def k0_off31 (v4 : BitVec 32) : Fin 1 → Nat :=
  let c7_i32_727 : BitVec 32 := 7#32
  let v719 : BitVec 32 := Scalar.addi v4 c7_i32_727
  let c32_i32_728 : BitVec 32 := 32#32
  let c0_i32_729 : BitVec 32 := 0#32
  let v720 : BitVec 1 := Scalar.cmpi .eq c32_i32_728 c0_i32_729
  let c1_i32_730 : BitVec 32 := 1#32
  let v721 : BitVec 32 := Scalar.select v720 c1_i32_730 c32_i32_728
  let v722 : BitVec 32 := Scalar.remsi v719 v721
  let c0_i32_732 : BitVec 32 := 0#32
  let v724 : BitVec 1 := Scalar.cmpi .slt v722 c0_i32_732
  let c0_i32_733 : BitVec 32 := 0#32
  let v725 : BitVec 1 := Scalar.cmpi .slt v721 c0_i32_733
  let v726 : BitVec 1 := Scalar.xori v724 v725
  let c0_i32_731 : BitVec 32 := 0#32
  let v723 : BitVec 1 := Scalar.cmpi .ne v722 c0_i32_731
  let v727 : BitVec 1 := Scalar.andi v726 v723
  let v728 : BitVec 32 := Scalar.addi v722 v721
  let v729 : BitVec 32 := Scalar.select v727 v728 v722
  let v730 : Index := Scalar.indexCast v729
  ![v730.toNat]
def k0_off32 (v731 : BitVec 32) : Fin 2 → Nat :=
  let c256_i32_740 : BitVec 32 := 256#32
  let v737 : BitVec 32 := Scalar.muli v731 c256_i32_740
  let v738 : Index := Scalar.indexCast v737
  let c0_741 : Index := 0#32
  ![v738.toNat, 0]

def k0_chk17 (v731 : BitVec 32) : Prop :=
  (∀ a, (k0_off32 v731) a + S256x128.size a ≤ S8192x128.size a)
theorem k0_off32_inb : ∀ (v731 : BitVec 32) (k0_hw17 : k0_chk17 v731), ∀ a, (k0_off32 v731) a + S256x128.size a ≤ S8192x128.size a := fun v731 k0_hw17 => k0_hw17

def k0_dev33 (v31 : BitVec 32) : Nat :=
  let c0_i32_762 : BitVec 32 := 0#32
  let c1_i32_761 : BitVec 32 := 1#32
  let v752 : BitVec 32 := Scalar.muli v31 c1_i32_761
  let v753 : BitVec 32 := Scalar.addi c0_i32_762 v752
  v753.toNat
def k0_dev34 (v17 : BitVec 32) : Nat :=
  let c0_i32_765 : BitVec 32 := 0#32
  let c1_i32_764 : BitVec 32 := 1#32
  let v754 : BitVec 32 := Scalar.muli v17 c1_i32_764
  let v755 : BitVec 32 := Scalar.addi c0_i32_765 v754
  v755.toNat
def k0_dev35 (v17 : BitVec 32) : Nat :=
  let c0_i32_795 : BitVec 32 := 0#32
  let c1_i32_794 : BitVec 32 := 1#32
  let v772 : BitVec 32 := Scalar.muli v17 c1_i32_794
  let v773 : BitVec 32 := Scalar.addi c0_i32_795 v772
  v773.toNat
def k0_dev36 (v31 : BitVec 32) : Nat :=
  let c0_i32_805 : BitVec 32 := 0#32
  let c1_i32_804 : BitVec 32 := 1#32
  let v782 : BitVec 32 := Scalar.muli v31 c1_i32_804
  let v783 : BitVec 32 := Scalar.addi c0_i32_805 v782
  v783.toNat
def k0_off33 (v4 : BitVec 32) : Fin 1 → Nat :=
  let c32_i32_810 : BitVec 32 := 32#32
  let v792 : BitVec 32 := Scalar.addi v4 c32_i32_810
  let c8_i32 : BitVec 32 := 8#32
  let v793 : BitVec 32 := Scalar.subi v792 c8_i32
  let c32_i32_811 : BitVec 32 := 32#32
  let c0_i32_812 : BitVec 32 := 0#32
  let v794 : BitVec 1 := Scalar.cmpi .eq c32_i32_811 c0_i32_812
  let c1_i32_813 : BitVec 32 := 1#32
  let v795 : BitVec 32 := Scalar.select v794 c1_i32_813 c32_i32_811
  let v796 : BitVec 32 := Scalar.remsi v793 v795
  let c0_i32_815 : BitVec 32 := 0#32
  let v798 : BitVec 1 := Scalar.cmpi .slt v796 c0_i32_815
  let c0_i32_816 : BitVec 32 := 0#32
  let v799 : BitVec 1 := Scalar.cmpi .slt v795 c0_i32_816
  let v800 : BitVec 1 := Scalar.xori v798 v799
  let c0_i32_814 : BitVec 32 := 0#32
  let v797 : BitVec 1 := Scalar.cmpi .ne v796 c0_i32_814
  let v801 : BitVec 1 := Scalar.andi v800 v797
  let v802 : BitVec 32 := Scalar.addi v796 v795
  let v803 : BitVec 32 := Scalar.select v801 v802 v796
  let v804 : Index := Scalar.indexCast v803
  ![v804.toNat]
def k0_off34 (v805 : BitVec 32) : Fin 2 → Nat :=
  let c256_i32_823 : BitVec 32 := 256#32
  let v811 : BitVec 32 := Scalar.muli v805 c256_i32_823
  let v812 : Index := Scalar.indexCast v811
  let c0_824 : Index := 0#32
  ![v812.toNat, 0]

def k0_chk18 (v805 : BitVec 32) : Prop :=
  (∀ a, (k0_off34 v805) a + S256x128.size a ≤ S8192x128.size a)
theorem k0_off34_inb : ∀ (v805 : BitVec 32) (k0_hw18 : k0_chk18 v805), ∀ a, (k0_off34 v805) a + S256x128.size a ≤ S8192x128.size a := fun v805 k0_hw18 => k0_hw18

def k0_off35 (v4 : BitVec 32) : Fin 1 → Nat :=
  let c8_i32_825 : BitVec 32 := 8#32
  let v814 : BitVec 32 := Scalar.addi v4 c8_i32_825
  let c32_i32_826 : BitVec 32 := 32#32
  let c0_i32_827 : BitVec 32 := 0#32
  let v815 : BitVec 1 := Scalar.cmpi .eq c32_i32_826 c0_i32_827
  let c1_i32_828 : BitVec 32 := 1#32
  let v816 : BitVec 32 := Scalar.select v815 c1_i32_828 c32_i32_826
  let v817 : BitVec 32 := Scalar.remsi v814 v816
  let c0_i32_830 : BitVec 32 := 0#32
  let v819 : BitVec 1 := Scalar.cmpi .slt v817 c0_i32_830
  let c0_i32_831 : BitVec 32 := 0#32
  let v820 : BitVec 1 := Scalar.cmpi .slt v816 c0_i32_831
  let v821 : BitVec 1 := Scalar.xori v819 v820
  let c0_i32_829 : BitVec 32 := 0#32
  let v818 : BitVec 1 := Scalar.cmpi .ne v817 c0_i32_829
  let v822 : BitVec 1 := Scalar.andi v821 v818
  let v823 : BitVec 32 := Scalar.addi v817 v816
  let v824 : BitVec 32 := Scalar.select v822 v823 v817
  let v825 : Index := Scalar.indexCast v824
  ![v825.toNat]
def k0_off36 (v826 : BitVec 32) : Fin 2 → Nat :=
  let c256_i32_838 : BitVec 32 := 256#32
  let v832 : BitVec 32 := Scalar.muli v826 c256_i32_838
  let v833 : Index := Scalar.indexCast v832
  let c0_839 : Index := 0#32
  ![v833.toNat, 0]

def k0_chk19 (v826 : BitVec 32) : Prop :=
  (∀ a, (k0_off36 v826) a + S256x128.size a ≤ S8192x128.size a)
theorem k0_off36_inb : ∀ (v826 : BitVec 32) (k0_hw19 : k0_chk19 v826), ∀ a, (k0_off36 v826) a + S256x128.size a ≤ S8192x128.size a := fun v826 k0_hw19 => k0_hw19

def k0_dev37 (v31 : BitVec 32) : Nat :=
  let c0_i32_860 : BitVec 32 := 0#32
  let c1_i32_859 : BitVec 32 := 1#32
  let v847 : BitVec 32 := Scalar.muli v31 c1_i32_859
  let v848 : BitVec 32 := Scalar.addi c0_i32_860 v847
  v848.toNat
def k0_dev38 (v17 : BitVec 32) : Nat :=
  let c0_i32_863 : BitVec 32 := 0#32
  let c1_i32_862 : BitVec 32 := 1#32
  let v849 : BitVec 32 := Scalar.muli v17 c1_i32_862
  let v850 : BitVec 32 := Scalar.addi c0_i32_863 v849
  v850.toNat
def k0_dev39 (v17 : BitVec 32) : Nat :=
  let c0_i32_893 : BitVec 32 := 0#32
  let c1_i32_892 : BitVec 32 := 1#32
  let v867 : BitVec 32 := Scalar.muli v17 c1_i32_892
  let v868 : BitVec 32 := Scalar.addi c0_i32_893 v867
  v868.toNat
def k0_dev40 (v31 : BitVec 32) : Nat :=
  let c0_i32_903 : BitVec 32 := 0#32
  let c1_i32_902 : BitVec 32 := 1#32
  let v877 : BitVec 32 := Scalar.muli v31 c1_i32_902
  let v878 : BitVec 32 := Scalar.addi c0_i32_903 v877
  v878.toNat
def k0_off37 (v4 : BitVec 32) : Fin 1 → Nat :=
  let c32_i32_908 : BitVec 32 := 32#32
  let v887 : BitVec 32 := Scalar.addi v4 c32_i32_908
  let c9_i32 : BitVec 32 := 9#32
  let v888 : BitVec 32 := Scalar.subi v887 c9_i32
  let c32_i32_909 : BitVec 32 := 32#32
  let c0_i32_910 : BitVec 32 := 0#32
  let v889 : BitVec 1 := Scalar.cmpi .eq c32_i32_909 c0_i32_910
  let c1_i32_911 : BitVec 32 := 1#32
  let v890 : BitVec 32 := Scalar.select v889 c1_i32_911 c32_i32_909
  let v891 : BitVec 32 := Scalar.remsi v888 v890
  let c0_i32_913 : BitVec 32 := 0#32
  let v893 : BitVec 1 := Scalar.cmpi .slt v891 c0_i32_913
  let c0_i32_914 : BitVec 32 := 0#32
  let v894 : BitVec 1 := Scalar.cmpi .slt v890 c0_i32_914
  let v895 : BitVec 1 := Scalar.xori v893 v894
  let c0_i32_912 : BitVec 32 := 0#32
  let v892 : BitVec 1 := Scalar.cmpi .ne v891 c0_i32_912
  let v896 : BitVec 1 := Scalar.andi v895 v892
  let v897 : BitVec 32 := Scalar.addi v891 v890
  let v898 : BitVec 32 := Scalar.select v896 v897 v891
  let v899 : Index := Scalar.indexCast v898
  ![v899.toNat]
def k0_off38 (v900 : BitVec 32) : Fin 2 → Nat :=
  let c256_i32_921 : BitVec 32 := 256#32
  let v906 : BitVec 32 := Scalar.muli v900 c256_i32_921
  let v907 : Index := Scalar.indexCast v906
  let c0_922 : Index := 0#32
  ![v907.toNat, 0]

def k0_chk20 (v900 : BitVec 32) : Prop :=
  (∀ a, (k0_off38 v900) a + S256x128.size a ≤ S8192x128.size a)
theorem k0_off38_inb : ∀ (v900 : BitVec 32) (k0_hw20 : k0_chk20 v900), ∀ a, (k0_off38 v900) a + S256x128.size a ≤ S8192x128.size a := fun v900 k0_hw20 => k0_hw20

def k0_off39 (v4 : BitVec 32) : Fin 1 → Nat :=
  let c9_i32_923 : BitVec 32 := 9#32
  let v909 : BitVec 32 := Scalar.addi v4 c9_i32_923
  let c32_i32_924 : BitVec 32 := 32#32
  let c0_i32_925 : BitVec 32 := 0#32
  let v910 : BitVec 1 := Scalar.cmpi .eq c32_i32_924 c0_i32_925
  let c1_i32_926 : BitVec 32 := 1#32
  let v911 : BitVec 32 := Scalar.select v910 c1_i32_926 c32_i32_924
  let v912 : BitVec 32 := Scalar.remsi v909 v911
  let c0_i32_928 : BitVec 32 := 0#32
  let v914 : BitVec 1 := Scalar.cmpi .slt v912 c0_i32_928
  let c0_i32_929 : BitVec 32 := 0#32
  let v915 : BitVec 1 := Scalar.cmpi .slt v911 c0_i32_929
  let v916 : BitVec 1 := Scalar.xori v914 v915
  let c0_i32_927 : BitVec 32 := 0#32
  let v913 : BitVec 1 := Scalar.cmpi .ne v912 c0_i32_927
  let v917 : BitVec 1 := Scalar.andi v916 v913
  let v918 : BitVec 32 := Scalar.addi v912 v911
  let v919 : BitVec 32 := Scalar.select v917 v918 v912
  let v920 : Index := Scalar.indexCast v919
  ![v920.toNat]
def k0_off40 (v921 : BitVec 32) : Fin 2 → Nat :=
  let c256_i32_936 : BitVec 32 := 256#32
  let v927 : BitVec 32 := Scalar.muli v921 c256_i32_936
  let v928 : Index := Scalar.indexCast v927
  let c0_937 : Index := 0#32
  ![v928.toNat, 0]

def k0_chk21 (v921 : BitVec 32) : Prop :=
  (∀ a, (k0_off40 v921) a + S256x128.size a ≤ S8192x128.size a)
theorem k0_off40_inb : ∀ (v921 : BitVec 32) (k0_hw21 : k0_chk21 v921), ∀ a, (k0_off40 v921) a + S256x128.size a ≤ S8192x128.size a := fun v921 k0_hw21 => k0_hw21

def k0_dev41 (v31 : BitVec 32) : Nat :=
  let c0_i32_958 : BitVec 32 := 0#32
  let c1_i32_957 : BitVec 32 := 1#32
  let v942 : BitVec 32 := Scalar.muli v31 c1_i32_957
  let v943 : BitVec 32 := Scalar.addi c0_i32_958 v942
  v943.toNat
def k0_dev42 (v17 : BitVec 32) : Nat :=
  let c0_i32_961 : BitVec 32 := 0#32
  let c1_i32_960 : BitVec 32 := 1#32
  let v944 : BitVec 32 := Scalar.muli v17 c1_i32_960
  let v945 : BitVec 32 := Scalar.addi c0_i32_961 v944
  v945.toNat
def k0_dev43 (v17 : BitVec 32) : Nat :=
  let c0_i32_991 : BitVec 32 := 0#32
  let c1_i32_990 : BitVec 32 := 1#32
  let v962 : BitVec 32 := Scalar.muli v17 c1_i32_990
  let v963 : BitVec 32 := Scalar.addi c0_i32_991 v962
  v963.toNat
def k0_dev44 (v31 : BitVec 32) : Nat :=
  let c0_i32_1001 : BitVec 32 := 0#32
  let c1_i32_1000 : BitVec 32 := 1#32
  let v972 : BitVec 32 := Scalar.muli v31 c1_i32_1000
  let v973 : BitVec 32 := Scalar.addi c0_i32_1001 v972
  v973.toNat
def k0_off41 (v4 : BitVec 32) : Fin 1 → Nat :=
  let c32_i32_1006 : BitVec 32 := 32#32
  let v982 : BitVec 32 := Scalar.addi v4 c32_i32_1006
  let c10_i32 : BitVec 32 := 10#32
  let v983 : BitVec 32 := Scalar.subi v982 c10_i32
  let c32_i32_1007 : BitVec 32 := 32#32
  let c0_i32_1008 : BitVec 32 := 0#32
  let v984 : BitVec 1 := Scalar.cmpi .eq c32_i32_1007 c0_i32_1008
  let c1_i32_1009 : BitVec 32 := 1#32
  let v985 : BitVec 32 := Scalar.select v984 c1_i32_1009 c32_i32_1007
  let v986 : BitVec 32 := Scalar.remsi v983 v985
  let c0_i32_1011 : BitVec 32 := 0#32
  let v988 : BitVec 1 := Scalar.cmpi .slt v986 c0_i32_1011
  let c0_i32_1012 : BitVec 32 := 0#32
  let v989 : BitVec 1 := Scalar.cmpi .slt v985 c0_i32_1012
  let v990 : BitVec 1 := Scalar.xori v988 v989
  let c0_i32_1010 : BitVec 32 := 0#32
  let v987 : BitVec 1 := Scalar.cmpi .ne v986 c0_i32_1010
  let v991 : BitVec 1 := Scalar.andi v990 v987
  let v992 : BitVec 32 := Scalar.addi v986 v985
  let v993 : BitVec 32 := Scalar.select v991 v992 v986
  let v994 : Index := Scalar.indexCast v993
  ![v994.toNat]
def k0_off42 (v995 : BitVec 32) : Fin 2 → Nat :=
  let c256_i32_1019 : BitVec 32 := 256#32
  let v1001 : BitVec 32 := Scalar.muli v995 c256_i32_1019
  let v1002 : Index := Scalar.indexCast v1001
  let c0_1020 : Index := 0#32
  ![v1002.toNat, 0]

def k0_chk22 (v995 : BitVec 32) : Prop :=
  (∀ a, (k0_off42 v995) a + S256x128.size a ≤ S8192x128.size a)
theorem k0_off42_inb : ∀ (v995 : BitVec 32) (k0_hw22 : k0_chk22 v995), ∀ a, (k0_off42 v995) a + S256x128.size a ≤ S8192x128.size a := fun v995 k0_hw22 => k0_hw22

def k0_off43 (v4 : BitVec 32) : Fin 1 → Nat :=
  let c10_i32_1021 : BitVec 32 := 10#32
  let v1004 : BitVec 32 := Scalar.addi v4 c10_i32_1021
  let c32_i32_1022 : BitVec 32 := 32#32
  let c0_i32_1023 : BitVec 32 := 0#32
  let v1005 : BitVec 1 := Scalar.cmpi .eq c32_i32_1022 c0_i32_1023
  let c1_i32_1024 : BitVec 32 := 1#32
  let v1006 : BitVec 32 := Scalar.select v1005 c1_i32_1024 c32_i32_1022
  let v1007 : BitVec 32 := Scalar.remsi v1004 v1006
  let c0_i32_1026 : BitVec 32 := 0#32
  let v1009 : BitVec 1 := Scalar.cmpi .slt v1007 c0_i32_1026
  let c0_i32_1027 : BitVec 32 := 0#32
  let v1010 : BitVec 1 := Scalar.cmpi .slt v1006 c0_i32_1027
  let v1011 : BitVec 1 := Scalar.xori v1009 v1010
  let c0_i32_1025 : BitVec 32 := 0#32
  let v1008 : BitVec 1 := Scalar.cmpi .ne v1007 c0_i32_1025
  let v1012 : BitVec 1 := Scalar.andi v1011 v1008
  let v1013 : BitVec 32 := Scalar.addi v1007 v1006
  let v1014 : BitVec 32 := Scalar.select v1012 v1013 v1007
  let v1015 : Index := Scalar.indexCast v1014
  ![v1015.toNat]
def k0_off44 (v1016 : BitVec 32) : Fin 2 → Nat :=
  let c256_i32_1034 : BitVec 32 := 256#32
  let v1022 : BitVec 32 := Scalar.muli v1016 c256_i32_1034
  let v1023 : Index := Scalar.indexCast v1022
  let c0_1035 : Index := 0#32
  ![v1023.toNat, 0]

def k0_chk23 (v1016 : BitVec 32) : Prop :=
  (∀ a, (k0_off44 v1016) a + S256x128.size a ≤ S8192x128.size a)
theorem k0_off44_inb : ∀ (v1016 : BitVec 32) (k0_hw23 : k0_chk23 v1016), ∀ a, (k0_off44 v1016) a + S256x128.size a ≤ S8192x128.size a := fun v1016 k0_hw23 => k0_hw23

def k0_dev45 (v31 : BitVec 32) : Nat :=
  let c0_i32_1056 : BitVec 32 := 0#32
  let c1_i32_1055 : BitVec 32 := 1#32
  let v1037 : BitVec 32 := Scalar.muli v31 c1_i32_1055
  let v1038 : BitVec 32 := Scalar.addi c0_i32_1056 v1037
  v1038.toNat
def k0_dev46 (v17 : BitVec 32) : Nat :=
  let c0_i32_1059 : BitVec 32 := 0#32
  let c1_i32_1058 : BitVec 32 := 1#32
  let v1039 : BitVec 32 := Scalar.muli v17 c1_i32_1058
  let v1040 : BitVec 32 := Scalar.addi c0_i32_1059 v1039
  v1040.toNat
def k0_dev47 (v17 : BitVec 32) : Nat :=
  let c0_i32_1089 : BitVec 32 := 0#32
  let c1_i32_1088 : BitVec 32 := 1#32
  let v1057 : BitVec 32 := Scalar.muli v17 c1_i32_1088
  let v1058 : BitVec 32 := Scalar.addi c0_i32_1089 v1057
  v1058.toNat
def k0_dev48 (v31 : BitVec 32) : Nat :=
  let c0_i32_1099 : BitVec 32 := 0#32
  let c1_i32_1098 : BitVec 32 := 1#32
  let v1067 : BitVec 32 := Scalar.muli v31 c1_i32_1098
  let v1068 : BitVec 32 := Scalar.addi c0_i32_1099 v1067
  v1068.toNat
def k0_off45 (v4 : BitVec 32) : Fin 1 → Nat :=
  let c32_i32_1104 : BitVec 32 := 32#32
  let v1077 : BitVec 32 := Scalar.addi v4 c32_i32_1104
  let c11_i32 : BitVec 32 := 11#32
  let v1078 : BitVec 32 := Scalar.subi v1077 c11_i32
  let c32_i32_1105 : BitVec 32 := 32#32
  let c0_i32_1106 : BitVec 32 := 0#32
  let v1079 : BitVec 1 := Scalar.cmpi .eq c32_i32_1105 c0_i32_1106
  let c1_i32_1107 : BitVec 32 := 1#32
  let v1080 : BitVec 32 := Scalar.select v1079 c1_i32_1107 c32_i32_1105
  let v1081 : BitVec 32 := Scalar.remsi v1078 v1080
  let c0_i32_1109 : BitVec 32 := 0#32
  let v1083 : BitVec 1 := Scalar.cmpi .slt v1081 c0_i32_1109
  let c0_i32_1110 : BitVec 32 := 0#32
  let v1084 : BitVec 1 := Scalar.cmpi .slt v1080 c0_i32_1110
  let v1085 : BitVec 1 := Scalar.xori v1083 v1084
  let c0_i32_1108 : BitVec 32 := 0#32
  let v1082 : BitVec 1 := Scalar.cmpi .ne v1081 c0_i32_1108
  let v1086 : BitVec 1 := Scalar.andi v1085 v1082
  let v1087 : BitVec 32 := Scalar.addi v1081 v1080
  let v1088 : BitVec 32 := Scalar.select v1086 v1087 v1081
  let v1089 : Index := Scalar.indexCast v1088
  ![v1089.toNat]
def k0_off46 (v1090 : BitVec 32) : Fin 2 → Nat :=
  let c256_i32_1117 : BitVec 32 := 256#32
  let v1096 : BitVec 32 := Scalar.muli v1090 c256_i32_1117
  let v1097 : Index := Scalar.indexCast v1096
  let c0_1118 : Index := 0#32
  ![v1097.toNat, 0]

def k0_chk24 (v1090 : BitVec 32) : Prop :=
  (∀ a, (k0_off46 v1090) a + S256x128.size a ≤ S8192x128.size a)
theorem k0_off46_inb : ∀ (v1090 : BitVec 32) (k0_hw24 : k0_chk24 v1090), ∀ a, (k0_off46 v1090) a + S256x128.size a ≤ S8192x128.size a := fun v1090 k0_hw24 => k0_hw24

def k0_off47 (v4 : BitVec 32) : Fin 1 → Nat :=
  let c11_i32_1119 : BitVec 32 := 11#32
  let v1099 : BitVec 32 := Scalar.addi v4 c11_i32_1119
  let c32_i32_1120 : BitVec 32 := 32#32
  let c0_i32_1121 : BitVec 32 := 0#32
  let v1100 : BitVec 1 := Scalar.cmpi .eq c32_i32_1120 c0_i32_1121
  let c1_i32_1122 : BitVec 32 := 1#32
  let v1101 : BitVec 32 := Scalar.select v1100 c1_i32_1122 c32_i32_1120
  let v1102 : BitVec 32 := Scalar.remsi v1099 v1101
  let c0_i32_1124 : BitVec 32 := 0#32
  let v1104 : BitVec 1 := Scalar.cmpi .slt v1102 c0_i32_1124
  let c0_i32_1125 : BitVec 32 := 0#32
  let v1105 : BitVec 1 := Scalar.cmpi .slt v1101 c0_i32_1125
  let v1106 : BitVec 1 := Scalar.xori v1104 v1105
  let c0_i32_1123 : BitVec 32 := 0#32
  let v1103 : BitVec 1 := Scalar.cmpi .ne v1102 c0_i32_1123
  let v1107 : BitVec 1 := Scalar.andi v1106 v1103
  let v1108 : BitVec 32 := Scalar.addi v1102 v1101
  let v1109 : BitVec 32 := Scalar.select v1107 v1108 v1102
  let v1110 : Index := Scalar.indexCast v1109
  ![v1110.toNat]
def k0_off48 (v1111 : BitVec 32) : Fin 2 → Nat :=
  let c256_i32_1132 : BitVec 32 := 256#32
  let v1117 : BitVec 32 := Scalar.muli v1111 c256_i32_1132
  let v1118 : Index := Scalar.indexCast v1117
  let c0_1133 : Index := 0#32
  ![v1118.toNat, 0]

def k0_chk25 (v1111 : BitVec 32) : Prop :=
  (∀ a, (k0_off48 v1111) a + S256x128.size a ≤ S8192x128.size a)
theorem k0_off48_inb : ∀ (v1111 : BitVec 32) (k0_hw25 : k0_chk25 v1111), ∀ a, (k0_off48 v1111) a + S256x128.size a ≤ S8192x128.size a := fun v1111 k0_hw25 => k0_hw25

def k0_dev49 (v31 : BitVec 32) : Nat :=
  let c0_i32_1154 : BitVec 32 := 0#32
  let c1_i32_1153 : BitVec 32 := 1#32
  let v1132 : BitVec 32 := Scalar.muli v31 c1_i32_1153
  let v1133 : BitVec 32 := Scalar.addi c0_i32_1154 v1132
  v1133.toNat
def k0_dev50 (v17 : BitVec 32) : Nat :=
  let c0_i32_1157 : BitVec 32 := 0#32
  let c1_i32_1156 : BitVec 32 := 1#32
  let v1134 : BitVec 32 := Scalar.muli v17 c1_i32_1156
  let v1135 : BitVec 32 := Scalar.addi c0_i32_1157 v1134
  v1135.toNat
def k0_dev51 (v17 : BitVec 32) : Nat :=
  let c0_i32_1187 : BitVec 32 := 0#32
  let c1_i32_1186 : BitVec 32 := 1#32
  let v1152 : BitVec 32 := Scalar.muli v17 c1_i32_1186
  let v1153 : BitVec 32 := Scalar.addi c0_i32_1187 v1152
  v1153.toNat
def k0_dev52 (v31 : BitVec 32) : Nat :=
  let c0_i32_1197 : BitVec 32 := 0#32
  let c1_i32_1196 : BitVec 32 := 1#32
  let v1162 : BitVec 32 := Scalar.muli v31 c1_i32_1196
  let v1163 : BitVec 32 := Scalar.addi c0_i32_1197 v1162
  v1163.toNat
def k0_off49 (v4 : BitVec 32) : Fin 1 → Nat :=
  let c32_i32_1202 : BitVec 32 := 32#32
  let v1172 : BitVec 32 := Scalar.addi v4 c32_i32_1202
  let c12_i32 : BitVec 32 := 12#32
  let v1173 : BitVec 32 := Scalar.subi v1172 c12_i32
  let c32_i32_1203 : BitVec 32 := 32#32
  let c0_i32_1204 : BitVec 32 := 0#32
  let v1174 : BitVec 1 := Scalar.cmpi .eq c32_i32_1203 c0_i32_1204
  let c1_i32_1205 : BitVec 32 := 1#32
  let v1175 : BitVec 32 := Scalar.select v1174 c1_i32_1205 c32_i32_1203
  let v1176 : BitVec 32 := Scalar.remsi v1173 v1175
  let c0_i32_1207 : BitVec 32 := 0#32
  let v1178 : BitVec 1 := Scalar.cmpi .slt v1176 c0_i32_1207
  let c0_i32_1208 : BitVec 32 := 0#32
  let v1179 : BitVec 1 := Scalar.cmpi .slt v1175 c0_i32_1208
  let v1180 : BitVec 1 := Scalar.xori v1178 v1179
  let c0_i32_1206 : BitVec 32 := 0#32
  let v1177 : BitVec 1 := Scalar.cmpi .ne v1176 c0_i32_1206
  let v1181 : BitVec 1 := Scalar.andi v1180 v1177
  let v1182 : BitVec 32 := Scalar.addi v1176 v1175
  let v1183 : BitVec 32 := Scalar.select v1181 v1182 v1176
  let v1184 : Index := Scalar.indexCast v1183
  ![v1184.toNat]
def k0_off50 (v1185 : BitVec 32) : Fin 2 → Nat :=
  let c256_i32_1215 : BitVec 32 := 256#32
  let v1191 : BitVec 32 := Scalar.muli v1185 c256_i32_1215
  let v1192 : Index := Scalar.indexCast v1191
  let c0_1216 : Index := 0#32
  ![v1192.toNat, 0]

def k0_chk26 (v1185 : BitVec 32) : Prop :=
  (∀ a, (k0_off50 v1185) a + S256x128.size a ≤ S8192x128.size a)
theorem k0_off50_inb : ∀ (v1185 : BitVec 32) (k0_hw26 : k0_chk26 v1185), ∀ a, (k0_off50 v1185) a + S256x128.size a ≤ S8192x128.size a := fun v1185 k0_hw26 => k0_hw26

def k0_off51 (v4 : BitVec 32) : Fin 1 → Nat :=
  let c12_i32_1217 : BitVec 32 := 12#32
  let v1194 : BitVec 32 := Scalar.addi v4 c12_i32_1217
  let c32_i32_1218 : BitVec 32 := 32#32
  let c0_i32_1219 : BitVec 32 := 0#32
  let v1195 : BitVec 1 := Scalar.cmpi .eq c32_i32_1218 c0_i32_1219
  let c1_i32_1220 : BitVec 32 := 1#32
  let v1196 : BitVec 32 := Scalar.select v1195 c1_i32_1220 c32_i32_1218
  let v1197 : BitVec 32 := Scalar.remsi v1194 v1196
  let c0_i32_1222 : BitVec 32 := 0#32
  let v1199 : BitVec 1 := Scalar.cmpi .slt v1197 c0_i32_1222
  let c0_i32_1223 : BitVec 32 := 0#32
  let v1200 : BitVec 1 := Scalar.cmpi .slt v1196 c0_i32_1223
  let v1201 : BitVec 1 := Scalar.xori v1199 v1200
  let c0_i32_1221 : BitVec 32 := 0#32
  let v1198 : BitVec 1 := Scalar.cmpi .ne v1197 c0_i32_1221
  let v1202 : BitVec 1 := Scalar.andi v1201 v1198
  let v1203 : BitVec 32 := Scalar.addi v1197 v1196
  let v1204 : BitVec 32 := Scalar.select v1202 v1203 v1197
  let v1205 : Index := Scalar.indexCast v1204
  ![v1205.toNat]
def k0_off52 (v1206 : BitVec 32) : Fin 2 → Nat :=
  let c256_i32_1230 : BitVec 32 := 256#32
  let v1212 : BitVec 32 := Scalar.muli v1206 c256_i32_1230
  let v1213 : Index := Scalar.indexCast v1212
  let c0_1231 : Index := 0#32
  ![v1213.toNat, 0]

def k0_chk27 (v1206 : BitVec 32) : Prop :=
  (∀ a, (k0_off52 v1206) a + S256x128.size a ≤ S8192x128.size a)
theorem k0_off52_inb : ∀ (v1206 : BitVec 32) (k0_hw27 : k0_chk27 v1206), ∀ a, (k0_off52 v1206) a + S256x128.size a ≤ S8192x128.size a := fun v1206 k0_hw27 => k0_hw27

def k0_dev53 (v31 : BitVec 32) : Nat :=
  let c0_i32_1252 : BitVec 32 := 0#32
  let c1_i32_1251 : BitVec 32 := 1#32
  let v1227 : BitVec 32 := Scalar.muli v31 c1_i32_1251
  let v1228 : BitVec 32 := Scalar.addi c0_i32_1252 v1227
  v1228.toNat
def k0_dev54 (v17 : BitVec 32) : Nat :=
  let c0_i32_1255 : BitVec 32 := 0#32
  let c1_i32_1254 : BitVec 32 := 1#32
  let v1229 : BitVec 32 := Scalar.muli v17 c1_i32_1254
  let v1230 : BitVec 32 := Scalar.addi c0_i32_1255 v1229
  v1230.toNat
def k0_dev55 (v17 : BitVec 32) : Nat :=
  let c0_i32_1285 : BitVec 32 := 0#32
  let c1_i32_1284 : BitVec 32 := 1#32
  let v1247 : BitVec 32 := Scalar.muli v17 c1_i32_1284
  let v1248 : BitVec 32 := Scalar.addi c0_i32_1285 v1247
  v1248.toNat
def k0_dev56 (v31 : BitVec 32) : Nat :=
  let c0_i32_1295 : BitVec 32 := 0#32
  let c1_i32_1294 : BitVec 32 := 1#32
  let v1257 : BitVec 32 := Scalar.muli v31 c1_i32_1294
  let v1258 : BitVec 32 := Scalar.addi c0_i32_1295 v1257
  v1258.toNat
def k0_off53 (v4 : BitVec 32) : Fin 1 → Nat :=
  let c32_i32_1300 : BitVec 32 := 32#32
  let v1267 : BitVec 32 := Scalar.addi v4 c32_i32_1300
  let c13_i32 : BitVec 32 := 13#32
  let v1268 : BitVec 32 := Scalar.subi v1267 c13_i32
  let c32_i32_1301 : BitVec 32 := 32#32
  let c0_i32_1302 : BitVec 32 := 0#32
  let v1269 : BitVec 1 := Scalar.cmpi .eq c32_i32_1301 c0_i32_1302
  let c1_i32_1303 : BitVec 32 := 1#32
  let v1270 : BitVec 32 := Scalar.select v1269 c1_i32_1303 c32_i32_1301
  let v1271 : BitVec 32 := Scalar.remsi v1268 v1270
  let c0_i32_1305 : BitVec 32 := 0#32
  let v1273 : BitVec 1 := Scalar.cmpi .slt v1271 c0_i32_1305
  let c0_i32_1306 : BitVec 32 := 0#32
  let v1274 : BitVec 1 := Scalar.cmpi .slt v1270 c0_i32_1306
  let v1275 : BitVec 1 := Scalar.xori v1273 v1274
  let c0_i32_1304 : BitVec 32 := 0#32
  let v1272 : BitVec 1 := Scalar.cmpi .ne v1271 c0_i32_1304
  let v1276 : BitVec 1 := Scalar.andi v1275 v1272
  let v1277 : BitVec 32 := Scalar.addi v1271 v1270
  let v1278 : BitVec 32 := Scalar.select v1276 v1277 v1271
  let v1279 : Index := Scalar.indexCast v1278
  ![v1279.toNat]
def k0_off54 (v1280 : BitVec 32) : Fin 2 → Nat :=
  let c256_i32_1313 : BitVec 32 := 256#32
  let v1286 : BitVec 32 := Scalar.muli v1280 c256_i32_1313
  let v1287 : Index := Scalar.indexCast v1286
  let c0_1314 : Index := 0#32
  ![v1287.toNat, 0]

def k0_chk28 (v1280 : BitVec 32) : Prop :=
  (∀ a, (k0_off54 v1280) a + S256x128.size a ≤ S8192x128.size a)
theorem k0_off54_inb : ∀ (v1280 : BitVec 32) (k0_hw28 : k0_chk28 v1280), ∀ a, (k0_off54 v1280) a + S256x128.size a ≤ S8192x128.size a := fun v1280 k0_hw28 => k0_hw28

def k0_off55 (v4 : BitVec 32) : Fin 1 → Nat :=
  let c13_i32_1315 : BitVec 32 := 13#32
  let v1289 : BitVec 32 := Scalar.addi v4 c13_i32_1315
  let c32_i32_1316 : BitVec 32 := 32#32
  let c0_i32_1317 : BitVec 32 := 0#32
  let v1290 : BitVec 1 := Scalar.cmpi .eq c32_i32_1316 c0_i32_1317
  let c1_i32_1318 : BitVec 32 := 1#32
  let v1291 : BitVec 32 := Scalar.select v1290 c1_i32_1318 c32_i32_1316
  let v1292 : BitVec 32 := Scalar.remsi v1289 v1291
  let c0_i32_1320 : BitVec 32 := 0#32
  let v1294 : BitVec 1 := Scalar.cmpi .slt v1292 c0_i32_1320
  let c0_i32_1321 : BitVec 32 := 0#32
  let v1295 : BitVec 1 := Scalar.cmpi .slt v1291 c0_i32_1321
  let v1296 : BitVec 1 := Scalar.xori v1294 v1295
  let c0_i32_1319 : BitVec 32 := 0#32
  let v1293 : BitVec 1 := Scalar.cmpi .ne v1292 c0_i32_1319
  let v1297 : BitVec 1 := Scalar.andi v1296 v1293
  let v1298 : BitVec 32 := Scalar.addi v1292 v1291
  let v1299 : BitVec 32 := Scalar.select v1297 v1298 v1292
  let v1300 : Index := Scalar.indexCast v1299
  ![v1300.toNat]
def k0_off56 (v1301 : BitVec 32) : Fin 2 → Nat :=
  let c256_i32_1328 : BitVec 32 := 256#32
  let v1307 : BitVec 32 := Scalar.muli v1301 c256_i32_1328
  let v1308 : Index := Scalar.indexCast v1307
  let c0_1329 : Index := 0#32
  ![v1308.toNat, 0]

def k0_chk29 (v1301 : BitVec 32) : Prop :=
  (∀ a, (k0_off56 v1301) a + S256x128.size a ≤ S8192x128.size a)
theorem k0_off56_inb : ∀ (v1301 : BitVec 32) (k0_hw29 : k0_chk29 v1301), ∀ a, (k0_off56 v1301) a + S256x128.size a ≤ S8192x128.size a := fun v1301 k0_hw29 => k0_hw29

def k0_dev57 (v31 : BitVec 32) : Nat :=
  let c0_i32_1350 : BitVec 32 := 0#32
  let c1_i32_1349 : BitVec 32 := 1#32
  let v1322 : BitVec 32 := Scalar.muli v31 c1_i32_1349
  let v1323 : BitVec 32 := Scalar.addi c0_i32_1350 v1322
  v1323.toNat
def k0_dev58 (v17 : BitVec 32) : Nat :=
  let c0_i32_1353 : BitVec 32 := 0#32
  let c1_i32_1352 : BitVec 32 := 1#32
  let v1324 : BitVec 32 := Scalar.muli v17 c1_i32_1352
  let v1325 : BitVec 32 := Scalar.addi c0_i32_1353 v1324
  v1325.toNat
def k0_dev59 (v17 : BitVec 32) : Nat :=
  let c0_i32_1383 : BitVec 32 := 0#32
  let c1_i32_1382 : BitVec 32 := 1#32
  let v1342 : BitVec 32 := Scalar.muli v17 c1_i32_1382
  let v1343 : BitVec 32 := Scalar.addi c0_i32_1383 v1342
  v1343.toNat
def k0_dev60 (v31 : BitVec 32) : Nat :=
  let c0_i32_1393 : BitVec 32 := 0#32
  let c1_i32_1392 : BitVec 32 := 1#32
  let v1352 : BitVec 32 := Scalar.muli v31 c1_i32_1392
  let v1353 : BitVec 32 := Scalar.addi c0_i32_1393 v1352
  v1353.toNat
def k0_off57 (v4 : BitVec 32) : Fin 1 → Nat :=
  let c32_i32_1398 : BitVec 32 := 32#32
  let v1362 : BitVec 32 := Scalar.addi v4 c32_i32_1398
  let c14_i32 : BitVec 32 := 14#32
  let v1363 : BitVec 32 := Scalar.subi v1362 c14_i32
  let c32_i32_1399 : BitVec 32 := 32#32
  let c0_i32_1400 : BitVec 32 := 0#32
  let v1364 : BitVec 1 := Scalar.cmpi .eq c32_i32_1399 c0_i32_1400
  let c1_i32_1401 : BitVec 32 := 1#32
  let v1365 : BitVec 32 := Scalar.select v1364 c1_i32_1401 c32_i32_1399
  let v1366 : BitVec 32 := Scalar.remsi v1363 v1365
  let c0_i32_1403 : BitVec 32 := 0#32
  let v1368 : BitVec 1 := Scalar.cmpi .slt v1366 c0_i32_1403
  let c0_i32_1404 : BitVec 32 := 0#32
  let v1369 : BitVec 1 := Scalar.cmpi .slt v1365 c0_i32_1404
  let v1370 : BitVec 1 := Scalar.xori v1368 v1369
  let c0_i32_1402 : BitVec 32 := 0#32
  let v1367 : BitVec 1 := Scalar.cmpi .ne v1366 c0_i32_1402
  let v1371 : BitVec 1 := Scalar.andi v1370 v1367
  let v1372 : BitVec 32 := Scalar.addi v1366 v1365
  let v1373 : BitVec 32 := Scalar.select v1371 v1372 v1366
  let v1374 : Index := Scalar.indexCast v1373
  ![v1374.toNat]
def k0_off58 (v1375 : BitVec 32) : Fin 2 → Nat :=
  let c256_i32_1411 : BitVec 32 := 256#32
  let v1381 : BitVec 32 := Scalar.muli v1375 c256_i32_1411
  let v1382 : Index := Scalar.indexCast v1381
  let c0_1412 : Index := 0#32
  ![v1382.toNat, 0]

def k0_chk30 (v1375 : BitVec 32) : Prop :=
  (∀ a, (k0_off58 v1375) a + S256x128.size a ≤ S8192x128.size a)
theorem k0_off58_inb : ∀ (v1375 : BitVec 32) (k0_hw30 : k0_chk30 v1375), ∀ a, (k0_off58 v1375) a + S256x128.size a ≤ S8192x128.size a := fun v1375 k0_hw30 => k0_hw30

def k0_off59 (v4 : BitVec 32) : Fin 1 → Nat :=
  let c14_i32_1413 : BitVec 32 := 14#32
  let v1384 : BitVec 32 := Scalar.addi v4 c14_i32_1413
  let c32_i32_1414 : BitVec 32 := 32#32
  let c0_i32_1415 : BitVec 32 := 0#32
  let v1385 : BitVec 1 := Scalar.cmpi .eq c32_i32_1414 c0_i32_1415
  let c1_i32_1416 : BitVec 32 := 1#32
  let v1386 : BitVec 32 := Scalar.select v1385 c1_i32_1416 c32_i32_1414
  let v1387 : BitVec 32 := Scalar.remsi v1384 v1386
  let c0_i32_1418 : BitVec 32 := 0#32
  let v1389 : BitVec 1 := Scalar.cmpi .slt v1387 c0_i32_1418
  let c0_i32_1419 : BitVec 32 := 0#32
  let v1390 : BitVec 1 := Scalar.cmpi .slt v1386 c0_i32_1419
  let v1391 : BitVec 1 := Scalar.xori v1389 v1390
  let c0_i32_1417 : BitVec 32 := 0#32
  let v1388 : BitVec 1 := Scalar.cmpi .ne v1387 c0_i32_1417
  let v1392 : BitVec 1 := Scalar.andi v1391 v1388
  let v1393 : BitVec 32 := Scalar.addi v1387 v1386
  let v1394 : BitVec 32 := Scalar.select v1392 v1393 v1387
  let v1395 : Index := Scalar.indexCast v1394
  ![v1395.toNat]
def k0_off60 (v1396 : BitVec 32) : Fin 2 → Nat :=
  let c256_i32_1426 : BitVec 32 := 256#32
  let v1402 : BitVec 32 := Scalar.muli v1396 c256_i32_1426
  let v1403 : Index := Scalar.indexCast v1402
  let c0_1427 : Index := 0#32
  ![v1403.toNat, 0]

def k0_chk31 (v1396 : BitVec 32) : Prop :=
  (∀ a, (k0_off60 v1396) a + S256x128.size a ≤ S8192x128.size a)
theorem k0_off60_inb : ∀ (v1396 : BitVec 32) (k0_hw31 : k0_chk31 v1396), ∀ a, (k0_off60 v1396) a + S256x128.size a ≤ S8192x128.size a := fun v1396 k0_hw31 => k0_hw31

def k0_dev61 (v31 : BitVec 32) : Nat :=
  let c0_i32_1448 : BitVec 32 := 0#32
  let c1_i32_1447 : BitVec 32 := 1#32
  let v1417 : BitVec 32 := Scalar.muli v31 c1_i32_1447
  let v1418 : BitVec 32 := Scalar.addi c0_i32_1448 v1417
  v1418.toNat
def k0_dev62 (v17 : BitVec 32) : Nat :=
  let c0_i32_1451 : BitVec 32 := 0#32
  let c1_i32_1450 : BitVec 32 := 1#32
  let v1419 : BitVec 32 := Scalar.muli v17 c1_i32_1450
  let v1420 : BitVec 32 := Scalar.addi c0_i32_1451 v1419
  v1420.toNat
def k0_dev63 (v17 : BitVec 32) : Nat :=
  let c0_i32_1488 : BitVec 32 := 0#32
  let c1_i32_1487 : BitVec 32 := 1#32
  let v1447 : BitVec 32 := Scalar.muli v17 c1_i32_1487
  let v1448 : BitVec 32 := Scalar.addi c0_i32_1488 v1447
  v1448.toNat

def k0_chk3 (v17 : BitVec 32) : Prop :=
  ((k0_dev2 v17) < nD) ∧
  ((k0_dev3 v17) < nD) ∧
  ((k0_dev6 v17) < nD) ∧
  ((k0_dev7 v17) < nD) ∧
  ((k0_dev10 v17) < nD) ∧
  ((k0_dev11 v17) < nD) ∧
  ((k0_dev14 v17) < nD) ∧
  ((k0_dev15 v17) < nD) ∧
  ((k0_dev18 v17) < nD) ∧
  ((k0_dev19 v17) < nD) ∧
  ((k0_dev22 v17) < nD) ∧
  ((k0_dev23 v17) < nD) ∧
  ((k0_dev26 v17) < nD) ∧
  ((k0_dev27 v17) < nD) ∧
  ((k0_dev30 v17) < nD) ∧
  ((k0_dev31 v17) < nD) ∧
  ((k0_dev34 v17) < nD) ∧
  ((k0_dev35 v17) < nD) ∧
  ((k0_dev38 v17) < nD) ∧
  ((k0_dev39 v17) < nD) ∧
  ((k0_dev42 v17) < nD) ∧
  ((k0_dev43 v17) < nD) ∧
  ((k0_dev46 v17) < nD) ∧
  ((k0_dev47 v17) < nD) ∧
  ((k0_dev50 v17) < nD) ∧
  ((k0_dev51 v17) < nD) ∧
  ((k0_dev54 v17) < nD) ∧
  ((k0_dev55 v17) < nD) ∧
  ((k0_dev58 v17) < nD) ∧
  ((k0_dev59 v17) < nD) ∧
  ((k0_dev62 v17) < nD) ∧
  ((k0_dev63 v17) < nD)
theorem k0_dev2_lt : ∀ (v17 : BitVec 32) (k0_hw3 : k0_chk3 v17), (k0_dev2 v17) < nD := fun v17 k0_hw3 => k0_hw3.1
theorem k0_dev3_lt : ∀ (v17 : BitVec 32) (k0_hw3 : k0_chk3 v17), (k0_dev3 v17) < nD := fun v17 k0_hw3 => k0_hw3.2.1
theorem k0_dev6_lt : ∀ (v17 : BitVec 32) (k0_hw3 : k0_chk3 v17), (k0_dev6 v17) < nD := fun v17 k0_hw3 => k0_hw3.2.2.1
theorem k0_dev7_lt : ∀ (v17 : BitVec 32) (k0_hw3 : k0_chk3 v17), (k0_dev7 v17) < nD := fun v17 k0_hw3 => k0_hw3.2.2.2.1
theorem k0_dev10_lt : ∀ (v17 : BitVec 32) (k0_hw3 : k0_chk3 v17), (k0_dev10 v17) < nD := fun v17 k0_hw3 => k0_hw3.2.2.2.2.1
theorem k0_dev11_lt : ∀ (v17 : BitVec 32) (k0_hw3 : k0_chk3 v17), (k0_dev11 v17) < nD := fun v17 k0_hw3 => k0_hw3.2.2.2.2.2.1
theorem k0_dev14_lt : ∀ (v17 : BitVec 32) (k0_hw3 : k0_chk3 v17), (k0_dev14 v17) < nD := fun v17 k0_hw3 => k0_hw3.2.2.2.2.2.2.1
theorem k0_dev15_lt : ∀ (v17 : BitVec 32) (k0_hw3 : k0_chk3 v17), (k0_dev15 v17) < nD := fun v17 k0_hw3 => k0_hw3.2.2.2.2.2.2.2.1
theorem k0_dev18_lt : ∀ (v17 : BitVec 32) (k0_hw3 : k0_chk3 v17), (k0_dev18 v17) < nD := fun v17 k0_hw3 => k0_hw3.2.2.2.2.2.2.2.2.1
theorem k0_dev19_lt : ∀ (v17 : BitVec 32) (k0_hw3 : k0_chk3 v17), (k0_dev19 v17) < nD := fun v17 k0_hw3 => k0_hw3.2.2.2.2.2.2.2.2.2.1
theorem k0_dev22_lt : ∀ (v17 : BitVec 32) (k0_hw3 : k0_chk3 v17), (k0_dev22 v17) < nD := fun v17 k0_hw3 => k0_hw3.2.2.2.2.2.2.2.2.2.2.1
theorem k0_dev23_lt : ∀ (v17 : BitVec 32) (k0_hw3 : k0_chk3 v17), (k0_dev23 v17) < nD := fun v17 k0_hw3 => k0_hw3.2.2.2.2.2.2.2.2.2.2.2.1
theorem k0_dev26_lt : ∀ (v17 : BitVec 32) (k0_hw3 : k0_chk3 v17), (k0_dev26 v17) < nD := fun v17 k0_hw3 => k0_hw3.2.2.2.2.2.2.2.2.2.2.2.2.1
theorem k0_dev27_lt : ∀ (v17 : BitVec 32) (k0_hw3 : k0_chk3 v17), (k0_dev27 v17) < nD := fun v17 k0_hw3 => k0_hw3.2.2.2.2.2.2.2.2.2.2.2.2.2.1
theorem k0_dev30_lt : ∀ (v17 : BitVec 32) (k0_hw3 : k0_chk3 v17), (k0_dev30 v17) < nD := fun v17 k0_hw3 => k0_hw3.2.2.2.2.2.2.2.2.2.2.2.2.2.2.1
theorem k0_dev31_lt : ∀ (v17 : BitVec 32) (k0_hw3 : k0_chk3 v17), (k0_dev31 v17) < nD := fun v17 k0_hw3 => k0_hw3.2.2.2.2.2.2.2.2.2.2.2.2.2.2.2.1
theorem k0_dev34_lt : ∀ (v17 : BitVec 32) (k0_hw3 : k0_chk3 v17), (k0_dev34 v17) < nD := fun v17 k0_hw3 => k0_hw3.2.2.2.2.2.2.2.2.2.2.2.2.2.2.2.2.1
theorem k0_dev35_lt : ∀ (v17 : BitVec 32) (k0_hw3 : k0_chk3 v17), (k0_dev35 v17) < nD := fun v17 k0_hw3 => k0_hw3.2.2.2.2.2.2.2.2.2.2.2.2.2.2.2.2.2.1
theorem k0_dev38_lt : ∀ (v17 : BitVec 32) (k0_hw3 : k0_chk3 v17), (k0_dev38 v17) < nD := fun v17 k0_hw3 => k0_hw3.2.2.2.2.2.2.2.2.2.2.2.2.2.2.2.2.2.2.1
theorem k0_dev39_lt : ∀ (v17 : BitVec 32) (k0_hw3 : k0_chk3 v17), (k0_dev39 v17) < nD := fun v17 k0_hw3 => k0_hw3.2.2.2.2.2.2.2.2.2.2.2.2.2.2.2.2.2.2.2.1
theorem k0_dev42_lt : ∀ (v17 : BitVec 32) (k0_hw3 : k0_chk3 v17), (k0_dev42 v17) < nD := fun v17 k0_hw3 => k0_hw3.2.2.2.2.2.2.2.2.2.2.2.2.2.2.2.2.2.2.2.2.1
theorem k0_dev43_lt : ∀ (v17 : BitVec 32) (k0_hw3 : k0_chk3 v17), (k0_dev43 v17) < nD := fun v17 k0_hw3 => k0_hw3.2.2.2.2.2.2.2.2.2.2.2.2.2.2.2.2.2.2.2.2.2.1
theorem k0_dev46_lt : ∀ (v17 : BitVec 32) (k0_hw3 : k0_chk3 v17), (k0_dev46 v17) < nD := fun v17 k0_hw3 => k0_hw3.2.2.2.2.2.2.2.2.2.2.2.2.2.2.2.2.2.2.2.2.2.2.1
theorem k0_dev47_lt : ∀ (v17 : BitVec 32) (k0_hw3 : k0_chk3 v17), (k0_dev47 v17) < nD := fun v17 k0_hw3 => k0_hw3.2.2.2.2.2.2.2.2.2.2.2.2.2.2.2.2.2.2.2.2.2.2.2.1
theorem k0_dev50_lt : ∀ (v17 : BitVec 32) (k0_hw3 : k0_chk3 v17), (k0_dev50 v17) < nD := fun v17 k0_hw3 => k0_hw3.2.2.2.2.2.2.2.2.2.2.2.2.2.2.2.2.2.2.2.2.2.2.2.2.1
theorem k0_dev51_lt : ∀ (v17 : BitVec 32) (k0_hw3 : k0_chk3 v17), (k0_dev51 v17) < nD := fun v17 k0_hw3 => k0_hw3.2.2.2.2.2.2.2.2.2.2.2.2.2.2.2.2.2.2.2.2.2.2.2.2.2.1
theorem k0_dev54_lt : ∀ (v17 : BitVec 32) (k0_hw3 : k0_chk3 v17), (k0_dev54 v17) < nD := fun v17 k0_hw3 => k0_hw3.2.2.2.2.2.2.2.2.2.2.2.2.2.2.2.2.2.2.2.2.2.2.2.2.2.2.1
theorem k0_dev55_lt : ∀ (v17 : BitVec 32) (k0_hw3 : k0_chk3 v17), (k0_dev55 v17) < nD := fun v17 k0_hw3 => k0_hw3.2.2.2.2.2.2.2.2.2.2.2.2.2.2.2.2.2.2.2.2.2.2.2.2.2.2.2.1
theorem k0_dev58_lt : ∀ (v17 : BitVec 32) (k0_hw3 : k0_chk3 v17), (k0_dev58 v17) < nD := fun v17 k0_hw3 => k0_hw3.2.2.2.2.2.2.2.2.2.2.2.2.2.2.2.2.2.2.2.2.2.2.2.2.2.2.2.2.1
theorem k0_dev59_lt : ∀ (v17 : BitVec 32) (k0_hw3 : k0_chk3 v17), (k0_dev59 v17) < nD := fun v17 k0_hw3 => k0_hw3.2.2.2.2.2.2.2.2.2.2.2.2.2.2.2.2.2.2.2.2.2.2.2.2.2.2.2.2.2.1
theorem k0_dev62_lt : ∀ (v17 : BitVec 32) (k0_hw3 : k0_chk3 v17), (k0_dev62 v17) < nD := fun v17 k0_hw3 => k0_hw3.2.2.2.2.2.2.2.2.2.2.2.2.2.2.2.2.2.2.2.2.2.2.2.2.2.2.2.2.2.2.1
theorem k0_dev63_lt : ∀ (v17 : BitVec 32) (k0_hw3 : k0_chk3 v17), (k0_dev63 v17) < nD := fun v17 k0_hw3 => k0_hw3.2.2.2.2.2.2.2.2.2.2.2.2.2.2.2.2.2.2.2.2.2.2.2.2.2.2.2.2.2.2.2

def k0_dev64 (v31 : BitVec 32) : Nat :=
  let c0_i32_1492 : BitVec 32 := 0#32
  let c1_i32_1491 : BitVec 32 := 1#32
  let v1453 : BitVec 32 := Scalar.muli v31 c1_i32_1491
  let v1454 : BitVec 32 := Scalar.addi c0_i32_1492 v1453
  v1454.toNat

def k0_chk2 (v31 : BitVec 32) : Prop :=
  ((k0_dev1 v31) < nD) ∧
  ((k0_dev4 v31) < nD) ∧
  ((k0_dev5 v31) < nD) ∧
  ((k0_dev8 v31) < nD) ∧
  ((k0_dev9 v31) < nD) ∧
  ((k0_dev12 v31) < nD) ∧
  ((k0_dev13 v31) < nD) ∧
  ((k0_dev16 v31) < nD) ∧
  ((k0_dev17 v31) < nD) ∧
  ((k0_dev20 v31) < nD) ∧
  ((k0_dev21 v31) < nD) ∧
  ((k0_dev24 v31) < nD) ∧
  ((k0_dev25 v31) < nD) ∧
  ((k0_dev28 v31) < nD) ∧
  ((k0_dev29 v31) < nD) ∧
  ((k0_dev32 v31) < nD) ∧
  ((k0_dev33 v31) < nD) ∧
  ((k0_dev36 v31) < nD) ∧
  ((k0_dev37 v31) < nD) ∧
  ((k0_dev40 v31) < nD) ∧
  ((k0_dev41 v31) < nD) ∧
  ((k0_dev44 v31) < nD) ∧
  ((k0_dev45 v31) < nD) ∧
  ((k0_dev48 v31) < nD) ∧
  ((k0_dev49 v31) < nD) ∧
  ((k0_dev52 v31) < nD) ∧
  ((k0_dev53 v31) < nD) ∧
  ((k0_dev56 v31) < nD) ∧
  ((k0_dev57 v31) < nD) ∧
  ((k0_dev60 v31) < nD) ∧
  ((k0_dev61 v31) < nD) ∧
  ((k0_dev64 v31) < nD)
theorem k0_dev1_lt : ∀ (v31 : BitVec 32) (k0_hw2 : k0_chk2 v31), (k0_dev1 v31) < nD := fun v31 k0_hw2 => k0_hw2.1
theorem k0_dev4_lt : ∀ (v31 : BitVec 32) (k0_hw2 : k0_chk2 v31), (k0_dev4 v31) < nD := fun v31 k0_hw2 => k0_hw2.2.1
theorem k0_dev5_lt : ∀ (v31 : BitVec 32) (k0_hw2 : k0_chk2 v31), (k0_dev5 v31) < nD := fun v31 k0_hw2 => k0_hw2.2.2.1
theorem k0_dev8_lt : ∀ (v31 : BitVec 32) (k0_hw2 : k0_chk2 v31), (k0_dev8 v31) < nD := fun v31 k0_hw2 => k0_hw2.2.2.2.1
theorem k0_dev9_lt : ∀ (v31 : BitVec 32) (k0_hw2 : k0_chk2 v31), (k0_dev9 v31) < nD := fun v31 k0_hw2 => k0_hw2.2.2.2.2.1
theorem k0_dev12_lt : ∀ (v31 : BitVec 32) (k0_hw2 : k0_chk2 v31), (k0_dev12 v31) < nD := fun v31 k0_hw2 => k0_hw2.2.2.2.2.2.1
theorem k0_dev13_lt : ∀ (v31 : BitVec 32) (k0_hw2 : k0_chk2 v31), (k0_dev13 v31) < nD := fun v31 k0_hw2 => k0_hw2.2.2.2.2.2.2.1
theorem k0_dev16_lt : ∀ (v31 : BitVec 32) (k0_hw2 : k0_chk2 v31), (k0_dev16 v31) < nD := fun v31 k0_hw2 => k0_hw2.2.2.2.2.2.2.2.1
theorem k0_dev17_lt : ∀ (v31 : BitVec 32) (k0_hw2 : k0_chk2 v31), (k0_dev17 v31) < nD := fun v31 k0_hw2 => k0_hw2.2.2.2.2.2.2.2.2.1
theorem k0_dev20_lt : ∀ (v31 : BitVec 32) (k0_hw2 : k0_chk2 v31), (k0_dev20 v31) < nD := fun v31 k0_hw2 => k0_hw2.2.2.2.2.2.2.2.2.2.1
theorem k0_dev21_lt : ∀ (v31 : BitVec 32) (k0_hw2 : k0_chk2 v31), (k0_dev21 v31) < nD := fun v31 k0_hw2 => k0_hw2.2.2.2.2.2.2.2.2.2.2.1
theorem k0_dev24_lt : ∀ (v31 : BitVec 32) (k0_hw2 : k0_chk2 v31), (k0_dev24 v31) < nD := fun v31 k0_hw2 => k0_hw2.2.2.2.2.2.2.2.2.2.2.2.1
theorem k0_dev25_lt : ∀ (v31 : BitVec 32) (k0_hw2 : k0_chk2 v31), (k0_dev25 v31) < nD := fun v31 k0_hw2 => k0_hw2.2.2.2.2.2.2.2.2.2.2.2.2.1
theorem k0_dev28_lt : ∀ (v31 : BitVec 32) (k0_hw2 : k0_chk2 v31), (k0_dev28 v31) < nD := fun v31 k0_hw2 => k0_hw2.2.2.2.2.2.2.2.2.2.2.2.2.2.1
theorem k0_dev29_lt : ∀ (v31 : BitVec 32) (k0_hw2 : k0_chk2 v31), (k0_dev29 v31) < nD := fun v31 k0_hw2 => k0_hw2.2.2.2.2.2.2.2.2.2.2.2.2.2.2.1
theorem k0_dev32_lt : ∀ (v31 : BitVec 32) (k0_hw2 : k0_chk2 v31), (k0_dev32 v31) < nD := fun v31 k0_hw2 => k0_hw2.2.2.2.2.2.2.2.2.2.2.2.2.2.2.2.1
theorem k0_dev33_lt : ∀ (v31 : BitVec 32) (k0_hw2 : k0_chk2 v31), (k0_dev33 v31) < nD := fun v31 k0_hw2 => k0_hw2.2.2.2.2.2.2.2.2.2.2.2.2.2.2.2.2.1
theorem k0_dev36_lt : ∀ (v31 : BitVec 32) (k0_hw2 : k0_chk2 v31), (k0_dev36 v31) < nD := fun v31 k0_hw2 => k0_hw2.2.2.2.2.2.2.2.2.2.2.2.2.2.2.2.2.2.1
theorem k0_dev37_lt : ∀ (v31 : BitVec 32) (k0_hw2 : k0_chk2 v31), (k0_dev37 v31) < nD := fun v31 k0_hw2 => k0_hw2.2.2.2.2.2.2.2.2.2.2.2.2.2.2.2.2.2.2.1
theorem k0_dev40_lt : ∀ (v31 : BitVec 32) (k0_hw2 : k0_chk2 v31), (k0_dev40 v31) < nD := fun v31 k0_hw2 => k0_hw2.2.2.2.2.2.2.2.2.2.2.2.2.2.2.2.2.2.2.2.1
theorem k0_dev41_lt : ∀ (v31 : BitVec 32) (k0_hw2 : k0_chk2 v31), (k0_dev41 v31) < nD := fun v31 k0_hw2 => k0_hw2.2.2.2.2.2.2.2.2.2.2.2.2.2.2.2.2.2.2.2.2.1
theorem k0_dev44_lt : ∀ (v31 : BitVec 32) (k0_hw2 : k0_chk2 v31), (k0_dev44 v31) < nD := fun v31 k0_hw2 => k0_hw2.2.2.2.2.2.2.2.2.2.2.2.2.2.2.2.2.2.2.2.2.2.1
theorem k0_dev45_lt : ∀ (v31 : BitVec 32) (k0_hw2 : k0_chk2 v31), (k0_dev45 v31) < nD := fun v31 k0_hw2 => k0_hw2.2.2.2.2.2.2.2.2.2.2.2.2.2.2.2.2.2.2.2.2.2.2.1
theorem k0_dev48_lt : ∀ (v31 : BitVec 32) (k0_hw2 : k0_chk2 v31), (k0_dev48 v31) < nD := fun v31 k0_hw2 => k0_hw2.2.2.2.2.2.2.2.2.2.2.2.2.2.2.2.2.2.2.2.2.2.2.2.1
theorem k0_dev49_lt : ∀ (v31 : BitVec 32) (k0_hw2 : k0_chk2 v31), (k0_dev49 v31) < nD := fun v31 k0_hw2 => k0_hw2.2.2.2.2.2.2.2.2.2.2.2.2.2.2.2.2.2.2.2.2.2.2.2.2.1
theorem k0_dev52_lt : ∀ (v31 : BitVec 32) (k0_hw2 : k0_chk2 v31), (k0_dev52 v31) < nD := fun v31 k0_hw2 => k0_hw2.2.2.2.2.2.2.2.2.2.2.2.2.2.2.2.2.2.2.2.2.2.2.2.2.2.1
theorem k0_dev53_lt : ∀ (v31 : BitVec 32) (k0_hw2 : k0_chk2 v31), (k0_dev53 v31) < nD := fun v31 k0_hw2 => k0_hw2.2.2.2.2.2.2.2.2.2.2.2.2.2.2.2.2.2.2.2.2.2.2.2.2.2.2.1
theorem k0_dev56_lt : ∀ (v31 : BitVec 32) (k0_hw2 : k0_chk2 v31), (k0_dev56 v31) < nD := fun v31 k0_hw2 => k0_hw2.2.2.2.2.2.2.2.2.2.2.2.2.2.2.2.2.2.2.2.2.2.2.2.2.2.2.2.1
theorem k0_dev57_lt : ∀ (v31 : BitVec 32) (k0_hw2 : k0_chk2 v31), (k0_dev57 v31) < nD := fun v31 k0_hw2 => k0_hw2.2.2.2.2.2.2.2.2.2.2.2.2.2.2.2.2.2.2.2.2.2.2.2.2.2.2.2.2.1
theorem k0_dev60_lt : ∀ (v31 : BitVec 32) (k0_hw2 : k0_chk2 v31), (k0_dev60 v31) < nD := fun v31 k0_hw2 => k0_hw2.2.2.2.2.2.2.2.2.2.2.2.2.2.2.2.2.2.2.2.2.2.2.2.2.2.2.2.2.2.1
theorem k0_dev61_lt : ∀ (v31 : BitVec 32) (k0_hw2 : k0_chk2 v31), (k0_dev61 v31) < nD := fun v31 k0_hw2 => k0_hw2.2.2.2.2.2.2.2.2.2.2.2.2.2.2.2.2.2.2.2.2.2.2.2.2.2.2.2.2.2.2.1
theorem k0_dev64_lt : ∀ (v31 : BitVec 32) (k0_hw2 : k0_chk2 v31), (k0_dev64 v31) < nD := fun v31 k0_hw2 => k0_hw2.2.2.2.2.2.2.2.2.2.2.2.2.2.2.2.2.2.2.2.2.2.2.2.2.2.2.2.2.2.2.2

def k0_off61 (v4 : BitVec 32) : Fin 1 → Nat :=
  let c32_i32_1493 : BitVec 32 := 32#32
  let v1459 : BitVec 32 := Scalar.addi v4 c32_i32_1493
  let c15_i32 : BitVec 32 := 15#32
  let v1460 : BitVec 32 := Scalar.subi v1459 c15_i32
  let c32_i32_1494 : BitVec 32 := 32#32
  let c0_i32_1495 : BitVec 32 := 0#32
  let v1461 : BitVec 1 := Scalar.cmpi .eq c32_i32_1494 c0_i32_1495
  let c1_i32_1496 : BitVec 32 := 1#32
  let v1462 : BitVec 32 := Scalar.select v1461 c1_i32_1496 c32_i32_1494
  let v1463 : BitVec 32 := Scalar.remsi v1460 v1462
  let c0_i32_1498 : BitVec 32 := 0#32
  let v1465 : BitVec 1 := Scalar.cmpi .slt v1463 c0_i32_1498
  let c0_i32_1499 : BitVec 32 := 0#32
  let v1466 : BitVec 1 := Scalar.cmpi .slt v1462 c0_i32_1499
  let v1467 : BitVec 1 := Scalar.xori v1465 v1466
  let c0_i32_1497 : BitVec 32 := 0#32
  let v1464 : BitVec 1 := Scalar.cmpi .ne v1463 c0_i32_1497
  let v1468 : BitVec 1 := Scalar.andi v1467 v1464
  let v1469 : BitVec 32 := Scalar.addi v1463 v1462
  let v1470 : BitVec 32 := Scalar.select v1468 v1469 v1463
  let v1471 : Index := Scalar.indexCast v1470
  ![v1471.toNat]
def k0_off62 (v1472 : BitVec 32) : Fin 2 → Nat :=
  let c256_i32_1506 : BitVec 32 := 256#32
  let v1478 : BitVec 32 := Scalar.muli v1472 c256_i32_1506
  let v1479 : Index := Scalar.indexCast v1478
  let c0_1507 : Index := 0#32
  ![v1479.toNat, 0]

def k0_chk32 (v1472 : BitVec 32) : Prop :=
  (∀ a, (k0_off62 v1472) a + S256x128.size a ≤ S8192x128.size a)
theorem k0_off62_inb : ∀ (v1472 : BitVec 32) (k0_hw32 : k0_chk32 v1472), ∀ a, (k0_off62 v1472) a + S256x128.size a ≤ S8192x128.size a := fun v1472 k0_hw32 => k0_hw32

def k0_off63 (v4 : BitVec 32) : Fin 1 → Nat :=
  let c15_i32_1508 : BitVec 32 := 15#32
  let v1481 : BitVec 32 := Scalar.addi v4 c15_i32_1508
  let c32_i32_1509 : BitVec 32 := 32#32
  let c0_i32_1510 : BitVec 32 := 0#32
  let v1482 : BitVec 1 := Scalar.cmpi .eq c32_i32_1509 c0_i32_1510
  let c1_i32_1511 : BitVec 32 := 1#32
  let v1483 : BitVec 32 := Scalar.select v1482 c1_i32_1511 c32_i32_1509
  let v1484 : BitVec 32 := Scalar.remsi v1481 v1483
  let c0_i32_1513 : BitVec 32 := 0#32
  let v1486 : BitVec 1 := Scalar.cmpi .slt v1484 c0_i32_1513
  let c0_i32_1514 : BitVec 32 := 0#32
  let v1487 : BitVec 1 := Scalar.cmpi .slt v1483 c0_i32_1514
  let v1488 : BitVec 1 := Scalar.xori v1486 v1487
  let c0_i32_1512 : BitVec 32 := 0#32
  let v1485 : BitVec 1 := Scalar.cmpi .ne v1484 c0_i32_1512
  let v1489 : BitVec 1 := Scalar.andi v1488 v1485
  let v1490 : BitVec 32 := Scalar.addi v1484 v1483
  let v1491 : BitVec 32 := Scalar.select v1489 v1490 v1484
  let v1492 : Index := Scalar.indexCast v1491
  ![v1492.toNat]
def k0_off64 (v1493 : BitVec 32) : Fin 2 → Nat :=
  let c256_i32_1521 : BitVec 32 := 256#32
  let v1499 : BitVec 32 := Scalar.muli v1493 c256_i32_1521
  let v1500 : Index := Scalar.indexCast v1499
  let c0_1522 : Index := 0#32
  ![v1500.toNat, 0]

def k0_chk33 (v1493 : BitVec 32) : Prop :=
  (∀ a, (k0_off64 v1493) a + S256x128.size a ≤ S8192x128.size a)
theorem k0_off64_inb : ∀ (v1493 : BitVec 32) (k0_hw33 : k0_chk33 v1493), ∀ a, (k0_off64 v1493) a + S256x128.size a ≤ S8192x128.size a := fun v1493 k0_hw33 => k0_hw33

def k0_off65 (v4 : BitVec 32) : Fin 1 → Nat :=
  let c16_i32 : BitVec 32 := 16#32
  let v1514 : BitVec 32 := Scalar.addi v4 c16_i32
  let c32_i32_1537 : BitVec 32 := 32#32
  let c0_i32_1538 : BitVec 32 := 0#32
  let v1515 : BitVec 1 := Scalar.cmpi .eq c32_i32_1537 c0_i32_1538
  let c1_i32_1539 : BitVec 32 := 1#32
  let v1516 : BitVec 32 := Scalar.select v1515 c1_i32_1539 c32_i32_1537
  let v1517 : BitVec 32 := Scalar.remsi v1514 v1516
  let c0_i32_1541 : BitVec 32 := 0#32
  let v1519 : BitVec 1 := Scalar.cmpi .slt v1517 c0_i32_1541
  let c0_i32_1542 : BitVec 32 := 0#32
  let v1520 : BitVec 1 := Scalar.cmpi .slt v1516 c0_i32_1542
  let v1521 : BitVec 1 := Scalar.xori v1519 v1520
  let c0_i32_1540 : BitVec 32 := 0#32
  let v1518 : BitVec 1 := Scalar.cmpi .ne v1517 c0_i32_1540
  let v1522 : BitVec 1 := Scalar.andi v1521 v1518
  let v1523 : BitVec 32 := Scalar.addi v1517 v1516
  let v1524 : BitVec 32 := Scalar.select v1522 v1523 v1517
  let v1525 : Index := Scalar.indexCast v1524
  ![v1525.toNat]

def k0_chk1_0 (v4 : BitVec 32) : Prop :=
  (∀ a, (k0_off2 v4) a + S1.size a ≤ S32.size a) ∧
  (∀ a, (k0_off3 v4) a + S1.size a ≤ S32.size a) ∧
  (∀ a, (k0_off5 v4) a + S1.size a ≤ S32.size a) ∧
  (∀ a, (k0_off7 v4) a + S1.size a ≤ S32.size a) ∧
  (∀ a, (k0_off9 v4) a + S1.size a ≤ S32.size a) ∧
  (∀ a, (k0_off11 v4) a + S1.size a ≤ S32.size a) ∧
  (∀ a, (k0_off13 v4) a + S1.size a ≤ S32.size a) ∧
  (∀ a, (k0_off15 v4) a + S1.size a ≤ S32.size a) ∧
  (∀ a, (k0_off17 v4) a + S1.size a ≤ S32.size a) ∧
  (∀ a, (k0_off19 v4) a + S1.size a ≤ S32.size a) ∧
  (∀ a, (k0_off21 v4) a + S1.size a ≤ S32.size a) ∧
  (∀ a, (k0_off23 v4) a + S1.size a ≤ S32.size a) ∧
  (∀ a, (k0_off25 v4) a + S1.size a ≤ S32.size a) ∧
  (∀ a, (k0_off27 v4) a + S1.size a ≤ S32.size a) ∧
  (∀ a, (k0_off29 v4) a + S1.size a ≤ S32.size a) ∧
  (∀ a, (k0_off31 v4) a + S1.size a ≤ S32.size a) ∧
  (∀ a, (k0_off33 v4) a + S1.size a ≤ S32.size a) ∧
  (∀ a, (k0_off35 v4) a + S1.size a ≤ S32.size a) ∧
  (∀ a, (k0_off37 v4) a + S1.size a ≤ S32.size a) ∧
  (∀ a, (k0_off39 v4) a + S1.size a ≤ S32.size a) ∧
  (∀ a, (k0_off41 v4) a + S1.size a ≤ S32.size a) ∧
  (∀ a, (k0_off43 v4) a + S1.size a ≤ S32.size a) ∧
  (∀ a, (k0_off45 v4) a + S1.size a ≤ S32.size a) ∧
  (∀ a, (k0_off47 v4) a + S1.size a ≤ S32.size a) ∧
  (∀ a, (k0_off49 v4) a + S1.size a ≤ S32.size a) ∧
  (∀ a, (k0_off51 v4) a + S1.size a ≤ S32.size a) ∧
  (∀ a, (k0_off53 v4) a + S1.size a ≤ S32.size a) ∧
  (∀ a, (k0_off55 v4) a + S1.size a ≤ S32.size a) ∧
  (∀ a, (k0_off57 v4) a + S1.size a ≤ S32.size a) ∧
  (∀ a, (k0_off59 v4) a + S1.size a ≤ S32.size a) ∧
  (∀ a, (k0_off61 v4) a + S1.size a ≤ S32.size a) ∧
  (∀ a, (k0_off63 v4) a + S1.size a ≤ S32.size a)
def k0_chk1_1 (v4 : BitVec 32) : Prop :=
  (∀ a, (k0_off65 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off7_inb : ∀ (v4 : BitVec 32) (k0_hw1 : k0_chk1 v4), ∀ a, (k0_off7 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off11_inb : ∀ (v4 : BitVec 32) (k0_hw1 : k0_chk1 v4), ∀ a, (k0_off11 v4) a + S1.size a ≤ S32.size a := fun v4 k0_hw1 => k0_hw1.1.2.2.2.2.2.1
theorem k0_off13_inb : ∀ (v4 : BitVec 32) (k0_hw1 : k0_chk1 v4), ∀ a, (k0_off13 v4) a + S1.size a ≤ S32.size a := fun v4 k0_hw1 => k0_hw1.1.2.2.2.2.2.2.1
theorem k0_off15_inb : ∀ (v4 : BitVec 32) (k0_hw1 : k0_chk1 v4), ∀ a, (k0_off15 v4) a + S1.size a ≤ S32.size a := fun v4 k0_hw1 => k0_hw1.1.2.2.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.2.2.1
theorem k0_off19_inb : ∀ (v4 : BitVec 32) (k0_hw1 : k0_chk1 v4), ∀ a, (k0_off19 v4) a + S1.size a ≤ S32.size a := fun v4 k0_hw1 => k0_hw1.1.2.2.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.2.2.1
theorem k0_off23_inb : ∀ (v4 : BitVec 32) (k0_hw1 : k0_chk1 v4), ∀ a, (k0_off23 v4) a + S1.size a ≤ S32.size a := fun v4 k0_hw1 => k0_hw1.1.2.2.2.2.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.2.2.2.2.1
theorem k0_off27_inb : ∀ (v4 : BitVec 32) (k0_hw1 : k0_chk1 v4), ∀ a, (k0_off27 v4) a + S1.size a ≤ S32.size a := fun v4 k0_hw1 => k0_hw1.1.2.2.2.2.2.2.2.2.2.2.2.2.2.1
theorem k0_off29_inb : ∀ (v4 : BitVec 32) (k0_hw1 : k0_chk1 v4), ∀ a, (k0_off29 v4) a + S1.size a ≤ S32.size a := fun v4 k0_hw1 => k0_hw1.1.2.2.2.2.2.2.2.2.2.2.2.2.2.2.1
theorem k0_off31_inb : ∀ (v4 : BitVec 32) (k0_hw1 : k0_chk1 v4), ∀ a, (k0_off31 v4) a + S1.size a ≤ S32.size a := fun v4 k0_hw1 => k0_hw1.1.2.2.2.2.2.2.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.2.2.2.2.2.2.1
theorem k0_off35_inb : ∀ (v4 : BitVec 32) (k0_hw1 : k0_chk1 v4), ∀ a, (k0_off35 v4) a + S1.size a ≤ S32.size a := fun v4 k0_hw1 => k0_hw1.1.2.2.2.2.2.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.2.2.2.2.2.2.2.1
theorem k0_off39_inb : ∀ (v4 : BitVec 32) (k0_hw1 : k0_chk1 v4), ∀ a, (k0_off39 v4) a + S1.size a ≤ S32.size a := fun v4 k0_hw1 => k0_hw1.1.2.2.2.2.2.2.2.2.2.2.2.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.2.2.2.2.2.2.2.2.2.2.2.1
theorem k0_off43_inb : ∀ (v4 : BitVec 32) (k0_hw1 : k0_chk1 v4), ∀ a, (k0_off43 v4) a + S1.size a ≤ S32.size a := fun v4 k0_hw1 => k0_hw1.1.2.2.2.2.2.2.2.2.2.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.2.2.2.2.2.2.2.2.2.1
theorem k0_off47_inb : ∀ (v4 : BitVec 32) (k0_hw1 : k0_chk1 v4), ∀ a, (k0_off47 v4) a + S1.size a ≤ S32.size a := fun v4 k0_hw1 => k0_hw1.1.2.2.2.2.2.2.2.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.2.2.2.2.2.2.2.2.2.2.1
theorem k0_off51_inb : ∀ (v4 : BitVec 32) (k0_hw1 : k0_chk1 v4), ∀ a, (k0_off51 v4) a + S1.size a ≤ S32.size a := fun v4 k0_hw1 => k0_hw1.1.2.2.2.2.2.2.2.2.2.2.2.2.2.2.2.2.2.2.2.2.2.2.2.2.2.1
theorem k0_off53_inb : ∀ (v4 : BitVec 32) (k0_hw1 : k0_chk1 v4), ∀ a, (k0_off53 v4) a + S1.size a ≤ S32.size a := fun v4 k0_hw1 => k0_hw1.1.2.2.2.2.2.2.2.2.2.2.2.2.2.2.2.2.2.2.2.2.2.2.2.2.2.2.1
theorem k0_off55_inb : ∀ (v4 : BitVec 32) (k0_hw1 : k0_chk1 v4), ∀ a, (k0_off55 v4) a + S1.size a ≤ S32.size a := fun v4 k0_hw1 => k0_hw1.1.2.2.2.2.2.2.2.2.2.2.2.2.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.2.2.2.2.2.2.2.2.2.2.2.2.1
theorem k0_off59_inb : ∀ (v4 : BitVec 32) (k0_hw1 : k0_chk1 v4), ∀ a, (k0_off59 v4) a + S1.size a ≤ S32.size a := fun v4 k0_hw1 => k0_hw1.1.2.2.2.2.2.2.2.2.2.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.2.2.2.2.2.2.2.2.2.2.2.2.2.1
theorem k0_off63_inb : ∀ (v4 : BitVec 32) (k0_hw1 : k0_chk1 v4), ∀ a, (k0_off63 v4) a + S1.size a ≤ S32.size a := fun v4 k0_hw1 => k0_hw1.1.2.2.2.2.2.2.2.2.2.2.2.2.2.2.2.2.2.2.2.2.2.2.2.2.2.2.2.2.2.2.2
theorem k0_off65_inb : ∀ (v4 : BitVec 32) (k0_hw1 : k0_chk1 v4), ∀ a, (k0_off65 v4) a + S1.size a ≤ S32.size a := fun v4 k0_hw1 => k0_hw1.2

def k0_off66 (v1526 : BitVec 32) : Fin 2 → Nat :=
  let c256_i32_1548 : BitVec 32 := 256#32
  let v1531 : BitVec 32 := Scalar.muli v1526 c256_i32_1548
  let v1532 : Index := Scalar.indexCast v1531
  let c0_1549 : Index := 0#32
  ![v1532.toNat, 0]

def k0_off67 (v1526 : BitVec 32) : Fin 2 → Nat :=
  let c256_i32_1555 : BitVec 32 := 256#32
  let v1538 : BitVec 32 := Scalar.muli v1526 c256_i32_1555
  let c128_i32 : BitVec 32 := 128#32
  let v1539 : BitVec 32 := Scalar.addi v1538 c128_i32
  let v1540 : Index := Scalar.indexCast v1539
  let c0_1556 : Index := 0#32
  ![v1540.toNat, 0]

def k0_chk34 (v1526 : BitVec 32) : Prop :=
  (∀ a, (k0_off66 v1526) a + S128x128.size a ≤ S8192x128.size a) ∧
  (∀ a, (k0_off67 v1526) a + S128x128.size a ≤ S8192x128.size a)
theorem k0_off66_inb : ∀ (v1526 : BitVec 32) (k0_hw34 : k0_chk34 v1526), ∀ a, (k0_off66 v1526) a + S128x128.size a ≤ S8192x128.size a := fun v1526 k0_hw34 => k0_hw34.1
theorem k0_off67_inb : ∀ (v1526 : BitVec 32) (k0_hw34 : k0_chk34 v1526), ∀ a, (k0_off67 v1526) a + S128x128.size a ≤ S8192x128.size a := fun v1526 k0_hw34 => k0_hw34.2

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ring.Same.lean ====
/-
The kernel and the idealized kernel have the same text, so at the same float values they are the same program.
-/
module

public import proofs.«01_k».proof.Defs
public import proofs.«01_k».proof.Proof.Gen.Kernel
public import proofs.«01_k».proof.Proof.Gen.KernelIdeal

@[expose] public section

set_option maxHeartbeats 2000000

noncomputable section

namespace Cert.RingProof

open Idealize.ShloMosaic

/-- The two body tables agree: there is one label, and its two bodies unfold to the same text. -/
theorem bodies_same : @Cert.Kernel.defs₀ Bits _ _ = @Cert.KernelIdeal.defs₀ Bits _ _ := by
  unfold Cert.Kernel.defs₀ Cert.KernelIdeal.defs₀
  refine congrArg _ (funext fun l => ?_)
  match l with
  | 0 => exact rfl
/-- So do the tables with the region's own entry. -/
theorem defs_same : @Cert.Kernel.defs Bits _ _ = @Cert.KernelIdeal.defs Bits _ _ :=
  congrArg (Pipeline.defs Cert.Kernel.pcfgs) bodies_same
/-- And so do the two mains, which only write two tables and call the region. -/
theorem main_same : @Cert.Kernel.main Bits _ = @Cert.KernelIdeal.main Bits _ := rfl

end Cert.RingProof
end
-- ==== Proof.Ring.Tables.lean ====
/-
The ring: the two tables that the kernel reads, the neighbours and the origins of the blocks that they give, each
decided over the 32 devices.
-/
module

public import proofs.«01_k».proof.Proof.Gen.KernelIdeal.Skeleton

@[expose] public section

set_option maxRecDepth 16384

noncomputable section

namespace Cert.RingProof

open Cert.KernelIdeal Cert.KernelIdeal.Gen
open Idealize.ShloMosaic Idealize.ShloMosaic.TcCoe
open Idealize.SL Idealize.SL.Sem

/-- A sum on the ring of 32 positions, as the kernel computes it. -/
def wrap (u : BitVec 32) : BitVec 32 :=
  let m : BitVec 32 := Scalar.select (Scalar.cmpi .eq 32#32 0#32) 1#32 32#32
  let x : BitVec 32 := Scalar.remsi u m
  Scalar.select (Scalar.andi (Scalar.xori (Scalar.cmpi .slt x 0#32) (Scalar.cmpi .slt m 0#32)) (Scalar.cmpi .ne x 0#32)) (Scalar.addi x m) x
/-- The place of a position `h` behind `v`, and of one `h` ahead of it, in the table of devices. -/
def offB (h : ℕ) (v : BitVec 32) : Fin 1 → ℕ := ![(Scalar.indexCast (wrap (Scalar.subi (Scalar.addi v 32#32) (BitVec.ofNat 32 h)))).toNat]
def offA (h : ℕ) (v : BitVec 32) : Fin 1 → ℕ := ![(Scalar.indexCast (wrap (Scalar.addi v (BitVec.ofNat 32 h)))).toNat]

/-- That sum is a position. -/
theorem wrap_lt (u : BitVec 32) : (wrap u).toNat < 32 := by
  have hm : (Scalar.select (Scalar.cmpi .eq 32#32 0#32) 1#32 32#32 : BitVec 32) = 32#32 := by decide
  have hs : (Scalar.cmpi .slt (32#32 : BitVec 32) 0#32) = 0#1 := by decide
  have key : ∀ x : BitVec 32, -32 < x.toInt → x.toInt < 32 →
      (Scalar.select (Scalar.andi (Scalar.xori (Scalar.cmpi .slt x 0#32) (0#1)) (Scalar.cmpi .ne x 0#32)) (Scalar.addi x 32#32) x : BitVec 32).toNat < 32 := by
    intro x h1 h2
    have hand : ∀ y : BitVec 1, Scalar.andi (Scalar.xori 0#1 0#1) y = 0#1 := by decide
    rcases Int.lt_or_le x.toInt 0 with hx | hx
    · have h3 : Scalar.cmpi .slt x 0#32 = 1#1 := IntOp.cmpi_slt.2 (by simpa using hx)
      have h4 : Scalar.cmpi .ne x 0#32 = 1#1 := by
        have h : x ≠ 0#32 := fun h => by subst h; exact absurd hx (by decide)
        show BitVec.ofBool (x != 0#32) = 1#1
        rw [bne_iff_ne.2 h]; rfl
      rw [h3, h4]
      have hb := x.isLt
      show (x + 32#32).toNat < 32
      rw [BitVec.toInt_eq_toNat_cond] at h1 hx
      rw [BitVec.toNat_add]
      split at h1 <;> simp_all <;> omega
    · have h3 : Scalar.cmpi .slt x 0#32 = 0#1 := by
        rcases (by decide : ∀ y : BitVec 1, y = 0#1 ∨ y = 1#1) (Scalar.cmpi .slt x 0#32) with h | h
        · exact h
        · exact absurd (show x.toInt < 0 from IntOp.cmpi_slt.1 h) (by omega)
      rw [h3, hand]
      show x.toNat < 32
      rw [BitVec.toInt_eq_toNat_cond] at h2 hx
      have := x.isLt
      split at h2 <;> simp_all <;> omega
  unfold wrap
  simp only [hm, hs]
  have hr : Scalar.remsi u 32#32 = u.srem 32#32 := IntOp.remsi_of_pos _ (by decide)
  rw [hr]
  have h32 : (32#32 : BitVec 32).toInt = 32 := by decide
  refine key _ ?_ ?_
  · rw [BitVec.toInt_srem, h32]
    have := Int.lt_tmod_of_pos u.toInt (b := 32) (by decide)
    omega
  · rw [BitVec.toInt_srem, h32]
    exact Int.tmod_lt_of_pos u.toInt (by decide)

theorem offB_inb (h : ℕ) (v : BitVec 32) : ∀ a, offB h v a + S1.size a ≤ S32.size a := by
  intro a; fin_cases a
  have := wrap_lt (Scalar.subi (Scalar.addi v 32#32) (BitVec.ofNat 32 h))
  exact this
theorem offA_inb (h : ℕ) (v : BitVec 32) : ∀ a, offA h v a + S1.size a ≤ S32.size a := by
  intro a; fin_cases a
  have := wrap_lt (Scalar.addi v (BitVec.ofNat 32 h))
  exact this
/-- The ring position of a device, and the device of a position (positions count round the ring). -/
def rpos (c : Dev nD) : ℕ := (lit0 c).toNat
def rdev (i : ℕ) : Dev nD := ⟨(lit1 ⟨i % 32, Nat.mod_lt _ (by decide)⟩).toNat % 32, Nat.mod_lt _ (by decide)⟩
/-- The neighbour a direction travels to. -/
def nb (d : Bool) (c : Dev nD) : Dev nD := rdev (rpos c + cond d 1 31)
/-- The device whose block a direction brings to `c` in `h` hops. -/
def org (d : Bool) : ℕ → Dev nD → Dev nD
  | 0, c => c
  | h + 1, c => org d h (nb (!d) c)
/-- The device opposite on the ring. -/
def anti (c : Dev nD) : Dev nD := rdev (rpos c + 16)

theorem nb_nb (d : Bool) (c : Dev nD) : nb d (nb (!d) c) = c := by revert c d; decide +kernel
theorem nb_nb' (d : Bool) (c : Dev nD) : nb (!d) (nb d c) = c := by revert c d; decide +kernel
/-- The neighbours as a permutation of the devices. -/
def ring (d : Bool) : Dev nD ≃ Dev nD := ⟨nb d, nb (!d), nb_nb' d, nb_nb d⟩
theorem org_nb (d : Bool) (h : ℕ) (c : Dev nD) : org d (h + 1) (nb d c) = org d h c := by
  show org d h (nb (!d) (nb d c)) = _
  rw [nb_nb']

/-! ## What the tables hold -/

/-- A device's number as a word. -/
def word (e : Dev nD) : BitVec 32 := BitVec.ofNat 32 e.val
theorem lit1_word (i : ℕ) (hi : i < 32) : lit1 ⟨i, hi⟩ = word (rdev i) := by
  have : ∀ i : Fin 32, lit1 i = word (rdev i.val) := by decide +kernel
  exact this ⟨i, hi⟩
theorem off1_eq (c : Dev nD) : k0_off1 c 0 = c.val := by revert c; decide +kernel
theorem off4_eq (c : Dev nD) : k0_off4 c = ![c.val * 256, 0] := by revert c; decide +kernel
theorem off6_eq (e : Dev nD) : k0_off6 (word e) = ![e.val * 256, 0] := by revert e; decide +kernel
theorem off66_eq (e : Dev nD) : k0_off66 (word e) = ![e.val * 256, 0] := by revert e; decide +kernel
theorem off67_eq (e : Dev nD) : k0_off67 (word e) = ![e.val * 256 + 128, 0] := by revert e; decide +kernel
theorem dev1_eq (e : Dev nD) : k0_dev1 (word e) = e.val := by revert e; decide +kernel
theorem dev2_eq (e : Dev nD) : k0_dev2 (word e) = e.val := by revert e; decide +kernel

/-! The kernel's assumptions hold of the words it reads. -/

theorem chk1 (c : Dev nD) : k0_chk1 (lit0 c) := by revert c; decide +kernel
theorem chk2 (e : Dev nD) : k0_chk2 (word e) := by revert e; decide +kernel
theorem chk3 (e : Dev nD) : k0_chk3 (word e) := by revert e; decide +kernel
theorem chk4 (e : Dev nD) : k0_chk4 (word e) := by revert e; decide +kernel
theorem chk34 (e : Dev nD) : k0_chk34 (word e) := by revert e; decide +kernel

/-! The devices it looks up are the neighbours and the origins of the blocks. -/

theorem rdev_off2 (c : Dev nD) : rdev (k0_off2 (lit0 c) 0) = nb true c := by revert c; decide +kernel
theorem rdev_off3 (c : Dev nD) : rdev (k0_off3 (lit0 c) 0) = nb false c := by revert c; decide +kernel
theorem rdev_off65 (c : Dev nD) : rdev (k0_off65 (lit0 c) 0) = anti c := by revert c; decide +kernel
theorem rdev_offB (h : ℕ) (hh : h < 16) (c : Dev nD) : rdev (offB h (lit0 c) 0) = org true h c := by
  have : ∀ (h : Fin 16) (c : Dev nD), rdev (offB h.val (lit0 c) 0) = org true h.val c := by decide +kernel
  exact this ⟨h, hh⟩ c
theorem rdev_offA (h : ℕ) (hh : h < 16) (c : Dev nD) : rdev (offA h (lit0 c) 0) = org false h c := by
  have : ∀ (h : Fin 16) (c : Dev nD), rdev (offA h.val (lit0 c) 0) = org false h.val c := by decide +kernel
  exact this ⟨h, hh⟩ c
/-- Fifteen hops do not reach the opposite device; sixteen do, either way. -/
theorem org_ne_anti (d : Bool) (h : ℕ) (hh : h < 16) (c : Dev nD) : org d h c ≠ anti c := by
  have : ∀ (d : Bool) (h : Fin 16) (c : Dev nD), org d h.val c ≠ anti c := by decide +kernel
  exact this d ⟨h, hh⟩ c
theorem org_anti (d : Bool) (c : Dev nD) : org d 16 c = anti c := by revert c d; decide +kernel
/-- Every device is the origin of a block that arrives, or the opposite one. -/
theorem covered (c e : Dev nD) : e = anti c ∨ ∃ d : Bool, ∃ h : Fin 16, e = org d h.val c := by revert c e; decide +kernel

end Cert.RingProof
end
-- ==== Proof.Ring.Text.lean ====
/-
The kernel's body as one sequence of the steps of its protocol. The printed body is cut by statement count into
parts that do not fall on the hops; here it is written hop by hop, each step once for both directions and both
slots, and `body_eq` says that the two are the same program.
-/
module

public import proofs.«01_k».proof.Proof.Ring.Tables

@[expose] public section

set_option maxRecDepth 16384

noncomputable section

namespace Cert.RingProof

open Cert.KernelIdeal Cert.KernelIdeal.Gen
open Idealize.ShloMosaic Idealize.ShloMosaic.TcCoe
open Idealize.SL Idealize.SL.Sem

variable {F : FTy → Type} [FloatOps F]

/-- A program of the core, and what it leaves to a continuation. -/
abbrev Txt (F : FTy → Type) [FloatOps F] := Prog (TpuEff nD τ sig (Elt F) Λ₀ .tc) PUnit

/-! ## The buffers and the semaphores

A direction is a `Bool`: `true` is the stream that travels to the right neighbour (scratch operands 5, 7, 9 and the
semaphores 11, 12, 15), `false` the one that travels to the left neighbour (6, 8, 10 and 13, 14, 16). -/

/-- The two tables in scalar memory: device to ring position, ring position to device. -/
abbrev posT : Memref sig .tc .smem S32 .i32 := Memref.whole cc0_stg0_0
abbrev devT : Memref sig .tc .smem S32 .i32 := Memref.whole cc0_stg1_0
/-- The blocks of `x`, of `w` and of the result. -/
abbrev xM : Memref sig .tc .vmem S256x8192 .bf16 := Memref.whole cc0_stg2_0
abbrev wM : Memref sig .tc .vmem S8192x128 .bf16 := Memref.whole cc0_stg3_0
abbrev oM : Memref sig .tc .vmem S8192x128 .f32 := Memref.whole cc0_stg4_0

/-- The two-slot buffer of a direction. -/
def bufM (d : Bool) : Memref sig .tc .vmem S2x256x8192 .bf16 :=
  match d with | true => Memref.whole cc0_scratch0 | false => Memref.whole cc0_scratch1
/-- The half block a direction sends at the last hop, and the one it receives. -/
def hsM (d : Bool) : Memref sig .tc .vmem S128x8192 .bf16 :=
  match d with | true => Memref.whole cc0_scratch2 | false => Memref.whole cc0_scratch3
def hrM (d : Bool) : Memref sig .tc .vmem S128x8192 .bf16 :=
  match d with | true => Memref.whole cc0_scratch4 | false => Memref.whole cc0_scratch5

theorem bufM_whole (d : Bool) : (bufM d).IsWhole := by cases d <;> exact Memref.isWhole_whole _
theorem hsM_whole (d : Bool) : (hsM d).IsWhole := by cases d <;> exact Memref.isWhole_whole _
theorem hrM_whole (d : Bool) : (hrM d).IsWhole := by cases d <;> exact Memref.isWhole_whole _

/-- A hop's parity: the slot it sends from; the next hop's is the slot it receives in. -/
def par (h : ℕ) : Fin 2 := ⟨h % 2, Nat.mod_lt _ (by decide)⟩

/-- The semaphores: a slot's send and receive completions, a direction's credit, the barrier. -/
def sendS (d : Bool) (k : Fin 2) : DmaSem sig :=
  match d with | true => ⟨5 + k.val, by show 5 + k.val < 13; omega⟩ | false => ⟨9 + k.val, by show 9 + k.val < 13; omega⟩
def recvS (d : Bool) (k : Fin 2) : DmaSem sig :=
  match d with | true => ⟨7 + k.val, by show 7 + k.val < 13; omega⟩ | false => ⟨11 + k.val, by show 11 + k.val < 13; omega⟩
def credS (d : Bool) : Sem sig := match d with | true => ⟨0, by decide⟩ | false => ⟨1, by decide⟩
abbrev barS : Sem sig := ⟨2, by decide⟩

theorem slot_inb (k : Fin 2) : ∀ a, (![k.val, 0, 0] : Fin 3 → ℕ) a + S1x256x8192.size a ≤ S2x256x8192.size a := by
  fin_cases k <;> decide

/-- The rectangle of a slot. -/
abbrev slotR (k : Fin 2) : Rect S2x256x8192 := Rect.unit (s := S2x256x8192) ![k.val, 0, 0] S1x256x8192.size (slot_inb k)
/-- A slot of a direction's buffer, as a matrix. -/
def slotM (d : Bool) (k : Fin 2) : Memref sig .tc .vmem S256x8192 .bf16 :=
  ((bufM d).slice (slotR k) (fun _ => rfl)).squeeze S256x8192 squeezes_S1x256x8192_S256x8192

theorem slotM_wordExact (d : Bool) (k : Fin 2) : (slotM d k).view.WordExact := by
  unfold slotM
  fin_cases k
  · exact ((bufM_whole d).wordExact_slice rfl _ wordsbf16_S2x256x8192_S1x256x8192_0_0_0).reshape _ _
  · exact ((bufM_whole d).wordExact_slice rfl _ wordsbf16_S2x256x8192_S1x256x8192_1_0_0).reshape _ _

/-- The whole block of `x` and of `w`, the two half rectangles of slot 1, a whole half buffer. -/
abbrev xR : Rect S256x8192 := Rect.unit (s := S256x8192) ![0, 0] S256x8192.size inb_S256x8192_S256x8192_0_0
abbrev wR : Rect S8192x128 := Rect.unit (s := S8192x128) ![0, 0] S8192x128.size inb_S8192x128_S8192x128_0_0
abbrev hR : Rect S128x8192 := Rect.unit (s := S128x8192) ![0, 0] S128x8192.size inb_S128x8192_S128x8192_0_0

theorem half_inb (d : Bool) : ∀ a, (![1, cond d 0 128, 0] : Fin 3 → ℕ) a + S1x128x8192.size a ≤ S2x256x8192.size a := by
  cases d <;> decide
/-- The half of slot 1 that a direction sends on at the last hop: the upper rows to the right, the lower to the left. -/
abbrev halfR (d : Bool) : Rect S2x256x8192 := Rect.unit (s := S2x256x8192) ![1, cond d 0 128, 0] S1x128x8192.size (half_inb d)

/-! ## The steps -/

/-- Wait for the next credit of a direction. -/
def waitCred (d : Bool) (K : Txt F) : Txt F := .op (.semWait (credS d) (1#32 : BitVec 32).toInt) fun _ => K
/-- Hand a direction's credit to the neighbour it receives from. -/
def sigCred (d : Bool) (e : Dev nD) (K : Txt F) : Txt F := .op (.semSignal (Dev.tc e) (credS d) (1#32 : BitVec 32).toInt) fun _ => K
/-- Send slot `k` to the neighbour's slot `k'`. -/
def sendSlot (d : Bool) (k k' : Fin 2) (e : Dev nD) (K : Txt F) : Txt F :=
  .op (.enqueueDma (slotM d k) (.remote (Dev.tc e) (slotM d k') (.dma (sendS d k))) (.dma (recvS d k'))
    (slotM_wordExact d k) (slotM_wordExact d k') ⟨⟨rfl, Or.inl rfl⟩, trivial⟩) fun _ => K
/-- Wait until slot `k` has left. -/
def waitSent (d : Bool) (k k' : Fin 2) (K : Txt F) : Txt F :=
  .op (.waitDma2 (sendS d k) (slotM d k') (slotM d k) (slotM_wordExact d k') (slotM_wordExact d k)) fun _ => K
/-- Wait until slot `k'` has been filled. -/
def waitLanded (d : Bool) (k k' : Fin 2) (K : Txt F) : Txt F :=
  .op (.waitDma2 (recvS d k') (slotM d k) (slotM d k') (slotM_wordExact d k) (slotM_wordExact d k')) fun _ => K

/-- Multiply slot `k` by the weights and store the product's 256 rows at `off`. -/
def gemmAt (d : Bool) (k : Fin 2) (off : Fin 2 → ℕ) (inb : ∀ a, off a + S256x128.size a ≤ S8192x128.size a) (K : Txt F) : Txt F :=
  .op (.load (bufM d) (slotR k).toLoadRect (View.loadsAt_vmem h_S1x256x8192)) fun x =>
  .op (.load wM wR.toLoadRect (View.loadsAt_vmem h_S8192x128)) fun y =>
  .op (.load oM (Rect.unit (s := S8192x128) off S256x128.size inb).toLoadRect (View.loadsAt_vmem h_S256x128)) fun _ =>
  .op (.store oM (Rect.unit (s := S8192x128) off S256x128.size inb) (k0_pay6 x y) Finset.univ
    (View.stores_vmem_bits_univ h_S256x128 rfl) (.inl rfl)) fun _ => K
/-- Look up the device of a ring position and multiply slot `k` into that device's rows. -/
def gemm (d : Bool) (k : Fin 2) (off : Fin 1 → ℕ) (inb : ∀ a, off a + S1.size a ≤ S32.size a) (K : Txt F) : Txt F :=
  smemLoadElt devT (Rect.unit (s := S32) off S1.size inb) (View.loads_smem_one rfl numel1_S1) (Shape.Idx.first (numel1_S1.symm ▸ Nat.one_pos)) fun w =>
  .op (TpuEff.assume (k0_chk4 w) (k0_chk4.dec w)) fun hw =>
  gemmAt d k (k0_off6 w) (k0_off6_inb w hw.down) K

/-- A hop from 1 to 14. -/
def hop (h : ℕ) (offR : Fin 1 → ℕ) (inbR : ∀ a, offR a + S1.size a ≤ S32.size a)
    (offL : Fin 1 → ℕ) (inbL : ∀ a, offL a + S1.size a ≤ S32.size a) (dr dl : Dev nD) (K : Txt F) : Txt F :=
  waitCred true <| waitCred false <|
  sendSlot true (par h) (par (h + 1)) dr <| sendSlot false (par h) (par (h + 1)) dl <|
  gemm true (par h) offR inbR <| gemm false (par h) offL inbL <|
  waitSent true (par h) (par (h + 1)) <| waitSent false (par h) (par (h + 1)) <|
  sigCred true dl <| sigCred false dr <|
  waitLanded true (par h) (par (h + 1)) <| waitLanded false (par h) (par (h + 1)) K

/-- `n` hops from hop `h` on. -/
def hops (v : BitVec 32) (dr dl : Dev nD) (K : Txt F) : ℕ → ℕ → Txt F
  | 0, _ => K
  | n + 1, h => hop h (offB h v) (offB_inb h v) (offA h v) (offA_inb h v) dr dl (hops v dr dl K n (h + 1))

/-- Copy the device's own block into slot 0 of a direction's buffer. -/
def fill (d : Bool) (K : Txt F) : Txt F :=
  .op (.load xM xR.toLoadRect (View.loadsAt_vmem h_S256x8192)) fun x =>
  .op (.load (bufM d) (slotR 0).toLoadRect (View.loadsAt_vmem h_S1x256x8192)) fun _ =>
  .op (.store (bufM d) (slotR 0) (k0_pay3 x) Finset.univ
    (View.stores_vmem h_S1x256x8192 ((bufM_whole d).storeExact_slice rfl _ packedbf16_S2x256x8192_S1x256x8192_0_0_0) (fun _ => rfl)) (.inl rfl)) fun _ => K

/-- Hop 0: the device's own block goes both ways and is multiplied once. -/
def hop0 (c : Dev nD) (dr dl : Dev nD) (K : Txt F) : Txt F :=
  fill true <| fill false <|
  sendSlot true (par 0) (par 1) dr <| sendSlot false (par 0) (par 1) dl <|
  gemmAt true (par 0) (k0_off4 c) (k0_off4_inb c) <|
  waitSent true (par 0) (par 1) <| waitSent false (par 0) (par 1) <|
  sigCred true dl <| sigCred false dr <|
  waitLanded true (par 0) (par 1) <| waitLanded false (par 0) (par 1) K

/-- Copy the half that a direction sends on into its own buffer. -/
def cut (d : Bool) (K : Txt F) : Txt F :=
  .op (.load (bufM d) (halfR d).toLoadRect (View.loadsAt_vmem h_S1x128x8192)) fun x =>
  .op (.load (hsM d) hR.toLoadRect (View.loadsAt_vmem h_S128x8192)) fun _ =>
  .op (.store (hsM d) hR (k0_pay38 x) Finset.univ
    (View.stores_vmem h_S128x8192 ((hsM_whole d).storeExact_slice rfl _ packedbf16_S128x8192_S128x8192_0_0) (fun _ => rfl)) (.inl rfl)) fun _ => K
/-- Send the half to the neighbour. -/
def sendHalf (d : Bool) (e : Dev nD) (K : Txt F) : Txt F :=
  .op (.enqueueDma (hsM d) (.remote (Dev.tc e) (hrM d) (.dma (sendS d 1))) (.dma (recvS d 0))
    (hsM_whole d).wordExact (hrM_whole d).wordExact ⟨⟨rfl, Or.inl rfl⟩, trivial⟩) fun _ => K
def waitHalfSent (d : Bool) (K : Txt F) : Txt F :=
  .op (.waitDma2 (sendS d 1) (hrM d) (hsM d) (hrM_whole d).wordExact (hsM_whole d).wordExact) fun _ => K
def waitHalfLanded (d : Bool) (K : Txt F) : Txt F :=
  .op (.waitDma2 (recvS d 0) (hsM d) (hrM d) (hsM_whole d).wordExact (hrM_whole d).wordExact) fun _ => K
/-- Multiply the received half by the weights and store the product's 128 rows at `off`. -/
def gemmHalf (d : Bool) (off : Fin 2 → ℕ) (inb : ∀ a, off a + S128x128.size a ≤ S8192x128.size a) (K : Txt F) : Txt F :=
  .op (.load (hrM d) hR.toLoadRect (View.loadsAt_vmem h_S128x8192)) fun x =>
  .op (.load wM wR.toLoadRect (View.loadsAt_vmem h_S8192x128)) fun y =>
  .op (.load oM (Rect.unit (s := S8192x128) off S128x128.size inb).toLoadRect (View.loadsAt_vmem h_S128x128)) fun _ =>
  .op (.store oM (Rect.unit (s := S8192x128) off S128x128.size inb) (k0_pay1 x y) Finset.univ
    (View.stores_vmem_bits_univ h_S128x128 rfl) (.inl rfl)) fun _ => K

/-- Hop 15: half a block each way, while the blocks of slot 1 are multiplied. -/
def hop15 (v : BitVec 32) (dr dl : Dev nD) (K : Txt F) : Txt F :=
  waitCred true <| waitCred false <|
  cut true <| cut false <|
  sendHalf true dr <| sendHalf false dl <|
  gemm true (par 15) (offB 15 v) (offB_inb 15 v) <| gemm false (par 15) (offA 15 v) (offA_inb 15 v) <|
  waitHalfSent true <| waitHalfSent false <| waitHalfLanded true <| waitHalfLanded false K

/-- The two halves of the opposite device's block. -/
def tail (v : BitVec 32) (hv : k0_chk1 v) : Txt F :=
  smemLoadElt devT (Rect.unit (s := S32) (k0_off65 v) S1.size (k0_off65_inb v hv)) (View.loads_smem_one rfl numel1_S1) (Shape.Idx.first (numel1_S1.symm ▸ Nat.one_pos)) fun w =>
  .op (TpuEff.assume (k0_chk34 w) (k0_chk34.dec w)) fun hw =>
  gemmHalf true (k0_off66 w) (k0_off66_inb w hw.down) <| gemmHalf false (k0_off67 w) (k0_off67_inb w hw.down) <| .ret ⟨⟩

/-- The entry barrier with the two neighbours. -/
def enter (dr dl : Dev nD) (K : Txt F) : Txt F :=
  .op (.semSignal (Dev.tc dl) barS (1#32 : BitVec 32).toInt) fun _ => .op (.semSignal (Dev.tc dr) barS (1#32 : BitVec 32).toInt) fun _ =>
  .op (.semWait barS (2#32 : BitVec 32).toInt) fun _ => K

/-- The body: the neighbours looked up, the barrier, the sixteen hops, the opposite device's rows. -/
def body : Txt F :=
  .op .deviceId fun c =>
  smemLoadElt posT (Rect.unit (s := S32) (k0_off1 c) S1.size (k0_off1_inb c)) (View.loads_smem_one rfl numel1_S1) (Shape.Idx.first (numel1_S1.symm ▸ Nat.one_pos)) fun v =>
  .op (TpuEff.assume (k0_chk1 v) (k0_chk1.dec v)) fun hv =>
  smemLoadElt devT (Rect.unit (s := S32) (k0_off2 v) S1.size (k0_off2_inb v hv.down)) (View.loads_smem_one rfl numel1_S1) (Shape.Idx.first (numel1_S1.symm ▸ Nat.one_pos)) fun r =>
  .op (TpuEff.assume (k0_chk3 r) (k0_chk3.dec r)) fun hr =>
  smemLoadElt devT (Rect.unit (s := S32) (k0_off3 v) S1.size (k0_off3_inb v hv.down)) (View.loads_smem_one rfl numel1_S1) (Shape.Idx.first (numel1_S1.symm ▸ Nat.one_pos)) fun l =>
  .op (TpuEff.assume (k0_chk2 l) (k0_chk2.dec l)) fun hl =>
  enter ⟨k0_dev2 r, k0_dev2_lt r hr.down⟩ ⟨k0_dev1 l, k0_dev1_lt l hl.down⟩ <|
  hop0 c ⟨k0_dev2 r, k0_dev2_lt r hr.down⟩ ⟨k0_dev1 l, k0_dev1_lt l hl.down⟩ <|
  hops v ⟨k0_dev2 r, k0_dev2_lt r hr.down⟩ ⟨k0_dev1 l, k0_dev1_lt l hl.down⟩
    (hop15 v ⟨k0_dev2 r, k0_dev2_lt r hr.down⟩ ⟨k0_dev1 l, k0_dev1_lt l hl.down⟩ (tail v hv.down)) 14 1

set_option maxRecDepth 100000 in
set_option maxHeartbeats 4000000 in
/-- The printed body, on the staging buffers and the scratch operands, is that sequence. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11 = body := by
  rfl

end Cert.RingProof

end
-- ==== Proof.Ring.Protocol.lean ====
/-
The protocol of the ring, written down: per semaphore of a device who waits on it, who pays it, how much, in what order,
and what each payment hands over.

A device `c` is joined to `nb true c` on its right and `nb false c` on its left. In direction `d` it sends to `nb d c` and
receives from `nb (!d) c`. Hop `h` sends slot `par h` of the two-slot buffer into slot `par (h + 1)` of the neighbour; the
last hop, 15, sends a half buffer into a half buffer, on the same semaphores.

* barrier: one unit from each neighbour at entry. The neighbour `nb d c` says with it that slot 1 of its buffer of direction `d`
  is free for the first copy, hands over its half buffer `hr`, and says that its own credit cell (of the other direction) is open.
* credit of direction `d`: one unit from `nb d c` after each of its hops 0 … 14. Two of them may be outstanding, and a wait for one
  unit does not tell which one it took; so unit `j` repeats all that the units before it said: for every hop `i ≤ j`, that the
  slot hop `i` writes has been released. These facts are persistent; the slot itself is taken, once per hop, from an invariant.
* send completion of slot `k`: hop `h = 2 r + k` in round `r`: the share of the source that the copy held.
* receive completion of slot `k`: hop `h = 2 r + 1 - k` in round `r`: the slot, holding the block of the device `h + 1` hops away.
-/
module

public import proofs.«01_k».proof.Proof.Ring.Text
public import Idealize.ShloMosaic.Lib.Rounds
public import Idealize.ShloMosaic.Lib.Release
public import Idealize.ShloMosaic.Lib.Pipeline.Kit

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok)

variable {F : FTy → Type} [FloatOps F]

/-! ## The ghost state -/

/-- A slot of a device's buffer. -/
abbrev Key : Type := Dev nD × Bool × Fin 2
/-- The protocol's algebra: the rounds of its semaphores, the releases of its slots. -/
abbrev UT : Type := URounds (GSem nD τ sig) ℕ × USlots Key
abbrev UU : Type := UR sig nD τ × UT

/-- The machine's algebra with them. -/
abbrev MM (F : FTy → Type) : Type := MT nD τ sig ℕ (Elt F) ℕ UU ℕ
local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) :=
  (Emb.inl : Emb (URounds (GSem nD τ sig) ℕ) UT).trans embR
def EL : Emb (USlots Key) (MT nD τ sig ℕ (Elt F) ℕ UU ℕ) := (Emb.inr : Emb (USlots Key) UT).trans embR

instance ER_landsIn : (ER : Emb _ 𝕄).LandsIn (upEmb : UEmb _ 𝕄) := by unfold ER; infer_instance
instance EL_landsIn : (EL : Emb _ 𝕄).LandsIn (upEmb : UEmb _ 𝕄) := by unfold EL; infer_instance

/-! ## The cells -/

inductive Kind where
  | bar
  | cred (d : Bool)
  | send (d : Bool) (k : Fin 2)
  | recv (d : Bool) (k : Fin 2)
  | other
deriving DecidableEq

/-- Which of the protocol's semaphores a semaphore is. -/
def kind : SemLoc sig → Kind
  | .reg s => if s.val = 0 then .cred true else if s.val = 1 then .cred false else .bar
  | .dma s =>
    if s.val < 5 then .other
    else if s.val < 7 then .send true (par (s.val - 5))
    else if s.val < 9 then .recv true (par (s.val - 7))
    else if s.val < 11 then .send false (par (s.val - 9))
    else .recv false (par (s.val - 11))

abbrev barC (c : Dev nD) : GSem nD τ sig := ((c : Thread nD τ), .reg barS)
abbrev credC (c : Dev nD) (d : Bool) : GSem nD τ sig := ((c : Thread nD τ), .reg (credS d))
abbrev sendC (c : Dev nD) (d : Bool) (k : Fin 2) : GSem nD τ sig := ((c : Thread nD τ), .dma (sendS d k))
abbrev recvC (c : Dev nD) (d : Bool) (k : Fin 2) : GSem nD τ sig := ((c : Thread nD τ), .dma (recvS d k))

theorem kind_bar : kind (.reg barS) = .bar := by decide
theorem kind_cred (d : Bool) : kind (.reg (credS d)) = .cred d := by cases d <;> decide
theorem kind_send (d : Bool) (k : Fin 2) : kind (.dma (sendS d k)) = .send d k := by revert d k; decide
theorem kind_recv (d : Bool) (k : Fin 2) : kind (.dma (recvS d k)) = .recv d k := by revert d k; decide

/-! ## Contents -/

/-- A block of `x`, and a half of one. -/
abbrev XVec (F : FTy → Type) : Type := S256x8192.Idx → Elt F .bf16
abbrev HVec (F : FTy → Type) : Type := S128x8192.Idx → Elt F .bf16

/-- Device `c` holds the share `q` of the elements of `M`, which read `X`. -/
def holds {sp : Space} {s : Shape} {e : EltTy} (M : Memref sig .tc sp s e) (c : Dev nD) (q : PosShare TreeShare) (X : s.Idx → Elt F e) : sProp 𝕄 :=
  iprop(∃ f : Buf (Elt F) (M.view.loc (c : Thread nD τ)), ⌜M.view.read (Elt F) f = X⌝ ∗ (M.view.loc (c : Thread nD τ) ↦[M.view.set]{q} f))
/-- Device `c` holds the elements of `M`, at some contents. -/
def anyOf {sp : Space} {s : Shape} {e : EltTy} (M : Memref sig .tc sp s e) (c : Dev nD) : sProp 𝕄 :=
  iprop(∃ f : Buf (Elt F) (M.view.loc (c : Thread nD τ)), (M.view.loc (c : Thread nD τ) ↦[M.view.set]{fullShare} f))

instance holds_storable {sp : Space} {s : Shape} {e : EltTy} (M : Memref sig .tc sp s e) (c : Dev nD) (q : PosShare TreeShare) (X : s.Idx → Elt F e) :
    BI.Storable (upEmb : UEmb _ 𝕄) (holds M c q X) := by unfold holds; infer_instance
instance anyOf_storable {sp : Space} {s : Shape} {e : EltTy} (M : Memref sig .tc sp s e) (c : Dev nD) :
    BI.Storable (upEmb : UEmb _ 𝕄) (anyOf (F := F) M c) := by unfold anyOf; infer_instance

theorem holds_any {sp : Space} {s : Shape} {e : EltTy} (M : Memref sig .tc sp s e) (c : Dev nD) (X : s.Idx → Elt F e) :
    holds M c fullShare X ⊢ (anyOf (F := F) M c : sProp 𝕄) := by
  unfold holds anyOf
  iintro ⟨%f, -, H⟩
  iexists f; iexact H

/-- A holding splits into two halves … -/
theorem holds_split {sp : Space} {s : Shape} {e : EltTy} (M : Memref sig .tc sp s e) (c : Dev nD) (X : s.Idx → Elt F e) :
    holds M c fullShare X ⊢ (iprop(holds M c (PosShare.left fullShare) X ∗ holds M c (PosShare.right fullShare) X) : sProp 𝕄) := by
  unfold holds
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2
/-- … which join again. -/
theorem holds_join {sp : Space} {s : Shape} {e : EltTy} (M : Memref sig .tc sp s e) (c : Dev nD) (X : s.Idx → Elt F e) :
    (iprop(holds M c (PosShare.left fullShare) X ∗ holds M c (PosShare.right fullShare) X) : sProp 𝕄) ⊢ holds M c fullShare X := by
  unfold holds
  iintro ⟨⟨%f, %hf, H1⟩, ⟨%g, %hg, H2⟩⟩
  ihave %ha := pointsTo_agree $$ [H1 H2]
  · isplitl [H1] <;> iassumption
  ihave H2 := (Entails.of_eq (pointsTo_congr (g := f) fun i hi => ((ha i (Finset.mem_inter.2 ⟨hi, hi⟩)).1).symm)) $$ H2
  iexists f
  isplitr; · ipureintro; exact hf
  iapply (pointsTo_share (PosShare.mem_left_op_right fullShare)).2
  isplitl [H1] <;> iassumption

/-- Row `i` of a direction's half block, in the block. -/
def halfRow (d : Bool) (i : S128x8192.Idx) : S256x8192.Idx
  | 0 => ⟨(i 0).val + cond d 0 128, by have : (i 0).val < 128 := (i 0).isLt; show _ < 256; cases d <;> simp <;> omega⟩
  | 1 => ⟨(i 1).val, (i 1).isLt⟩
/-- The half of a block that a direction carries at the last hop. -/
def half (d : Bool) (X : XVec F) : HVec F := fun i => X (halfRow d i)

/-! ## Amounts -/

/-- What the copy of a slot, and of a half block, credits. -/
def amtSlot : ℕ := (slotM true 0).view.dmaCredit
def amtHalf : ℕ := (hrM true).view.dmaCredit
def amt (h : ℕ) : ℕ := if h = 15 then amtHalf else amtSlot

theorem credit_slot (d : Bool) (k : Fin 2) : (slotM d k).view.dmaCredit = amtSlot := by
  cases d <;> fin_cases k <;> rfl
theorem credit_hr (d : Bool) : (hrM d).view.dmaCredit = amtHalf := by cases d <;> rfl
theorem credit_hs (d : Bool) : (hsM d).view.dmaCredit = amtHalf := by cases d <;> rfl
theorem amt_pos (h : ℕ) : 0 < amt h := by
  unfold amt
  split
  · exact View.dmaCredit_pos _ (by decide)
  · exact View.dmaCredit_pos _ (by decide)

/-! ## What is said and handed over -/

/-- The invariant's key of slot `k`. -/
abbrev slotK (e : Dev nD) (d : Bool) (k : Fin 2) : Key := (e, d, k)

/-- The slot that hop `i` writes on `e` has been released, and `e` is past its earlier landings. -/
def free (e : Dev nD) (d : Bool) (i : ℕ) : sProp 𝕄 :=
  iprop(released EL (slotK e d (par (i + 1))) ((i + 2) / 2) ∗ reached ER (recvC e d (par (i + 1))) (i / 2))
/-- So for the first `n` hops. -/
def frees (e : Dev nD) (d : Bool) (n : ℕ) : sProp 𝕄 := bigSep (Finset.range n) fun i => free (F := F) e d i
/-- What the neighbour `e = nb d c` pays into the barrier of `c`. -/
def barPay (e : Dev nD) (d : Bool) : sProp 𝕄 :=
  iprop(free (F := F) e d 0 ∗ anyOf (F := F) (hrM d) e ∗ reached ER (credC e (!d)) 0)

instance free_persistent (e : Dev nD) (d : Bool) (i : ℕ) : BI.Persistent (free (F := F) e d i) := by unfold free; infer_instance
instance free_storable (e : Dev nD) (d : Bool) (i : ℕ) : BI.Storable (upEmb : UEmb _ 𝕄) (free (F := F) e d i) := by unfold free; infer_instance
instance frees_persistent (e : Dev nD) (d : Bool) (n : ℕ) : BI.Persistent (frees (F := F) e d n) := by unfold frees; infer_instance
instance frees_storable (e : Dev nD) (d : Bool) (n : ℕ) : BI.Storable (upEmb : UEmb _ 𝕄) (frees (F := F) e d n) := by unfold frees; infer_instance
instance barPay_storable (e : Dev nD) (d : Bool) : BI.Storable (upEmb : UEmb _ 𝕄) (barPay (F := F) e d) := by unfold barPay; infer_instance

variable (X : Dev nD → XVec F)

/-- What hop `h` of direction `d` gives back to its sender `c` … -/
def sendPay (d : Bool) (h : ℕ) (c : Dev nD) : sProp 𝕄 :=
  if h = 15 then holds (hsM d) c fullShare (half d (X (org d 15 c))) else holds (slotM d (par h)) c (PosShare.left fullShare) (X (org d h c))
/-- … and to its receiver `e`. -/
def recvPay (d : Bool) (h : ℕ) (e : Dev nD) : sProp 𝕄 :=
  if h = 15 then holds (hrM d) e fullShare (half d (X (org d 16 e))) else holds (slotM d (par (h + 1))) e fullShare (X (org d (h + 1) e))

instance sendPay_storable (d : Bool) (h : ℕ) (c : Dev nD) : BI.Storable (upEmb : UEmb _ 𝕄) (sendPay X d h c) := by
  unfold sendPay; split <;> infer_instance
instance recvPay_storable (d : Bool) (h : ℕ) (c : Dev nD) : BI.Storable (upEmb : UEmb _ 𝕄) (recvPay X d h c) := by
  unfold recvPay; split <;> infer_instance

/-- The duties of a cell's rounds. -/
def duties (g : GSem nD τ sig) (r : ℕ) : Finset ℕ :=
  if g.1.2 = .tc then
    match kind g.2 with
    | .bar => if r = 0 then {0, 1} else ∅
    | .cred _ => if r = 0 then Finset.Icc 1 15 else ∅
    | .send _ _ => if r < 8 then {0} else ∅
    | .recv _ _ => if r < 8 then {0} else ∅
    | .other => ∅
  else ∅
/-- What a duty adds to the counter. -/
def amount (g : GSem nD τ sig) (r : ℕ) : ℕ :=
  match kind g.2 with
  | .send _ k => amt (2 * r + k.val)
  | .recv _ k => amt (2 * r + 1 - k.val)
  | _ => 1
/-- What it hands over. -/
def payload (g : GSem nD τ sig) (r j : ℕ) : sProp 𝕄 :=
  match kind g.2 with
  | .bar => barPay (nb (decide (j = 1)) g.1.1) (decide (j = 1))
  | .cred d => frees (nb d g.1.1) d (j + 1)
  | .send d k => sendPay X d (2 * r + k.val) g.1.1
  | .recv d k => recvPay X d (2 * r + 1 - k.val) g.1.1
  | .other => iprop(emp)

/-- The schedule of all cells. -/
def Rd : Rounds.Schedule (GSem nD τ sig) ℕ 𝕄 where
  duties := duties
  unitless _ := False
  amount g r _ := amount g r
  payload g r j := payload X g r j
  amount_pos g r j _ := by
    show 0 < amount g r
    unfold amount
    split
    · exact amt_pos _
    · exact amt_pos _
    · exact Nat.one_pos

instance payload_storable (g : GSem nD τ sig) (r j : ℕ) : BI.Storable (upEmb : UEmb _ 𝕄) ((Rd X).payload g r j) := by
  show BI.Storable upEmb (payload X g r j)
  unfold payload
  split <;> infer_instance

/-! ## The schedule at its cells -/

theorem Rd_duties (g : GSem nD τ sig) (r : ℕ) : (Rd X).duties g r = duties g r := rfl
theorem Rd_amount (g : GSem nD τ sig) (r j : ℕ) : (Rd X).amount g r j = amount g r := rfl
theorem Rd_payload (g : GSem nD τ sig) (r j : ℕ) : (Rd X).payload g r j = payload X g r j := rfl

section Cells
variable (c : Dev nD) (d : Bool)

theorem duties_bar : (Rd X).duties (barC c) 0 = {0, 1} := by
  rw [Rd_duties]; unfold duties; rw [if_pos rfl]; simp only [kind_bar]; rfl
theorem duties_cred : (Rd X).duties (credC c d) 0 = Finset.Icc 1 15 := by
  rw [Rd_duties]; unfold duties; rw [if_pos rfl]; simp only [kind_cred]; rfl
theorem duties_send {r : ℕ} (hr : r < 8) (k : Fin 2) : (Rd X).duties (sendC c d k) r = {0} := by
  rw [Rd_duties]; unfold duties; rw [if_pos rfl]; simp only [kind_send, if_pos hr]
theorem duties_recv {r : ℕ} (hr : r < 8) (k : Fin 2) : (Rd X).duties (recvC c d k) r = {0} := by
  rw [Rd_duties]; unfold duties; rw [if_pos rfl]; simp only [kind_recv, if_pos hr]
theorem later_bar (r : ℕ) (hr : 1 ≤ r) : (Rd X).duties (barC c) r = ∅ := by
  rw [Rd_duties]; unfold duties; rw [if_pos rfl]; simp only [kind_bar]; exact if_neg (by omega)
theorem later_cred (r : ℕ) (hr : 1 ≤ r) : (Rd X).duties (credC c d) r = ∅ := by
  rw [Rd_duties]; unfold duties; rw [if_pos rfl]; simp only [kind_cred]; exact if_neg (by omega)
theorem later_send (k : Fin 2) (r : ℕ) (hr : 8 ≤ r) : (Rd X).duties (sendC c d k) r = ∅ := by
  rw [Rd_duties]; unfold duties; rw [if_pos rfl]; simp only [kind_send]; exact if_neg (by omega)
theorem later_recv (k : Fin 2) (r : ℕ) (hr : 8 ≤ r) : (Rd X).duties (recvC c d k) r = ∅ := by
  rw [Rd_duties]; unfold duties; rw [if_pos rfl]; simp only [kind_recv]; exact if_neg (by omega)

theorem amount_bar (r j : ℕ) : (Rd X).amount (barC c) r j = 1 := by
  rw [Rd_amount]; unfold amount; simp only [kind_bar]
theorem amount_cred (r j : ℕ) : (Rd X).amount (credC c d) r j = 1 := by
  rw [Rd_amount]; unfold amount; simp only [kind_cred]
theorem amount_send (h j : ℕ) : (Rd X).amount (sendC c d (par h)) (h / 2) j = amt h := by
  rw [Rd_amount]; unfold amount; simp only [kind_send]
  exact congrArg amt (by show 2 * (h / 2) + h % 2 = h; omega)
theorem amount_recv (h j : ℕ) : (Rd X).amount (recvC c d (par (h + 1))) (h / 2) j = amt h := by
  rw [Rd_amount]; unfold amount; simp only [kind_recv]
  exact congrArg amt (by show 2 * (h / 2) + 1 - (h + 1) % 2 = h; omega)

theorem payload_bar : (Rd X).payload (barC c) 0 (cond d 1 0) = barPay (nb d c) d := by
  rw [Rd_payload]; unfold payload; simp only [kind_bar]
  cases d <;> rfl
theorem payload_cred (j : ℕ) : (Rd X).payload (credC c d) 0 j = frees (nb d c) d (j + 1) := by
  rw [Rd_payload]; unfold payload; simp only [kind_cred]
theorem payload_send (h j : ℕ) : (Rd X).payload (sendC c d (par h)) (h / 2) j = sendPay X d h c := by
  rw [Rd_payload]; unfold payload; simp only [kind_send]
  exact congrArg (fun i => sendPay X d i c) (by show 2 * (h / 2) + h % 2 = h; omega)
theorem payload_recv (h j : ℕ) : (Rd X).payload (recvC c d (par (h + 1))) (h / 2) j = recvPay X d h c := by
  rw [Rd_payload]; unfold payload; simp only [kind_recv]
  exact congrArg (fun i => recvPay X d i c) (by show 2 * (h / 2) + 1 - (h + 1) % 2 = h; omega)

theorem expect_bar : (Rd X).expect (barC c) 0 = 2 := by
  unfold Schedule.expect Schedule.amountOf; rw [duties_bar]; simp only [amount_bar]; rfl
theorem expect_cred : (Rd X).expect (credC c d) 0 = 15 := by
  unfold Schedule.expect Schedule.amountOf; rw [duties_cred]; simp only [amount_cred]; rfl
theorem expect_send (h : ℕ) (hh : h < 16) : (Rd X).expect (sendC c d (par h)) (h / 2) = amt h := by
  unfold Schedule.expect Schedule.amountOf; rw [duties_send X c d (by omega), Finset.sum_singleton, amount_send]
theorem expect_recv (h : ℕ) (hh : h < 16) : (Rd X).expect (recvC c d (par (h + 1))) (h / 2) = amt h := by
  unfold Schedule.expect Schedule.amountOf; rw [duties_recv X c d (by omega), Finset.sum_singleton, amount_recv]

end Cells

/-! ## What a device owes; the levels -/

/-- The landing of hop `h` on the neighbour. -/
def arr (d : Bool) (c : Dev nD) (h : ℕ) : CellTallies nD τ sig ℕ := tallyAt (recvC (nb d c) d (par (h + 1))) h (amt h)
/-- Credit `j` to the device it receives from. -/
def crd (d : Bool) (c : Dev nD) (j : ℕ) : CellTallies nD τ sig ℕ := tallyAt (credC (nb (!d) c) d) j 1
/-- The landings from hop `a` on, the credits from `b` on. -/
def arrS (d : Bool) (a : ℕ) (c : Dev nD) : CellTallies nD τ sig ℕ := ∑ i ∈ Finset.Ico a 16, arr d c i
def crdS (d : Bool) (b : ℕ) (c : Dev nD) : CellTallies nD τ sig ℕ := ∑ j ∈ Finset.Ico b 16, crd d c j
/-- A unit of the barrier of the device that `c` receives direction `d` from. -/
def bard (d : Bool) (c : Dev nD) : CellTallies nD τ sig ℕ := tallyAt (barC (nb (!d) c)) 0 1

theorem Ico_peel {a b : ℕ} (h : a < b) : Finset.Ico a b = insert a (Finset.Ico (a + 1) b) := by
  ext i; simp only [Finset.mem_Ico, Finset.mem_insert]; omega
theorem arrS_peel (d : Bool) {a : ℕ} (ha : a < 16) (c : Dev nD) : arrS d a c = arrS d (a + 1) c + arr d c a := by
  unfold arrS; rw [Ico_peel ha, Finset.sum_insert (by simp), add_comm]
theorem crdS_peel (d : Bool) {b : ℕ} (hb : b < 16) (c : Dev nD) : crdS d b c = crdS d (b + 1) c + crd d c b := by
  unfold crdS; rw [Ico_peel hb, Finset.sum_insert (by simp), add_comm]
theorem arrS_end (d : Bool) (c : Dev nD) : arrS d 16 c = 0 := by unfold arrS; simp
theorem crdS_end (d : Bool) (c : Dev nD) : crdS d 16 c = 0 := by unfold crdS; simp

/-- The indices in use; the levels grow along the hops. -/
def L (g : GSem nD τ sig) : Finset ℕ := if g.1.2 = .tc then Finset.range 16 else ∅
def lv (g : GSem nD τ sig) (i : ℕ) : ℕ :=
  match kind g.2 with
  | .bar => 1
  | .cred _ => 10 * i + 2
  | .send _ _ => 10 * i + 3
  | .recv _ _ => 10 * i + 4
  | .other => 0

theorem L_of_ne (g : GSem nD τ sig) (h : g.1.2 ≠ .tc) : L g = ∅ := if_neg h
theorem mem_L (c : Dev nD) (sm : SemLoc sig) {i : ℕ} (hi : i < 16) : i ∈ L ((c : Thread nD τ), sm) := by
  unfold L; rw [if_pos rfl]; exact Finset.mem_range.2 hi

/-- All that is owed stands above level `n`. -/
def above (n : ℕ) (O : CellTallies nD τ sig ℕ) : Prop := ∀ g i, 0 < O g i → i ∈ L g ∧ n < lv g i

theorem above_add {n : ℕ} {O O' : CellTallies nD τ sig ℕ} (h : above n O) (h' : above n O') : above n (O + O') := by
  intro g i hg
  have hs : (O + O') g i = O g i + O' g i := rfl
  rw [hs] at hg
  rcases Nat.eq_zero_or_pos (O g i) with h0 | h0
  · exact h' g i (by omega)
  · exact h g i h0
theorem above_zero (n : ℕ) : above n 0 := fun g i h => absurd h (Nat.lt_irrefl 0)
theorem above_sum {n : ℕ} {s : Finset ℕ} {f : ℕ → CellTallies nD τ sig ℕ} (h : ∀ i ∈ s, above n (f i)) : above n (∑ i ∈ s, f i) := by
  induction s using Finset.induction_on with
  | empty => rw [Finset.sum_empty]; exact above_zero n
  | insert i s hi ih =>
    rw [Finset.sum_insert hi]
    exact above_add (h i (Finset.mem_insert_self _ _)) (ih fun j hj => h j (Finset.mem_insert_of_mem hj))
theorem above_tallyAt {n : ℕ} (c : Dev nD) (sm : SemLoc sig) {i : ℕ} (k : ℕ) (hi : i < 16) (hn : n < lv ((c : Thread nD τ), sm) i) :
    above n (tallyAt ((c : Thread nD τ), sm) i k) := by
  intro g u hg
  rw [tallyAt_apply] at hg
  by_cases h : g = ((c : Thread nD τ), sm) ∧ u = i
  · obtain ⟨rfl, rfl⟩ := h
    exact ⟨mem_L c sm hi, hn⟩
  · rw [if_neg h] at hg; exact absurd hg (Nat.lt_irrefl 0)

theorem lv_recv (c : Dev nD) (d : Bool) (k : Fin 2) (i : ℕ) : lv (recvC c d k) i = 10 * i + 4 := by
  unfold lv; simp only [kind_recv]
theorem lv_send (c : Dev nD) (d : Bool) (k : Fin 2) (i : ℕ) : lv (sendC c d k) i = 10 * i + 3 := by
  unfold lv; simp only [kind_send]
theorem lv_cred (c : Dev nD) (d : Bool) (i : ℕ) : lv (credC c d) i = 10 * i + 2 := by
  unfold lv; simp only [kind_cred]
theorem lv_bar (c : Dev nD) (i : ℕ) : lv (barC c) i = 1 := by
  unfold lv; simp only [kind_bar]

theorem above_arrS (d : Bool) {a n : ℕ} (c : Dev nD) (h : n < 10 * a + 4) : above n (arrS d a c) :=
  above_sum fun i hi => above_tallyAt _ _ _ (Finset.mem_Ico.1 hi).2 (by
    have := (Finset.mem_Ico.1 hi).1
    rw [lv_recv]; omega)
theorem above_crdS (d : Bool) {b n : ℕ} (c : Dev nD) (h : n < 10 * b + 2) : above n (crdS d b c) :=
  above_sum fun i hi => above_tallyAt _ _ _ (Finset.mem_Ico.1 hi).2 (by
    have := (Finset.mem_Ico.1 hi).1
    rw [lv_cred]; omega)
theorem above_bard (d : Bool) (c : Dev nD) : above 0 (bard d c) :=
  above_tallyAt _ _ _ (by decide) (by rw [lv_bar]; decide)

/-- Owing only above a cell's level, a device may wait on it. -/
theorem mayWait (c : Dev nD) (sm : SemLoc sig) {i n : ℕ} (hi : i < 16) (hn : lv ((c : Thread nD τ), sm) i ≤ n) {O : CellTallies nD τ sig ℕ}
    (h : above n O) : (levAts L lv : sProp 𝕄) ⊢ MayWait (c : Thread nD τ) sm i O :=
  MayOwe.of_cut (L := L) (lev := lv) n (fun p hp => by rw [Finset.mem_singleton.mp hp]; exact mem_L c sm hi)
    (fun g u hg => (h g u hg).1) (fun p hp => by rw [Finset.mem_singleton.mp hp]; exact hn) (fun g u hg => (h g u hg).2)

end Cert.RingProof
end
-- ==== Proof.Ring.Contents.lean ====
/-
The body's loads and stores, as rules on what a device holds: a slot read as a matrix, the device's own block copied into
slot 0, the half that is sent on cut out of slot 1, a block multiplied into its rows of the result, the tables read.
-/
module

public import proofs.«01_k».proof.Proof.Ring.Protocol
public import Idealize.ShloMosaic.Lib.ViewIndex

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok)

variable {F : FTy → Type} [FloatOps F]

local notation "𝕄" => MT nD τ sig ℕ (Elt F) ℕ UU ℕ

abbrev 𝒱₀ : Variants := Variants.none

/-- The rest of the body from `K` on, on device `c`. -/
abbrev run (c : Dev nD) (K : Txt F) (Q : PUnit → sProp 𝕄) : sProp 𝕄 :=
  wp frame (wpE (defs₀ (F := F)) 𝒱₀ (c : Thread nD τ) none) Set.univ K Q

variable (c : Dev nD) (Q : PUnit → sProp (MT nD τ sig ℕ (Elt F) ℕ UU ℕ))

/-! ## Slots -/

/-- A slot's elements are those its rectangle of the buffer names. -/
theorem slot_set (d : Bool) (k : Fin 2) : (slotM d k).view.set = ((bufM d).access (slotR k)).set :=
  View.set_reshape _ _

/-- A slot that holds `Y` is read, through its rectangle of the buffer, as `Y`. -/
theorem slot_read (d : Bool) (k : Fin 2) (f : Buf (Elt F) ((slotM d k).view.loc (c : Thread nD τ))) :
    shapeCast S256x8192 ((bufM d).view.readAt (Elt F) (slotR k).toLoadRect f) shapeCasts_S1x256x8192_S256x8192 = (slotM d k).view.read (Elt F) f := rfl

/-- Loading a slot, and storing to it, at its points-to. -/
theorem load_pts (d : Bool) (k : Fin 2) (q : PosShare TreeShare) (f : Buf (Elt F) ((slotM d k).view.loc (c : Thread nD τ)))
    (K : (S1x256x8192.Idx → Elt F .bf16) → Txt F) :
    ((slotM d k).view.loc (c : Thread nD τ) ↦[(slotM d k).view.set]{q} f)
      ⊢ iprop((((slotM d k).view.loc (c : Thread nD τ) ↦[(slotM d k).view.set]{q} f)
          -∗ run c (K ((bufM d).view.readAt (Elt F) (slotR k).toLoadRect f)) Q)
        -∗ run c (.op (.load (bufM d) (slotR k).toLoadRect (View.loadsAt_vmem h_S1x256x8192)) K) Q) :=
  wp_load_rect 𝒱₀ (c : Thread nD τ) none Set.univ (m := bufM d) (r := slotR k) (S := (slotM d k).view.set) (q := q) (f := f)
    (by rw [slot_set])
theorem store_pts (d : Bool) (k : Fin 2) (f : Buf (Elt F) ((slotM d k).view.loc (c : Thread nD τ))) (w : S1x256x8192.Idx → Elt F .bf16)
    (hx : ((bufM d).access (slotR k)).Stores Finset.univ) (hm) (K : Txt F) :
    ((slotM d k).view.loc (c : Thread nD τ) ↦[(slotM d k).view.set]{fullShare} f)
      ⊢ iprop((((slotM d k).view.loc (c : Thread nD τ) ↦[(slotM d k).view.set]{fullShare}
            (((bufM d).access (slotR k)).write (Elt F) f w Finset.univ)) -∗ run c K Q)
        -∗ run c (.op (.store (bufM d) (slotR k) w Finset.univ hx hm) fun _ => K) Q) :=
  wp_store 𝒱₀ (c : Thread nD τ) none Set.univ (m := bufM d) (r := slotR k) (S := (slotM d k).view.set) (f := f) (w := w) (hx := hx) (hm := hm) (k := fun _ => K)
    (by rw [slot_set]; exact Finset.Subset.refl _)

/-- Loading a slot that holds `Y`. -/
theorem load_slot (d : Bool) (k : Fin 2) (q : PosShare TreeShare) (Y : XVec F) (K : (S1x256x8192.Idx → Elt F .bf16) → Txt F) :
    iprop(holds (slotM d k) c q Y
        ∗ (∀ x, ⌜shapeCast S256x8192 x shapeCasts_S1x256x8192_S256x8192 = Y⌝ -∗ holds (slotM d k) c q Y -∗ run c (K x) Q))
      ⊢ run c (.op (.load (bufM d) (slotR k).toLoadRect (View.loadsAt_vmem h_S1x256x8192)) K) Q := by
  unfold holds
  iintro ⟨⟨%f, %hf, H⟩, Hk⟩
  iapply (load_pts c Q d k q f K) $$ H
  iintro H
  ispecialize Hk $$ %((bufM d).view.readAt (Elt F) (slotR k).toLoadRect f)
  iapply Hk
  · ipureintro; exact (slot_read c d k f).trans hf
  · iexists f
    isplitr; · ipureintro; exact hf
    iexact H

/-- Loading a slot whose contents do not matter. -/
theorem load_any (d : Bool) (k : Fin 2) (K : (S1x256x8192.Idx → Elt F .bf16) → Txt F) :
    iprop(anyOf (F := F) (slotM d k) c ∗ (∀ x, anyOf (F := F) (slotM d k) c -∗ run c (K x) Q))
      ⊢ run c (.op (.load (bufM d) (slotR k).toLoadRect (View.loadsAt_vmem h_S1x256x8192)) K) Q := by
  unfold anyOf
  iintro ⟨⟨%f, H⟩, Hk⟩
  iapply (load_pts c Q d k fullShare f K) $$ H
  iintro H
  ispecialize Hk $$ %((bufM d).view.readAt (Elt F) (slotR k).toLoadRect f)
  iapply Hk
  iexists f; iexact H

/-- What a store of `k0_pay3 x` leaves in a slot. -/
theorem slot_filled (d : Bool) (x : XVec F) (f : Buf (Elt F) ((slotM d 0).view.loc (c : Thread nD τ))) :
    (slotM d 0).view.read (Elt F) (((bufM d).access (slotR 0)).write (Elt F) f (k0_pay3 x) Finset.univ) = x := by
  refine (slot_read c d 0 _).symm.trans ?_
  have e : (bufM d).view.readAt (Elt F) (slotR 0).toLoadRect (((bufM d).access (slotR 0)).write (Elt F) f (k0_pay3 x) Finset.univ) = k0_pay3 x :=
    View.read_write_univ _ _
  rw [e]
  unfold k0_pay3
  funext j
  show x (Shape.reshapeEquiv _ (Shape.reshapeEquiv _ (Shape.reshapeEquiv _ j))) = x j
  rw [Shape.reshapeEquiv_self, Shape.reshapeEquiv_reshapeEquiv, Shape.reshapeEquiv_self]

theorem zeros2 : (![0, 0] : Fin 2 → ℕ) = fun _ => 0 := funext fun a => by fin_cases a <;> rfl

/-- The device's own block goes into slot 0. -/
theorem wp_fill (d : Bool) (q : PosShare TreeShare) (Y : XVec F) (K : Txt F) :
    iprop(holds xM c q Y ∗ anyOf (F := F) (slotM d 0) c ∗ (holds xM c q Y -∗ holds (slotM d 0) c fullShare Y -∗ run c K Q))
      ⊢ run c (fill d K) Q := by
  unfold fill
  iintro ⟨HX, HS, Hk⟩
  unfold holds
  icases HX with ⟨%f, %hf, HX⟩
  iapply (wp_load_rect 𝒱₀ (c : Thread nD τ) none Set.univ (m := xM) (r := xR) (S := xM.view.set) (q := q) (f := f)
    (View.set_slice_subset _ _)) $$ HX
  iintro HX
  iapply (load_any c Q d 0 _) $$ [HS HX Hk]
  isplitl [HS]; · iexact HS
  iintro %_y
  unfold anyOf
  iintro ⟨%g, HS⟩
  iapply (store_pts c Q d 0 g _ _ _ K) $$ HS
  iintro HS
  iapply Hk $$ [HX]
  · iexists f
    isplitr; · ipureintro; exact hf
    iexact HX
  · iexists _
    isplitr
    · ipureintro
      refine (slot_filled c d (xM.view.readAt (Elt F) xR.toLoadRect f) g).trans (Eq.trans ?_ hf)
      exact Memref.readAt_unit_zero (Elt F) cc0_stg2_0 zeros2 _ f
    iexact HS

/-! ## The half that is sent on -/

theorem half_subset (d : Bool) : ((bufM d).access (halfR d)).set ⊆ (slotM d 1).view.set := by
  rw [slot_set]
  show ((bufM d).view.slice (halfR d)).set ⊆ ((bufM d).view.slice (slotR 1)).set
  rw [View.set_slice, View.set_slice]
  refine Finset.map_subset_map.mpr ?_
  intro i hi
  rw [Rect.mem_set_unit] at hi ⊢
  intro a
  have h := hi a
  fin_cases a
  · exact h
  · have hs : S256x8192.size 0 = 256 := rfl
    have h0 : (![1, cond d 0 128, 0] : Fin 3 → ℕ) 1 = cond d 0 128 := rfl
    have hi := (i 1).isLt
    exact ⟨Nat.zero_le _, by simpa using hi⟩
  · exact h

/-- The half rectangle of slot 1, entry by entry, in the slot. -/
theorem half_idx (d : Bool) (j : S128x8192.Idx) :
    (halfR d).emb (Shape.reshapeEquiv shapeCasts_S1x128x8192_S128x8192 j)
      = (slotR 1).emb (Shape.reshapeEquiv shapeCasts_S1x256x8192_S256x8192 (halfRow d j)) := by
  have e1 : Shape.reshapeEquiv shapeCasts_S1x128x8192_S128x8192 j = (Fin.cons ⟨0, Nat.one_pos⟩ j : S1x128x8192.Idx) :=
    Shape.reshapeEquiv_cons_one (d := ![128, 8192]) _ j
  have e2 : Shape.reshapeEquiv shapeCasts_S1x256x8192_S256x8192 (halfRow d j) = (Fin.cons ⟨0, Nat.one_pos⟩ (halfRow d j) : S1x256x8192.Idx) :=
    Shape.reshapeEquiv_cons_one (d := ![256, 8192]) _ (halfRow d j)
  rw [e1, e2]
  refine Shape.idx3_ext rfl ?_ rfl
  show cond d 0 128 + 1 * (j 0).val = 0 + 1 * ((j 0).val + cond d 0 128)
  omega

/-- The half of slot 1 reads as the half of what the slot holds. -/
theorem half_read (d : Bool) (Y : XVec F) (f : Buf (Elt F) ((slotM d 1).view.loc (c : Thread nD τ))) (hf : (slotM d 1).view.read (Elt F) f = Y) :
    k0_pay38 ((bufM d).view.readAt (Elt F) (halfR d).toLoadRect f) = half d Y := by
  subst hf
  unfold k0_pay38
  funext j
  show (bufM d).view.read (Elt F) f ((halfR d).emb (Shape.reshapeEquiv _ (Shape.reshapeEquiv _ j)))
    = (bufM d).view.read (Elt F) f ((slotR 1).emb (Shape.reshapeEquiv _ (halfRow d j)))
  rw [Shape.reshapeEquiv_self, half_idx]

theorem hs_read (d : Bool) (f w) : (hsM d).view.read (Elt F) (((hsM d).access hR).write (Elt F) f w Finset.univ) = w := by
  cases d
  · exact (View.read_whole cc0_scratch3 _).trans (Memref.write_access_unit_zero_univ (Elt F) cc0_scratch3 zeros2 _ f w)
  · exact (View.read_whole cc0_scratch2 _).trans (Memref.write_access_unit_zero_univ (Elt F) cc0_scratch2 zeros2 _ f w)

/-- The half that is sent on goes into its own buffer. -/
theorem wp_cut (d : Bool) (q : PosShare TreeShare) (Y : XVec F) (K : Txt F) :
    iprop(holds (slotM d 1) c q Y ∗ anyOf (F := F) (hsM d) c
        ∗ (holds (slotM d 1) c q Y -∗ holds (hsM d) c fullShare (half d Y) -∗ run c K Q))
      ⊢ run c (cut d K) Q := by
  have hl : ∀ (f : Buf (Elt F) ((slotM d 1).view.loc (c : Thread nD τ))) (K : (S1x128x8192.Idx → Elt F .bf16) → Txt F),
      ((slotM d 1).view.loc (c : Thread nD τ) ↦[(slotM d 1).view.set]{q} f)
        ⊢ iprop((((slotM d 1).view.loc (c : Thread nD τ) ↦[(slotM d 1).view.set]{q} f)
            -∗ run c (K ((bufM d).view.readAt (Elt F) (halfR d).toLoadRect f)) Q)
          -∗ run c (.op (.load (bufM d) (halfR d).toLoadRect (View.loadsAt_vmem h_S1x128x8192)) K) Q) := fun f K =>
    wp_load_rect 𝒱₀ (c : Thread nD τ) none Set.univ (m := bufM d) (r := halfR d) (S := (slotM d 1).view.set) (q := q) (f := f) (half_subset d)
  unfold cut
  iintro ⟨HS, HH, Hk⟩
  unfold holds anyOf
  icases HS with ⟨%f, %hf, HS⟩
  icases HH with ⟨%g, HH⟩
  iapply (hl f _) $$ HS
  iintro HS
  iapply (wp_load_rect 𝒱₀ (c : Thread nD τ) none Set.univ (m := hsM d) (r := hR) (S := (hsM d).view.set) (q := fullShare) (f := g)
    (View.set_slice_subset _ _)) $$ HH
  iintro HH
  iapply (wp_store 𝒱₀ (c : Thread nD τ) none Set.univ (m := hsM d) (r := hR) (S := (hsM d).view.set) (f := g)
    (View.set_slice_subset _ _)) $$ HH
  iintro HH
  iapply Hk $$ [HS]
  · iexists f
    isplitr; · ipureintro; exact hf
    iexact HS
  · iexists _
    isplitr
    · ipureintro
      exact (hs_read d g _).trans (half_read c d Y f hf)
    iexact HH

/-! ## The tables -/

/-- What the tables hold: a device's ring position, a ring position's device. -/
def posTab : S32.Idx → Elt F .i32 := fun i => lit0 (S32.rowMajor i)
def devTab : S32.Idx → Elt F .i32 := fun i => lit1 (S32.rowMajor i)
/-- Device `c` holds them. -/
def posAt (c : Dev nD) : sProp 𝕄 := holds posT c fullShare posTab
def devAt (c : Dev nD) : sProp 𝕄 := holds devT c fullShare devTab

theorem entry_lt {off : Fin 1 → ℕ} (inb : ∀ a, off a + S1.size a ≤ S32.size a) : off 0 < 32 := by
  have : off 0 + 1 ≤ 32 := inb 0
  omega
theorem entry_at {off : Fin 1 → ℕ} (inb : ∀ a, off a + S1.size a ≤ S32.size a) (x : S1.Idx) :
    (S32.rowMajor ((Rect.unit (s := S32) off S1.size inb).emb x) : Fin 32) = ⟨off 0, entry_lt inb⟩ := by
  apply Fin.ext
  have hx : (x 0).val = 0 := by have : (x 0).val < 1 := (x 0).isLt; omega
  show (Shape.rowMajorPi ![32] _).val = off 0
  rw [Shape.rowMajorPi_succ_val]
  have h0 : ((Rect.unit (s := S32) off S1.size inb).emb x 0).val = off 0 + 1 * (x 0).val := rfl
  rw [h0, hx]
  simp [Shape.rowMajorPi]
  rfl

/-- Reading the device of a position. -/
theorem wp_dev (off : Fin 1 → ℕ) (inb : ∀ a, off a + S1.size a ≤ S32.size a) (e : Dev nD) (he : rdev (off 0) = e) (x : S1.Idx)
    (K : BitVec 32 → Txt F) :
    iprop(devAt (F := F) c ∗ (devAt (F := F) c -∗ run c (K (word e)) Q))
      ⊢ run c (smemLoadElt devT (Rect.unit (s := S32) off S1.size inb) (View.loads_smem_one rfl numel1_S1) x K) Q := by
  unfold devAt holds
  iintro ⟨⟨%f, %hf, H⟩, Hk⟩
  iapply (wp_smemLoadElt 𝒱₀ (c : Thread nD τ) none Set.univ (m := devT) (r := Rect.unit (s := S32) off S1.size inb) (x := x)
    (S := devT.view.set) (q := fullShare) (f := f) (View.set_slice_subset _ _)) $$ H
  iintro H
  have hv : ((devT.access (Rect.unit (s := S32) off S1.size inb)).read (Elt F) f x : BitVec 32) = word e := by
    have hf' : f = devTab := hf
    subst hf'
    exact (congrArg lit1 (entry_at inb x)).trans ((lit1_word _ _).trans (congrArg word he))
  rw [hv]
  iapply Hk
  iexists f
  isplitr; · ipureintro; exact hf
  iexact H

/-- Reading the device's own position. -/
theorem wp_pos (x : S1.Idx) (K : BitVec 32 → Txt F) :
    iprop(posAt (F := F) c ∗ (posAt (F := F) c -∗ run c (K (lit0 c)) Q))
      ⊢ run c (smemLoadElt posT (Rect.unit (s := S32) (k0_off1 c) S1.size (k0_off1_inb c)) (View.loads_smem_one rfl numel1_S1) x K) Q := by
  unfold posAt holds
  iintro ⟨⟨%f, %hf, H⟩, Hk⟩
  iapply (wp_smemLoadElt 𝒱₀ (c : Thread nD τ) none Set.univ (m := posT) (r := Rect.unit (s := S32) (k0_off1 c) S1.size (k0_off1_inb c)) (x := x)
    (S := posT.view.set) (q := fullShare) (f := f) (View.set_slice_subset _ _)) $$ H
  iintro H
  have hv : ((posT.access (Rect.unit (s := S32) (k0_off1 c) S1.size (k0_off1_inb c))).read (Elt F) f x : BitVec 32) = lit0 c := by
    have hf' : f = posTab := hf
    subst hf'
    exact (congrArg lit0 (entry_at (k0_off1_inb c) x)).trans (congrArg lit0 (Fin.ext (off1_eq c)))
  rw [hv]
  iapply Hk
  iexists f
  isplitr; · ipureintro; exact hf
  iexact H

/-! ## The result block -/

abbrev WVec (F : FTy → Type) : Type := S8192x128.Idx → Elt F .bf16

/-- A block, and half a block, times the weights. -/
def mulX (Y : XVec F) (W : WVec F) : S256x128.Idx → Elt F .f32 :=
  matmul dot_S256x8192_S8192x128_S256x128_1_0_0_1_n_n none Y (shapeCast S8192x128 W shapeCasts_S8192x128_S8192x128) (constant S256x128 .f32 0x00000000#32)
def mulH (Y : HVec F) (W : WVec F) : S128x128.Idx → Elt F .f32 := k0_pay1 Y W

variable (X : Dev nD → XVec F) (w : Dev nD → WVec F)

theorem row_lt (i : S8192x128.Idx) : (i 0).val < 8192 := (i 0).isLt
/-- The device whose rows an entry of the result belongs to, and the entry in that device's product. -/
def owner (i : S8192x128.Idx) : Dev nD := ⟨(i 0).val / 256, by have := row_lt i; show _ < 32; omega⟩
def inX (i : S8192x128.Idx) : S256x128.Idx
  | 0 => ⟨(i 0).val % 256, Nat.mod_lt _ (by decide)⟩
  | 1 => ⟨(i 1).val, (i 1).isLt⟩
def inH (i : S8192x128.Idx) : S128x128.Idx
  | 0 => ⟨(i 0).val % 128, Nat.mod_lt _ (by decide)⟩
  | 1 => ⟨(i 1).val, (i 1).isLt⟩
/-- The result block of device `c`: a device's rows are the product of its block of `x` with the weights of `c`; those of the
    opposite device come as two halves. -/
def tgt (c : Dev nD) (i : S8192x128.Idx) : Elt F .f32 :=
  if owner i = anti c then mulH (half (decide ((i 0).val / 128 % 2 = 0)) (X (owner i))) (w c) (inH i) else mulX (X (owner i)) (w c) (inX i)

/-- Device `c` holds its result block, right in the groups of 128 rows that `B` names. -/
def out (c : Dev nD) (B : ℕ → Prop) : sProp 𝕄 :=
  iprop(∃ f : Buf (Elt F) (oM.view.loc (c : Thread nD τ)),
    ⌜∀ i : S8192x128.Idx, B ((i 0).val / 128) → f i = tgt X w c i⌝ ∗ (oM.view.loc (c : Thread nD τ) ↦[oM.view.set]{fullShare} f))

theorem out_mono {B B' : ℕ → Prop} (h : ∀ b, b < 64 → B' b → B b) : out X w c B ⊢ out X w c B' := by
  unfold out
  iintro ⟨%f, %hf, H⟩
  iexists f
  isplitr
  · ipureintro
    exact fun i hi => hf i (h _ (by have := row_lt i; omega) hi)
  iexact H

/-- A store through a rectangle leaves the block right where it was right or where the stored values are. -/
theorem out_write (r : Rect S8192x128) (v : r.shape.Idx → Elt F .f32) (f : Buf (Elt F) (oM.view.loc (c : Thread nD τ))) {B B' : ℕ → Prop}
    (hf : ∀ i : S8192x128.Idx, B ((i 0).val / 128) → f i = tgt X w c i)
    (h : ∀ i : S8192x128.Idx, B' ((i 0).val / 128) → (∃ j, r.emb j = i ∧ v j = tgt X w c i) ∨ (i ∉ r.set ∧ B ((i 0).val / 128))) :
    ∀ i : S8192x128.Idx, B' ((i 0).val / 128) → (oM.access r).write (Elt F) f v Finset.univ i = tgt X w c i := by
  intro i hi
  rcases h i hi with ⟨j, rfl, hv⟩ | ⟨hn, hb⟩
  · exact (View.write_emb_of_mem (v := oM.access r) f v (Finset.mem_univ j)).trans hv
  · refine (View.write_of_not_mem (v := oM.access r) f v Finset.univ ?_).trans (hf i hb)
    show i ∉ (oM.access r).set
    exact fun hm => hn ((View.set_slice_whole cc0_stg4_0 r) ▸ hm)

/-- Storing the product of the block of `e` in the rows of `e`. -/
theorem rowsX (e : Dev nD) (he : e ≠ anti c) (inb : ∀ a, (![e.val * 256, 0] : Fin 2 → ℕ) a + S256x128.size a ≤ S8192x128.size a)
    (f : Buf (Elt F) (oM.view.loc (c : Thread nD τ))) {B : ℕ → Prop} (hf : ∀ i : S8192x128.Idx, B ((i 0).val / 128) → f i = tgt X w c i) :
    ∀ i : S8192x128.Idx, (B ((i 0).val / 128) ∨ (i 0).val / 128 / 2 = e.val) →
      (oM.access (Rect.unit (s := S8192x128) ![e.val * 256, 0] S256x128.size inb)).write (Elt F) f (mulX (X e) (w c)) Finset.univ i = tgt X w c i := by
  refine out_write c X w (Rect.unit (s := S8192x128) ![e.val * 256, 0] S256x128.size inb) (mulX (X e) (w c)) f
    (B' := fun b => B b ∨ b / 2 = e.val) hf fun i hi => ?_
  have h0 : ∀ n m : ℕ, n / 128 / 2 = m → n / 256 = m := fun n m h => by omega
  by_cases ho : (i 0).val / 256 = e.val
  · left
    have hoe : owner i = e := Fin.ext ho
    refine ⟨inX i, ?_, ?_⟩
    · refine funext fun a => Fin.ext ?_
      match a with
      | 0 =>
        show e.val * 256 + 1 * ((i 0).val % 256) = (i 0).val
        omega
      | 1 =>
        show 0 + 1 * (i 1).val = (i 1).val
        omega
    · unfold tgt
      rw [hoe, if_neg he]
  · right
    refine ⟨fun hm => ho ?_, hi.resolve_right fun hb => ho (h0 _ _ hb)⟩
    have := Rect.mem_set_unit.mp hm 0
    have h1 : e.val * 256 ≤ (i 0).val := this.1
    have h2 : (i 0).val < e.val * 256 + 256 := this.2
    omega

/-- Storing the product of half of the opposite device's block in its rows. -/
theorem rowsH (d : Bool) (inb : ∀ a, (![(anti c).val * 256 + cond d 0 128, 0] : Fin 2 → ℕ) a + S128x128.size a ≤ S8192x128.size a)
    (f : Buf (Elt F) (oM.view.loc (c : Thread nD τ))) {B : ℕ → Prop} (hf : ∀ i : S8192x128.Idx, B ((i 0).val / 128) → f i = tgt X w c i) :
    ∀ i : S8192x128.Idx, (B ((i 0).val / 128) ∨ (i 0).val / 128 = (anti c).val * 2 + cond d 0 1) →
      (oM.access (Rect.unit (s := S8192x128) ![(anti c).val * 256 + cond d 0 128, 0] S128x128.size inb)).write (Elt F) f
        (mulH (half d (X (anti c))) (w c)) Finset.univ i = tgt X w c i := by
  refine out_write c X w (Rect.unit (s := S8192x128) ![(anti c).val * 256 + cond d 0 128, 0] S128x128.size inb) (mulH (half d (X (anti c))) (w c)) f
    (B' := fun b => B b ∨ b = (anti c).val * 2 + cond d 0 1) hf fun i hi => ?_
  have hc : ∃ t, t < 2 ∧ cond d 0 1 = t ∧ cond d 0 128 = t * 128 ∧ (t = 0 ↔ d = true) := by cases d <;> simp
  obtain ⟨t, ht, e1, e2, e3⟩ := hc
  rw [e1] at hi
  by_cases ho : (i 0).val / 128 = (anti c).val * 2 + t
  · left
    have hoe : owner i = anti c := Fin.ext (by show (i 0).val / 256 = (anti c).val; omega)
    have hd : decide ((i 0).val / 128 % 2 = 0) = d := by
      have : ((i 0).val / 128 % 2 = 0) ↔ d = true := by rw [← e3]; omega
      cases d with
      | true => exact decide_eq_true (this.2 rfl)
      | false => exact decide_eq_false fun h => Bool.noConfusion (this.1 h)
    refine ⟨inH i, ?_, ?_⟩
    · refine funext fun a => Fin.ext ?_
      match a with
      | 0 =>
        show (anti c).val * 256 + cond d 0 128 + 1 * ((i 0).val % 128) = (i 0).val
        rw [e2]
        omega
      | 1 =>
        show 0 + 1 * (i 1).val = (i 1).val
        omega
    · unfold tgt
      rw [hoe, if_pos rfl, hd]
  · right
    refine ⟨fun hm => ho ?_, hi.resolve_right ho⟩
    have := Rect.mem_set_unit.mp hm 0
    have h1 : (anti c).val * 256 + cond d 0 128 ≤ (i 0).val := this.1
    have h2 : (i 0).val < (anti c).val * 256 + cond d 0 128 + 128 := this.2
    rw [e2] at h1 h2
    omega

/-- Loading the weights. -/
theorem load_w (K : WVec F → Txt F) :
    iprop(holds wM c fullShare (w c) ∗ (holds wM c fullShare (w c) -∗ run c (K (w c)) Q))
      ⊢ run c (.op (.load wM wR.toLoadRect (View.loadsAt_vmem h_S8192x128)) K) Q := by
  unfold holds
  iintro ⟨⟨%g, %hg, HW⟩, Hk⟩
  iapply (wp_load_rect 𝒱₀ (c : Thread nD τ) none Set.univ (m := wM) (r := wR) (S := wM.view.set) (q := fullShare) (f := g)
    (View.set_slice_subset _ _)) $$ HW
  iintro HW
  have hy : (wM.access wR).read (Elt F) g = w c := (Memref.readAt_unit_zero (Elt F) cc0_stg3_0 zeros2 _ g).trans hg
  rw [hy]
  iapply Hk
  iexists g
  isplitr; · ipureintro; exact hg
  iexact HW

/-- A load from the result block, which nothing uses, then a store that keeps it right. -/
theorem out_store (r : Rect S8192x128) (hl : oM.view.LoadsAt r.toLoadRect) (v : r.shape.Idx → Elt F .f32) (hx : (oM.access r).Stores Finset.univ) (hm)
    (B B' : ℕ → Prop)
    (h : ∀ f : Buf (Elt F) (oM.view.loc (c : Thread nD τ)), (∀ i : S8192x128.Idx, B ((i 0).val / 128) → f i = tgt X w c i) →
      ∀ i : S8192x128.Idx, B' ((i 0).val / 128) → (oM.access r).write (Elt F) f v Finset.univ i = tgt X w c i) (K : Txt F) :
    iprop(out X w c B ∗ (out X w c B' -∗ run c K Q))
      ⊢ run c (.op (.load oM r.toLoadRect hl) fun _ => .op (.store oM r v Finset.univ hx hm) fun _ => K) Q := by
  unfold out
  iintro ⟨⟨%f, %hf, HO⟩, Hk⟩
  iapply (wp_load_rect 𝒱₀ (c : Thread nD τ) none Set.univ (m := oM) (r := r) (S := oM.view.set) (q := fullShare) (f := f)
    (View.set_slice_subset _ _)) $$ HO
  iintro HO
  iapply (wp_store 𝒱₀ (c : Thread nD τ) none Set.univ (m := oM) (r := r) (S := oM.view.set) (f := f)
    (View.set_slice_subset _ _)) $$ HO
  iintro HO
  iapply Hk
  iexists _
  isplitr
  · ipureintro; exact h f hf
  iexact HO

/-- Slot `k`, holding the block of `e`, times the weights, into the rows of `e`. -/
theorem wp_gemmAt (d : Bool) (k : Fin 2) (q : PosShare TreeShare) (e : Dev nD) (he : e ≠ anti c) (off : Fin 2 → ℕ)
    (hoff : off = ![e.val * 256, 0]) (inb : ∀ a, off a + S256x128.size a ≤ S8192x128.size a) (B : ℕ → Prop) (K : Txt F) :
    iprop(holds (slotM d k) c q (X e) ∗ holds wM c fullShare (w c) ∗ out X w c B
        ∗ (holds (slotM d k) c q (X e) -∗ holds wM c fullShare (w c) -∗ out X w c (fun b => B b ∨ b / 2 = e.val) -∗ run c K Q))
      ⊢ run c (gemmAt d k off inb K) Q := by
  subst hoff
  unfold gemmAt
  iintro ⟨HS, HW, HO, Hk⟩
  iapply (load_slot c Q d k q (X e) _) $$ [HS HW HO Hk]
  isplitl [HS]; · iexact HS
  iintro %x %hx HS
  iapply (load_w c Q w _) $$ [HS HW HO Hk]
  isplitl [HW]; · iexact HW
  iintro HW
  have hv : k0_pay6 x (w c) = mulX (X e) (w c) := by rw [← hx]; rfl
  rw [hv]
  iapply (out_store c Q X w (Rect.unit (s := S8192x128) ![e.val * 256, 0] S256x128.size inb) _ (mulX (X e) (w c)) _ _ B
    (fun b => B b ∨ b / 2 = e.val) (fun f hf => rowsX c X w e he inb f hf) K) $$ [HS HW HO Hk]
  isplitl [HO]; · iexact HO
  iapply Hk $$ HS HW

/-- The received half of the opposite device's block times the weights, into its rows. -/
theorem wp_gemmHalf (d : Bool) (off : Fin 2 → ℕ) (hoff : off = ![(anti c).val * 256 + cond d 0 128, 0])
    (inb : ∀ a, off a + S128x128.size a ≤ S8192x128.size a) (B : ℕ → Prop) (K : Txt F) :
    iprop(holds (hrM d) c fullShare (half d (X (anti c))) ∗ holds wM c fullShare (w c) ∗ out X w c B
        ∗ (holds (hrM d) c fullShare (half d (X (anti c))) -∗ holds wM c fullShare (w c)
            -∗ out X w c (fun b => B b ∨ b = (anti c).val * 2 + cond d 0 1) -∗ run c K Q))
      ⊢ run c (gemmHalf d off inb K) Q := by
  subst hoff
  unfold gemmHalf
  iintro ⟨HS, HW, HO, Hk⟩
  unfold holds
  icases HS with ⟨%u, %hu, HS⟩
  iapply (wp_load_rect 𝒱₀ (c : Thread nD τ) none Set.univ (m := hrM d) (r := hR) (S := (hrM d).view.set) (q := fullShare) (f := u)
    (View.set_slice_subset _ _)) $$ HS
  iintro HS
  have hx : ((hrM d).access hR).read (Elt F) u = half d (X (anti c)) := by
    rw [← hu]
    cases d
    · exact Memref.readAt_unit_zero (Elt F) cc0_scratch5 zeros2 _ u
    · exact Memref.readAt_unit_zero (Elt F) cc0_scratch4 zeros2 _ u
  rw [hx]
  iapply (load_w c Q w _) $$ [HS HW HO Hk]
  unfold holds
  isplitl [HW]; · iexact HW
  iintro HW
  iapply (out_store c Q X w (Rect.unit (s := S8192x128) ![(anti c).val * 256 + cond d 0 128, 0] S128x128.size inb) _
    (mulH (half d (X (anti c))) (w c)) _ _ B (fun b => B b ∨ b = (anti c).val * 2 + cond d 0 1) (fun f hf => rowsH c X w d inb f hf) K) $$ [HS HW HO Hk]
  isplitl [HO]; · iexact HO
  iapply Hk $$ [HS] HW
  iexists u
  isplitr; · ipureintro; exact hu
  iexact HS

/-- A position's device looked up, and the slot that holds its block multiplied. -/
theorem wp_gemm (d : Bool) (k : Fin 2) (q : PosShare TreeShare) (e : Dev nD) (he : e ≠ anti c) (off : Fin 1 → ℕ)
    (hoff : rdev (off 0) = e) (inb : ∀ a, off a + S1.size a ≤ S32.size a) (B : ℕ → Prop) (K : Txt F) :
    iprop(devAt (F := F) c ∗ holds (slotM d k) c q (X e) ∗ holds wM c fullShare (w c) ∗ out X w c B
        ∗ (devAt (F := F) c -∗ holds (slotM d k) c q (X e) -∗ holds wM c fullShare (w c) -∗ out X w c (fun b => B b ∨ b / 2 = e.val) -∗ run c K Q))
      ⊢ run c (gemm d k off inb K) Q := by
  unfold gemm
  iintro ⟨HD, HS, HW, HO, Hk⟩
  iapply (wp_dev c Q off inb e hoff _ _) $$ [HD HS HW HO Hk]
  isplitl [HD]; · iexact HD
  iintro HD
  iapply (wp_assume 𝒱₀ (c : Thread nD τ) none Set.univ (chk4 e))
  iapply (wp_gemmAt c Q X w d k q e he _ (off6_eq e) _ B K) $$ [HD HS HW HO Hk]
  isplitl [HS]; · iexact HS
  isplitl [HW]; · iexact HW
  isplitl [HO]; · iexact HO
  iapply Hk $$ HD

end Cert.RingProof
end
-- ==== Proof.Ring.Steps.lean ====
/-
The steps that talk: a send, a wait for a completion, a credit, the barrier, as rules on what a device holds, for one
direction `d`, one hop `h` and one device `c`.
-/
module

public import proofs.«01_k».proof.Proof.Ring.Contents

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv slot_take slot_release slot_slot_false)

variable {F : FTy → Type} [FloatOps F]

local notation "𝕄" => MT nD τ sig ℕ (Elt F) ℕ UU ℕ

/-! ## Big separating conjunctions -/

section Big
variable {I : Type} [DecidableEq I] {Φ Ψ : I → sProp (MT nD τ sig ℕ (Elt F) ℕ UU ℕ)}
theorem big_elim {s : Finset I} {i : I} (hi : i ∈ s) : bigSep s Φ ⊢ Φ i := by
  exact bigSep_elim hi
theorem big_mono {s : Finset I} (h : ∀ i ∈ s, Φ i ⊢ Ψ i) : bigSep s Φ ⊢ bigSep s Ψ := by
  exact bigSep_mono h
theorem big_join {s t : Finset I} (h : t ⊆ s) : iprop(bigSep t Φ ∗ bigSep (s \ t) Φ) ⊢ bigSep s Φ := by
  rw [bigSep_sdiff_split h]
  exact .rfl
theorem big_peel {Φ : ℕ → sProp 𝕄} {a n : ℕ} (h : a < n) :
    bigSep (Finset.Ico a n) Φ ⊢ iprop(Φ a ∗ bigSep (Finset.Ico (a + 1) n) Φ) := by
  have e : Finset.Ico a n = insert a (Finset.Ico (a + 1) n) := by ext i; simp only [Finset.mem_Ico, Finset.mem_insert]; omega
  rw [e, bigSep_insert (by simp)]
  exact .rfl
end Big

/-! ## The cells of all devices, and what is known of them -/

/-- A device's inner cells: a direction's credit, or the send (`true`) or receive completion of a slot. -/
abbrev CellIx : Type := Bool × Option (Bool × Fin 2)
def cellAt (p : Dev nD × CellIx) : GSem nD τ sig :=
  match p.2.2 with
  | none => credC p.1 p.2.1
  | some (true, k) => sendC p.1 p.2.1 k
  | some (false, k) => recvC p.1 p.2.1 k
def kindAt (i : CellIx) : Kind :=
  match i.2 with
  | none => .cred i.1
  | some (true, k) => .send i.1 k
  | some (false, k) => .recv i.1 k

theorem kind_cellAt (c : Dev nD) (i : CellIx) : kind (cellAt (c, i)).2 = kindAt i := by
  obtain ⟨d, _ | ⟨_ | _, k⟩⟩ := i
  · exact kind_cred d
  · exact kind_recv d k
  · exact kind_send d k
theorem kindAt_inj : ∀ i j : CellIx, kindAt i = kindAt j → i = j := by decide
theorem dev_cellAt (c : Dev nD) (i : CellIx) : (cellAt (c, i)).1 = (c : Thread nD τ) := by
  obtain ⟨d, _ | ⟨_ | _, k⟩⟩ := i <;> rfl
theorem tc_inj {c c' : Dev nD} (h : (c : Thread nD τ) = (c' : Thread nD τ)) : c = c' := congrArg Prod.fst h

def scopedE : Dev nD × CellIx ↪ GSem nD τ sig where
  toFun := cellAt
  inj' := by
    rintro ⟨c, i⟩ ⟨c', i'⟩ h
    have h1 : c = c' := tc_inj (by rw [← dev_cellAt c i, ← dev_cellAt c' i', h])
    have h2 : i = i' := kindAt_inj i i' (by rw [← kind_cellAt c i, ← kind_cellAt c' i', h])
    rw [h1, h2]
def barE : Dev nD ↪ GSem nD τ sig where
  toFun := barC
  inj' := fun _ _ h => tc_inj (congrArg Prod.fst h)
def bars : Finset (GSem nD τ sig) := Finset.univ.map barE
def inner : Finset (GSem nD τ sig) := Finset.univ.map scopedE

theorem mem_bar (c : Dev nD) : barC c ∈ bars ∪ inner := Finset.mem_union_left _ (Finset.mem_map_of_mem barE (Finset.mem_univ c))
theorem mem_scoped (c : Dev nD) (i : CellIx) : cellAt (c, i) ∈ bars ∪ inner :=
  Finset.mem_union_right _ (Finset.mem_map_of_mem scopedE (Finset.mem_univ (c, i)))
theorem mem_cred (c : Dev nD) (d : Bool) : credC c d ∈ bars ∪ inner := mem_scoped c (d, none)
theorem mem_send (c : Dev nD) (d : Bool) (k : Fin 2) : sendC c d k ∈ bars ∪ inner := mem_scoped c (d, some (true, k))
theorem mem_recv (c : Dev nD) (d : Bool) (k : Fin 2) : recvC c d k ∈ bars ∪ inner := mem_scoped c (d, some (false, k))

variable (X : Dev nD → XVec F) (w : Dev nD → WVec F) (κ : GSem nD τ sig → ℕ) (σ : Key → ℕ)

/-- The invariants of all cells and slots, and the levels. -/
def recs : sProp 𝕄 :=
  iprop(bigSep (bars ∪ inner) (fun g => cellInv ER (Rd X) (κ g) g)
    ∗ bigSep Finset.univ (fun p : Key => slotInv EL (σ p) p (anyOf (F := F) (slotM p.2.1 p.2.2) p.1)) ∗ levAts L lv)

instance recs_persistent : BI.Persistent (recs X κ σ) := by unfold recs; infer_instance

theorem recs_cell {g : GSem nD τ sig} (hg : g ∈ bars ∪ inner) : recs X κ σ ⊢ cellInv ER (Rd X) (κ g) g := by
  unfold recs
  iintro ⟨H, -, -⟩
  iapply (big_elim hg) $$ H
theorem recs_slot (c : Dev nD) (d : Bool) (k : Fin 2) :
    recs X κ σ ⊢ slotInv EL (σ (slotK c d k)) (slotK c d k) (anyOf (F := F) (slotM d k) c) := by
  unfold recs
  iintro ⟨-, H, -⟩
  iapply (big_elim (Finset.mem_univ (slotK c d k))) $$ H
theorem recs_lev : recs X κ σ ⊢ levAts L lv := by
  unfold recs
  iintro ⟨-, -, H⟩
  iexact H

/-- Device `c` owes `O`. -/
def ow (c : Dev nD) (O : CellTallies nD τ sig ℕ) : sProp 𝕄 := iprop(∃ W, owes (c : Thread nD τ) O W)

variable (c : Dev nD) (Q : PUnit → sProp (MT nD τ sig ℕ (Elt F) ℕ UU ℕ))

/-! ## Sends and their completions -/

/-- The copy of hop `h`: the source, read, goes into the destination on the neighbour, held at any contents. -/
theorem wp_sendOn {s : Shape} (d : Bool) (h : ℕ) (hh : h < 16) (M N : Memref sig .tc .vmem s .bf16) (hM : M.view.WordExact) (hN : N.view.WordExact)
    {hS} (hT : DmaTarget.Typed Space.vmem (SemLoc.dma (recvS d (par (h + 1)))) (DmaTarget.remote (Dev.tc (nb d c)) N (SemLoc.dma (sendS d (par h))) hS)) (q : PosShare TreeShare) (Y : s.Idx → Elt F .bf16) (hn : N.view.amount (.dma (recvS d (par (h + 1)))) = amt h)
    (hp₁ : holds M c q Y ⊢ sendPay X d h c) (hp₂ : holds N (nb d c) fullShare Y ⊢ recvPay X d h (nb d c))
    {O₀ : CellTallies nD τ sig ℕ} (O : CellTallies nD τ sig ℕ) (hO : O₀ = O + arr d c h) (K : Txt F) :
    iprop(recs X κ σ ∗ holds M c q Y ∗ anyOf (F := F) N (nb d c) ∗ ow c O₀
        ∗ dutyTok ER (sendC c d (par h)) (h / 2) 0 ∗ reached ER (sendC c d (par h)) (h / 2)
        ∗ dutyTok ER (recvC (nb d c) d (par (h + 1))) (h / 2) 0 ∗ reached ER (recvC (nb d c) d (par (h + 1))) (h / 2)
        ∗ (cred (tallyAt (sendC c d (par h)) h (amt h)) -∗ ow c O -∗ run c K Q))
      ⊢ run c (.op (.enqueueDma M (.remote (Dev.tc (nb d c)) N (.dma (sendS d (par h))) hS) (.dma (recvS d (par (h + 1)))) hM hN hT) fun _ => K) Q := by
  unfold ow
  iintro ⟨#HR, HM, HN, ⟨%W, HO⟩, Ht₁, #Hr₁, Ht₂, #Hr₂, Hk⟩
  ihave #Hc₁ := (recs_cell X κ σ (mem_send c d (par h))) $$ HR
  ihave #Hc₂ := (recs_cell X κ σ (mem_recv (nb d c) d (par (h + 1)))) $$ HR
  unfold holds anyOf
  icases HM with ⟨%fs, %hfs, HM⟩
  icases HN with ⟨%fd, HN⟩
  iapply (Rounds.wp_send_pointsTo 𝒱₀ ER (Rd X) (c : Thread nD τ) none (c' := (nb d c : Thread nD τ)) (src := M) (dst := N)
      (sS := .dma (sendS d (par h))) (sem := .dma (recvS d (par (h + 1)))) (q := q) (fs := fs) (fd := fd)
      (κ₁ := κ (sendC c d (par h))) (κ₂ := κ (recvC (nb d c) d (par (h + 1)))) (r₁ := h / 2) (r₂ := h / 2) (d₁ := 0) (d₂ := 0)
      (by rw [duties_send X c d (by omega)]; exact Finset.mem_singleton_self _)
      (by rw [duties_recv X (nb d c) d (by omega)]; exact Finset.mem_singleton_self _)
      h h (amt h) hn (amount_send X c d h 0) (amount_recv X (nb d c) d h 0) O hO (W := W)
      (by
        rw [payload_send]; refine Entails.trans (show _ ⊢ _ from ?_) hp₁
        unfold holds
        iintro H
        iexists fs
        isplitr; · ipureintro; exact hfs
        iexact H)
      (by
        rw [payload_recv]; refine Entails.trans (show _ ⊢ _ from ?_) hp₂
        unfold holds
        iintro H
        iexists N.view.write (Elt F) fd (M.view.read (Elt F) fs) Finset.univ
        isplitr
        · ipureintro; exact (View.read_write_univ (v := N.view) fd _).trans hfs
        iexact H)) $$ [HM HN HO Ht₁ Ht₂]
  · isplitr; · iexact Hc₁
    isplitr; · iexact Hc₂
    isplitl [HM]; · iexact HM
    isplitl [HN]; · iexact HN
    isplitl [HO]; · iexact HO
    isplitl [Ht₁]; · iexact Ht₁
    isplitr; · iexact Hr₁
    isplitl [Ht₂]; · iexact Ht₂
    iexact Hr₂
  iintro ⟨Hc, HO⟩
  iapply Hk $$ Hc [HO]
  iexists W; iexact HO

/-- A wait for a whole round of a completion cell of the device. -/
theorem wp_waitOn {s : Shape} (sm : DmaSem sig) (r i n : ℕ) (P : sProp 𝕄) (M N : Memref sig .tc .vmem s .bf16) (hM : M.view.WordExact) (hN : N.view.WordExact)
    (hg : ((c : Thread nD τ), SemLoc.dma sm) ∈ bars ∪ inner) (hi : i < 16) (hn : N.view.dmaCredit = n)
    (hexp : (Rd X).expect ((c : Thread nD τ), SemLoc.dma sm) r = n) (hdut : (Rd X).duties ((c : Thread nD τ), SemLoc.dma sm) r = {0})
    (hpay : (Rd X).payload ((c : Thread nD τ), SemLoc.dma sm) r 0 = P) (O : CellTallies nD τ sig ℕ) (l : ℕ)
    (hl : lv ((c : Thread nD τ), SemLoc.dma sm) i ≤ l) (hO : above l O) (K : Txt F) :
    iprop(recs X κ σ ∗ cred (tallyAt ((c : Thread nD τ), SemLoc.dma sm) i n) ∗ ow c O ∗ atPos ER ((c : Thread nD τ), SemLoc.dma sm) r ∅ 0
        ∗ (ow c O -∗ atPos ER ((c : Thread nD τ), SemLoc.dma sm) (r + 1) ∅ 0 -∗ reached ER ((c : Thread nD τ), SemLoc.dma sm) (r + 1) -∗ P -∗ run c K Q))
      ⊢ run c (.op (.waitDma2 sm M N hM hN) fun _ => K) Q := by
  subst hn
  unfold ow
  iintro ⟨#HR, HC, ⟨%W, HO⟩, HA, Hk⟩
  ihave #Hc := (recs_cell X κ σ hg) $$ HR
  iapply (Rounds.wp_wait_rest_token 𝒱₀ ER (Rd X) (c : Thread nD τ) none (κ := κ ((c : Thread nD τ), SemLoc.dma sm))
      (wpE_waitDma2_eq (src := M) (dst := N) 𝒱₀ (c : Thread nD τ) none Set.univ) (Set.mem_univ _) i (O := O) (W := W) (R := r) (m := 0) (T := ∅)
      ((Nat.zero_add _).trans hexp.symm)) $$ [HC HO HA]
  · isplitr; · iexact Hc
    isplitl [HC]; · iexact HC
    isplitl [HO]; · iexact HO
    isplitr
    · iapply (mayWait c (.dma sm) hi hl hO)
      iapply (recs_lev X κ σ) $$ HR
    iexact HA
  iintro ⟨HO, HA, HR', HP⟩
  have hall : bigSep ((Rd X).duties ((c : Thread nD τ), SemLoc.dma sm) r \ ∅) (fun j => (Rd X).payload ((c : Thread nD τ), SemLoc.dma sm) r j) ⊢ P := by
    rw [hdut, Finset.sdiff_empty, bigSep_singleton, hpay]
  iapply Hk $$ [HO] HA HR' [HP]
  · iexists _; iexact HO
  · iapply hall $$ HP

/-! ## Credits -/

/-- Device `c` has taken `n` of its credits of direction `d`; it keeps what they said. -/
def credSt (d : Bool) (c : Dev nD) (n : ℕ) : sProp 𝕄 :=
  iprop(∃ S : Finset ℕ, ⌜S ⊆ Finset.Icc 1 15 ∧ n ≤ S.card⌝ ∗ atPos ER (credC c d) 0 S n ∗ bigSep S (fun j => frees (F := F) (nb d c) d (j + 1)))

/-- Enough distinct credits, and one of them is late. -/
theorem late {S : Finset ℕ} {n : ℕ} (hS : S ⊆ Finset.Icc 1 15) (hn : n ≤ S.card) (h0 : 0 < n) : ∃ j ∈ S, n ≤ j := by
  by_contra hc
  have hc' : ∀ j ∈ S, j < n := fun j hj => by
    by_contra hlt
    exact hc ⟨j, hj, by omega⟩
  have hsub : S ⊆ Finset.Icc 1 (n - 1) := fun j hj => by
    have h1 := Finset.mem_Icc.1 (hS hj)
    have h2 := hc' j hj
    exact Finset.mem_Icc.2 ⟨h1.1, by omega⟩
  have := Finset.card_le_card hsub
  rw [Nat.card_Icc] at this
  omega

theorem frees_free (e : Dev nD) (d : Bool) {n i : ℕ} (h : i < n) : frees (F := F) e d n ⊢ free (F := F) e d i := by
  unfold frees
  exact big_elim (Finset.mem_range.2 h)

/-- Taking the next credit: the neighbour has released the slot that hop `n` writes. -/
theorem wp_credOn (d : Bool) (n : ℕ) (h0 : n + 1 < 16) (O : CellTallies nD τ sig ℕ) (hO : above (10 * (n + 1) + 2) O) (K : Txt F) :
    iprop(recs X κ σ ∗ cred (tallyAt (credC c d) (n + 1) 1) ∗ ow c O ∗ credSt (F := F) d c n
        ∗ (ow c O -∗ credSt (F := F) d c (n + 1) -∗ free (F := F) (nb d c) d (n + 1) -∗ run c K Q))
      ⊢ run c (waitCred d K) Q := by
  unfold ow credSt waitCred
  iintro ⟨#HR, HC, ⟨%W, HO⟩, ⟨%T, %hT, HA, #HT⟩, Hk⟩
  ihave #Hc := (recs_cell X κ σ (mem_cred c d)) $$ HR
  iapply (Rounds.wp_wait 𝒱₀ ER (Rd X) (c : Thread nD τ) none (κ := κ (credC c d)) (k' := 1)
      (wpE_semWait_eq 𝒱₀ (c : Thread nD τ) none Set.univ) (Set.mem_univ _) (cr := Finsupp.single (n + 1) 1) (O := O) (W := W)
      {(SemLoc.reg (credS d), n + 1)} (R := 0) (m := n) (T := T) (Util.total_single _ _) (image_single_subset _ _ _)) $$ [HC HO HA]
  · isplitr; · iexact Hc
    isplitl [HC]; · iexact HC
    isplitl [HO]; · iexact HO
    isplitr
    · iapply (mayWait c (.reg (credS d)) h0 (le_of_eq (lv_cred c d (n + 1))) hO)
      iapply (recs_lev X κ σ) $$ HR
    iexact HA
  iintro %S ⟨%hS, HO, HA, HP⟩
  have hS' := hS
  rw [duties_cred, expect_cred] at hS'
  obtain ⟨h1, h2, h3⟩ := hS'
  have hcard : n + 1 ≤ S.card := by
    have h4 := Finset.card_sdiff_of_subset h2
    rw [Nat.card_Icc] at h4
    omega
  ihave #HP' := (big_mono (Φ := fun j => (Rd X).payload (credC c d) 0 j) (Ψ := fun j => frees (F := F) (nb d c) d (j + 1))
    fun j _ => Entails.of_eq (payload_cred X c d j)) $$ HP
  ihave #HS := (big_join (Φ := fun j => frees (F := F) (nb d c) d (j + 1)) h1) $$ []
  · isplitr; · iexact HT
    iexact HP'
  iapply Hk $$ [HO] [HA]
  · iexists _; iexact HO
  · iexists S
    isplitr; · ipureintro; exact ⟨h2, hcard⟩
    isplitl [HA]; · iexact HA
    iexact HS
  · obtain ⟨j, hj, hle⟩ := late h2 hcard (Nat.succ_pos n)
    iapply (frees_free (nb d c) d (show n + 1 < j + 1 by omega))
    iapply (big_elim (Φ := fun j => frees (F := F) (nb d c) d (j + 1)) hj) $$ HS

/-- Giving credit `h + 1`: the slots up to the one that hop `h + 1` writes on this device have been released. -/
theorem wp_giveCred (d : Bool) (h : ℕ) (hh : h < 15) {O₀ : CellTallies nD τ sig ℕ} (O : CellTallies nD τ sig ℕ) (hO : O₀ = O + crd d c (h + 1)) (K : Txt F) :
    iprop(recs X κ σ ∗ ow c O₀ ∗ dutyTok ER (credC (nb (!d) c) d) 0 (h + 1) ∗ reached ER (credC (nb (!d) c) d) 0 ∗ frees (F := F) c d (h + 2)
        ∗ (ow c O -∗ run c K Q))
      ⊢ run c (sigCred d (nb (!d) c) K) Q := by
  unfold ow sigCred
  iintro ⟨#HR, ⟨%W, HO⟩, Ht, #Hr, #Hf, Hk⟩
  ihave #Hc := (recs_cell X κ σ (mem_cred (nb (!d) c) d)) $$ HR
  iapply (Rounds.wp_signal 𝒱₀ ER (Rd X) (c : Thread nD τ) none (dst := (nb (!d) c : Thread nD τ)) (sem := credS d) (r := 0) (d := h + 1)
      (k' := 1) (κ := κ (credC (nb (!d) c) d)) (by rw [duties_cred]; exact Finset.mem_Icc.2 ⟨by omega, by omega⟩) (amount_cred X (nb (!d) c) d 0 (h + 1)) (h + 1) O hO)
    $$ [HO Ht]
  · isplitr; · iexact Hc
    isplitl [HO]; · iexact HO
    isplitl [Ht]; · iexact Ht
    isplitr
    · rw [payload_cred, nb_nb]; iexact Hf
    iexact Hr
  iintro HO
  iapply Hk
  iexists W; iexact HO

end Cert.RingProof
end
-- ==== Proof.Ring.Hops.lean ====
/-
A hop of one direction, step by step: what device `c` holds before each of the five steps, and each step's rule. The two
directions of the ring run through the same states side by side.
-/
module

public import proofs.«01_k».proof.Proof.Ring.Steps

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv slot_take slot_release slot_slot_false)

variable {F : FTy → Type} [FloatOps F]

local notation "𝕄" => MT nD τ sig ℕ (Elt F) ℕ UU ℕ

/-! ## What is spent along the hops -/

/-- The completions of the sends from hop `a` on. -/
def sendToks (d : Bool) (c : Dev nD) (a : ℕ) : sProp 𝕄 := bigSep (Finset.Ico a 16) fun i =>
  iprop(dutyTok ER (sendC c d (par i)) (i / 2) 0 ∗ dutyTok ER (recvC (nb d c) d (par (i + 1))) (i / 2) 0)
/-- The turns to write the neighbour's slots from hop `a` on. -/
def writeToks (d : Bool) (c : Dev nD) (a : ℕ) : sProp 𝕄 := bigSep (Finset.Ico a 15) fun i =>
  writeTok EL (slotK (nb d c) d (par (i + 1))) ((i + 2) / 2)
/-- The landings expected from hop `b` on. -/
def landCreds (d : Bool) (c : Dev nD) (b : ℕ) : sProp 𝕄 := bigSep (Finset.Ico b 16) fun i =>
  cred (tallyAt (recvC c d (par (i + 1))) i (amt i))
/-- The credits to give from hop `e` on. -/
def sigToks (d : Bool) (c : Dev nD) (e : ℕ) : sProp 𝕄 := bigSep (Finset.Ico (e + 1) 16) fun j =>
  dutyTok ER (credC (nb (!d) c) d) 0 j
/-- The credits to take from hop `f` on. -/
def credCreds (d : Bool) (c : Dev nD) (f : ℕ) : sProp 𝕄 := bigSep (Finset.Ico f 16) fun j => cred (tallyAt (credC c d) j 1)

/-- All five. -/
def Tk (d : Bool) (c : Dev nD) (a b e f : ℕ) : sProp 𝕄 :=
  iprop(sendToks (F := F) d c a ∗ writeToks (F := F) d c a ∗ landCreds (F := F) d c b ∗ sigToks (F := F) d c e ∗ credCreds (F := F) d c f)

/-! ## The states of a hop -/

/-- Known at the start of hop `h`: the rounds reached, and the slots released so far. -/
def Kp (d : Bool) (c : Dev nD) (h : ℕ) : sProp 𝕄 :=
  iprop(reached ER (sendC c d (par h)) (h / 2) ∗ reached ER (sendC c d (par (h + 1))) ((h + 1) / 2)
    ∗ reached ER (recvC c d (par h)) ((h + 1) / 2) ∗ reached ER (credC (nb (!d) c) d) 0 ∗ frees (F := F) c d (h + 1))
instance Kp_persistent (d : Bool) (c : Dev nD) (h : ℕ) : BI.Persistent (Kp (F := F) d c h : sProp 𝕄) := by unfold Kp; infer_instance
/-- Kept through hop `h`: the places in the cells and slots that it does not touch. -/
def Ks (d : Bool) (c : Dev nD) (h : ℕ) : sProp 𝕄 :=
  iprop(readerAt EL (slotK c d (par (h + 1))) ((h + 2) / 2) ∗ atPos ER (sendC c d (par (h + 1))) ((h + 1) / 2) ∅ 0
    ∗ atPos ER (recvC c d (par h)) ((h + 1) / 2) ∅ 0)
/-- Moved on by hop `h`. -/
def Kc (d : Bool) (c : Dev nD) (h : ℕ) : sProp 𝕄 :=
  iprop(readerAt EL (slotK c d (par h)) ((h + 1) / 2) ∗ atPos ER (sendC c d (par h)) (h / 2) ∅ 0
    ∗ atPos ER (recvC c d (par (h + 1))) (h / 2) ∅ 0)

/-- At the start, `n` credits taken. -/
def S0 (d : Bool) (c : Dev nD) (h n : ℕ) : sProp 𝕄 :=
  iprop(Kp (F := F) d c h ∗ Ks (F := F) d c h ∗ Kc (F := F) d c h ∗ Tk (F := F) d c h h h h ∗ credSt (F := F) d c n)
/-- The neighbour's slot known to be free. -/
def S1 (d : Bool) (c : Dev nD) (h : ℕ) : sProp 𝕄 :=
  iprop(Kp (F := F) d c h ∗ Ks (F := F) d c h ∗ Kc (F := F) d c h ∗ Tk (F := F) d c h h h (h + 1) ∗ credSt (F := F) d c h ∗ free (F := F) (nb d c) d h)
/-- The block sent. -/
def S2 (d : Bool) (c : Dev nD) (h : ℕ) : sProp 𝕄 :=
  iprop(Kp (F := F) d c h ∗ Ks (F := F) d c h ∗ Kc (F := F) d c h ∗ cred (tallyAt (sendC c d (par h)) h (amt h))
    ∗ Tk (F := F) d c (h + 1) h h (h + 1) ∗ credSt (F := F) d c h)
/-- The block gone and its slot released, `n` slots released so far. -/
def S3 (d : Bool) (c : Dev nD) (h n e : ℕ) : sProp 𝕄 :=
  iprop(Kp (F := F) d c h ∗ Ks (F := F) d c h
    ∗ (readerAt EL (slotK c d (par h)) ((h + 1) / 2 + 1) ∗ atPos ER (sendC c d (par h)) (h / 2 + 1) ∅ 0
      ∗ reached ER (sendC c d (par h)) (h / 2 + 1) ∗ atPos ER (recvC c d (par (h + 1))) (h / 2) ∅ 0)
    ∗ frees (F := F) c d (h + 2) ∗ Tk (F := F) d c (h + 1) h e (h + 1) ∗ credSt (F := F) d c h)

variable (X : Dev nD → XVec F) (w : Dev nD → WVec F) (κ : GSem nD τ sig → ℕ) (σ : Key → ℕ)
variable (c : Dev nD) (Q : PUnit → sProp (MT nD τ sig ℕ (Elt F) ℕ UU ℕ))

/-- Slot `par h` of direction `d` holds the block of hop `h`. -/
def blk (d : Bool) (c : Dev nD) (h : ℕ) (q : PosShare TreeShare) : sProp 𝕄 := holds (slotM d (par h)) c q (X (org d h c))

theorem par_two (h : ℕ) : par (h + 2) = par h := Fin.ext (by show (h + 2) % 2 = h % 2; omega)
theorem half_two (h : ℕ) : (h + 2) / 2 = h / 2 + 1 := by omega

theorem frees_next (e : Dev nD) (d : Bool) (n : ℕ) : iprop(frees (F := F) e d n ∗ free (F := F) e d n) ⊢ (frees e d (n + 1) : sProp 𝕄) := by
  unfold frees
  rw [Finset.range_add_one]
  refine BIBase.Entails.trans (show _ ⊢ iprop(free (F := F) e d n ∗ bigSep (Finset.range n) fun i => free (F := F) e d i) from ?_)
    (Entails.of_eq (bigSep_insert Finset.notMem_range_self).symm)
  iintro ⟨H1, H2⟩
  isplitl [H2]; · iexact H2
  iexact H1

/-- A released slot is a free one. -/
theorem free_of (d : Bool) (h : ℕ) :
    iprop(released EL (slotK c d (par h)) ((h + 1) / 2 + 1) ∗ reached ER (recvC c d (par h)) ((h + 1) / 2)) ⊢ (free (F := F) c d (h + 1) : sProp 𝕄) := by
  unfold free
  rw [show h + 1 + 1 = h + 2 from rfl, par_two, show h + 1 + 2 = (h + 1) + 2 from rfl, half_two]

theorem slot_nonempty (d : Bool) (k : Fin 2) : (slotM d k).view.set.Nonempty := View.set_nonempty (by decide +kernel)

/-! ## The steps -/

theorem st_cred (d : Bool) (n : ℕ) (h0 : n + 1 < 16) (O : CellTallies nD τ sig ℕ) (hO : above (10 * (n + 1) + 2) O) (K : Txt F) :
    iprop(recs X κ σ ∗ ow (F := F) c O ∗ S0 (F := F) d c (n + 1) n ∗ (ow (F := F) c O -∗ S1 (F := F) d c (n + 1) -∗ run c K Q)) ⊢ run c (waitCred d K) Q := by
  unfold S0 S1 Tk
  iintro ⟨#HR, HO, ⟨Kp, Ks, Kc, ⟨T1, T2, T3, T4, T5⟩, HS⟩, Hk⟩
  unfold credCreds
  ihave T5 := (big_peel h0) $$ T5
  icases T5 with ⟨HC, T5⟩
  iapply (wp_credOn X κ σ c Q d n h0 O hO K) $$ [HC HO HS Kp Ks Kc T1 T2 T3 T4 T5 Hk]
  isplitr; · iexact HR
  isplitl [HC]; · iexact HC
  isplitl [HO]; · iexact HO
  isplitl [HS]; · iexact HS
  iintro HO HS HF
  iapply Hk $$ HO
  isplitl [Kp]; · iexact Kp
  isplitl [Ks]; · iexact Ks
  isplitl [Kc]; · iexact Kc
  isplitl [T1 T2 T3 T4 T5]
  · isplitl [T1]; · iexact T1
    isplitl [T2]; · iexact T2
    isplitl [T3]; · iexact T3
    isplitl [T4]; · iexact T4
    iexact T5
  isplitl [HS]; · iexact HS
  iexact HF

theorem send_pay {h : ℕ} (hh : h < 15) (d : Bool) : blk X d c h (PosShare.left fullShare) ⊢ sendPay X d h c := by
  unfold sendPay blk
  rw [if_neg (by omega)]
theorem pay_send {h : ℕ} (hh : h < 15) (d : Bool) : sendPay X d h c ⊢ blk X d c h (PosShare.left fullShare) := by
  unfold sendPay blk
  rw [if_neg (by omega)]
theorem recv_pay {h : ℕ} (hh : h < 15) (d : Bool) :
    holds (slotM d (par (h + 1))) (nb d c) fullShare (X (org d h c)) ⊢ recvPay X d h (nb d c) := by
  unfold recvPay
  rw [if_neg (by omega), org_nb]
theorem pay_recv {h : ℕ} (hh : h < 15) (d : Bool) : recvPay X d h c ⊢ blk X d c (h + 1) fullShare := by
  unfold recvPay blk
  rw [if_neg (by omega)]

theorem st_send (d : Bool) (h : ℕ) (hh : h < 15) {O₀ : CellTallies nD τ sig ℕ} (O : CellTallies nD τ sig ℕ) (hO : O₀ = O + arr d c h)
    (e : Dev nD) (he : e = nb d c) (K : Txt F) :
    iprop(recs X κ σ ∗ ow (F := F) c O₀ ∗ S1 (F := F) d c h ∗ blk X d c h fullShare
        ∗ (ow (F := F) c O -∗ S2 (F := F) d c h -∗ blk X d c h (PosShare.right fullShare) -∗ run c K Q))
      ⊢ run c (sendSlot d (par h) (par (h + 1)) e K) Q := by
  subst he
  unfold S1 S2 Tk sendToks writeToks
  iintro ⟨#HR, HO, ⟨#Kp, Ks, Kc, ⟨T1, T2, T3, T4, T5⟩, HS, #HF⟩, HB, Hk⟩
  ihave T1 := (big_peel (show h < 16 by omega)) $$ T1
  icases T1 with ⟨⟨Ht1, Ht2⟩, T1⟩
  ihave T2 := (big_peel hh) $$ T2
  icases T2 with ⟨HW, T2⟩
  unfold free
  icases HF with ⟨HF1, HF2⟩
  ihave #Hsl := (recs_slot X κ σ (nb d c) d (par (h + 1))) $$ HR
  imod (slot_take (E := EL) (ι := σ (slotK (nb d c) d (par (h + 1)))) (k := slotK (nb d c) d (par (h + 1)))
    (S := anyOf (F := F) (slotM d (par (h + 1))) (nb d c)) (Set.mem_univ _) ((h + 2) / 2)) $$ [HW] with HN
  · isplitr; · iexact Hsl
    isplitr; · iexact HF1
    iexact HW
  ihave HB := (show blk X d c h fullShare ⊢ iprop(blk X d c h (PosShare.left fullShare) ∗ blk X d c h (PosShare.right fullShare)) from
    holds_split (slotM d (par h)) c (X (org d h c))) $$ HB
  icases HB with ⟨HB1, HB2⟩
  ihave #Hs := (show Kp (F := F) d c h ⊢ reached ER (sendC c d (par h)) (h / 2) by unfold RingProof.Kp; iintro ⟨H, -⟩; iexact H) $$ Kp
  iapply (wp_sendOn X κ σ c Q d h (by omega) (slotM d (par h)) (slotM d (par (h + 1))) (slotM_wordExact d (par h)) (slotM_wordExact d (par (h + 1)))
    (hT := ⟨⟨rfl, Or.inl rfl⟩, trivial⟩) (PosShare.left fullShare) (X (org d h c)) (hn := by rw [show amt h = amtSlot by unfold amt; rw [if_neg (by omega)]]; exact credit_slot d _)
    (send_pay X c hh d) (recv_pay X c hh d) O hO K) $$ [HB1 HN HO Ht1 Ht2 Ks Kc T1 T2 T3 T4 T5 HS HB2 Hk]
  isplitr; · iexact HR
  isplitl [HB1]; · unfold blk; iexact HB1
  isplitl [HN]; · iexact HN
  isplitl [HO]; · iexact HO
  isplitl [Ht1]; · iexact Ht1
  isplitr; · iexact Hs
  isplitl [Ht2]; · iexact Ht2
  isplitr; · iexact HF2
  iintro HC HO
  iapply Hk $$ HO [Ks Kc HC T1 T2 T3 T4 T5 HS] HB2
  isplitr; · iexact Kp
  isplitl [Ks]; · iexact Ks
  isplitl [Kc]; · iexact Kc
  isplitl [HC]; · iexact HC
  isplitl [T1 T2 T3 T4 T5]
  · isplitl [T1]; · iexact T1
    isplitl [T2]; · iexact T2
    isplitl [T3]; · iexact T3
    isplitl [T4]; · iexact T4
    iexact T5
  iexact HS

theorem st_sent (d : Bool) (h : ℕ) (hh : h < 15) (O : CellTallies nD τ sig ℕ) (hO : above (10 * h + 3) O) (K : Txt F) :
    iprop(recs X κ σ ∗ ow (F := F) c O ∗ S2 (F := F) d c h ∗ blk X d c h (PosShare.right fullShare)
        ∗ (ow (F := F) c O -∗ S3 (F := F) d c h h h -∗ run c K Q))
      ⊢ run c (waitSent d (par h) (par (h + 1)) K) Q := by
  unfold S2 S3
  iintro ⟨#HR, HO, ⟨#Kp, Ks, Kc, HC, HT, HS⟩, HB2, Hk⟩
  unfold Kc
  icases Kc with ⟨Kr, Ka, Kb⟩
  iapply (wp_waitOn X κ σ c Q (sendS d (par h)) (h / 2) h (amt h) (sendPay X d h c) (slotM d (par (h + 1))) (slotM d (par h)) (slotM_wordExact d (par (h + 1)))
    (slotM_wordExact d (par h)) (mem_send c d (par h)) (by omega) (by rw [show amt h = amtSlot by unfold amt; rw [if_neg (by omega)]]; exact credit_slot d _)
    (expect_send X c d h (by omega)) (duties_send X c d (by omega) _) (payload_send X c d h 0) O (10 * h + 3) (le_of_eq (lv_send c d (par h) h)) hO K)
    $$ [HC HO Ka Ks Kr Kb HT HS HB2 Hk]
  isplitr; · iexact HR
  isplitl [HC]; · iexact HC
  isplitl [HO]; · iexact HO
  isplitl [Ka]; · iexact Ka
  iintro HO Ka #Hr HB1
  ihave HB1 := (pay_send X c hh d) $$ HB1
  ihave HB := (show iprop(blk X d c h (PosShare.left fullShare) ∗ blk X d c h (PosShare.right fullShare)) ⊢ blk X d c h fullShare from
    holds_join (slotM d (par h)) c (X (org d h c))) $$ [HB1 HB2]
  · isplitl [HB1]; · iexact HB1
    iexact HB2
  ihave HB := (show blk X d c h fullShare ⊢ anyOf (F := F) (slotM d (par h)) c from holds_any (slotM d (par h)) c _) $$ HB
  ihave #Hsl := (recs_slot X κ σ c d (par h)) $$ HR
  imod (slot_release (E := EL) (ι := σ (slotK c d (par h))) (k := slotK c d (par h)) (S := anyOf (F := F) (slotM d (par h)) c) (Set.mem_univ _)
    (slot_slot_false (slot_nonempty d (par h))) ((h + 1) / 2)) $$ [Kr HB] with ⟨Kr, #Hrel⟩
  · isplitr; · iexact Hsl
    isplitl [Kr]; · iexact Kr
    iexact HB
  ihave #Hfs := (show iprop(Kp (F := F) d c h ∗ released EL (slotK c d (par h)) ((h + 1) / 2 + 1)) ⊢ frees (F := F) c d (h + 2) by
    unfold RingProof.Kp
    iintro ⟨⟨-, -, H1, -, H2⟩, H3⟩
    iapply (frees_next c d (h + 1))
    isplitl [H2]; · iexact H2
    iapply (free_of c d h)
    isplitl [H3]; · iexact H3
    iexact H1) $$ []
  · isplitr; · iexact Kp
    iexact Hrel
  iapply Hk $$ HO
  isplitr; · iexact Kp
  isplitl [Ks]; · iexact Ks
  isplitl [Kr Ka Kb]
  · isplitl [Kr]; · iexact Kr
    isplitl [Ka]; · iexact Ka
    isplitr; · iexact Hr
    iexact Kb
  isplitr; · iexact Hfs
  isplitl [HT]; · iexact HT
  iexact HS

theorem st_give (d : Bool) (h : ℕ) (hh : h < 15) {O₀ : CellTallies nD τ sig ℕ} (O : CellTallies nD τ sig ℕ) (hO : O₀ = O + crd d c (h + 1))
    (e : Dev nD) (he : e = nb (!d) c) (K : Txt F) :
    iprop(recs X κ σ ∗ ow (F := F) c O₀ ∗ S3 (F := F) d c h h h ∗ (ow (F := F) c O -∗ S3 (F := F) d c h h (h + 1) -∗ run c K Q))
      ⊢ run c (sigCred d e K) Q := by
  subst he
  unfold S3 Tk sigToks
  iintro ⟨#HR, HO, ⟨#Kp, Ks, Kc, #HF, ⟨T1, T2, T3, T4, T5⟩, HS⟩, Hk⟩
  ihave T4 := (big_peel (show h + 1 < 16 by omega)) $$ T4
  icases T4 with ⟨Ht, T4⟩
  ihave #Hs := (show Kp (F := F) d c h ⊢ reached ER (credC (nb (!d) c) d) 0 by unfold RingProof.Kp; iintro ⟨-, -, -, H, -⟩; iexact H) $$ Kp
  iapply (wp_giveCred X κ σ c Q d h hh O hO K) $$ [HO Ht Ks Kc T1 T2 T3 T4 T5 HS Hk]
  isplitr; · iexact HR
  isplitl [HO]; · iexact HO
  isplitl [Ht]; · iexact Ht
  isplitr; · iexact Hs
  isplitr; · iexact HF
  iintro HO
  iapply Hk $$ HO
  isplitr; · iexact Kp
  isplitl [Ks]; · iexact Ks
  isplitl [Kc]; · iexact Kc
  isplitr; · iexact HF
  isplitl [T1 T2 T3 T4 T5]
  · isplitl [T1]; · iexact T1
    isplitl [T2]; · iexact T2
    isplitl [T3]; · iexact T3
    isplitl [T4]; · iexact T4
    iexact T5
  iexact HS

theorem st_land (d : Bool) (h : ℕ) (hh : h < 15) (O : CellTallies nD τ sig ℕ) (hO : above (10 * h + 4) O) (K : Txt F) :
    iprop(recs X κ σ ∗ ow (F := F) c O ∗ S3 (F := F) d c h h (h + 1)
        ∗ (ow (F := F) c O -∗ S0 (F := F) d c (h + 1) h -∗ blk X d c (h + 1) fullShare -∗ run c K Q))
      ⊢ run c (waitLanded d (par h) (par (h + 1)) K) Q := by
  unfold S3 S0 Tk landCreds
  iintro ⟨#HR, HO, ⟨#HKp, HKs, ⟨Kr, Ka, #Hra, Kb⟩, #HF, ⟨T1, T2, T3, T4, T5⟩, HS⟩, Hk⟩
  ihave T3 := (big_peel (show h < 16 by omega)) $$ T3
  icases T3 with ⟨HC, T3⟩
  iapply (wp_waitOn X κ σ c Q (recvS d (par (h + 1))) (h / 2) h (amt h) (recvPay X d h c) (slotM d (par h)) (slotM d (par (h + 1))) (slotM_wordExact d (par h))
    (slotM_wordExact d (par (h + 1))) (mem_recv c d (par (h + 1))) (by omega) (by rw [show amt h = amtSlot by unfold amt; rw [if_neg (by omega)]]; exact credit_slot d _)
    (expect_recv X c d h (by omega)) (duties_recv X c d (by omega) _) (payload_recv X c d h 0) O (10 * h + 4) (le_of_eq (lv_recv c d (par (h + 1)) h)) hO K)
    $$ [HC HO Ka HKs Kr Kb T1 T2 T3 T4 T5 HS Hk]
  isplitr; · iexact HR
  isplitl [HC]; · iexact HC
  isplitl [HO]; · iexact HO
  isplitl [Kb]; · iexact Kb
  iintro HO Kb #Hrb HB
  ihave HB := (pay_recv X c hh d) $$ HB
  unfold Ks Kc Kp
  icases HKs with ⟨Kr', Ka', Kb'⟩
  icases HKp with ⟨-, H2, -, H4, -⟩
  rw [show h + 1 + 1 = h + 2 from rfl, par_two, show h + 1 + 2 = (h + 1) + 2 from rfl, half_two, half_two]
  iapply Hk $$ HO [Kr Ka Kb Kr' Ka' Kb' T1 T2 T3 T4 T5 HS] HB
  isplitr
  · isplitr; · iexact H2
    isplitr; · iexact Hra
    isplitr; · iexact Hrb
    isplitr; · iexact H4
    iexact HF
  isplitl [Kr Ka Kb]
  · isplitl [Kr]; · iexact Kr
    isplitl [Ka]; · iexact Ka
    iexact Kb
  isplitl [Kr' Ka' Kb']
  · isplitl [Kr']; · iexact Kr'
    isplitl [Ka']; · iexact Ka'
    iexact Kb'
  isplitl [T1 T2 T3 T4 T5]
  · isplitl [T1]; · iexact T1
    isplitl [T2]; · iexact T2
    isplitl [T3]; · iexact T3
    isplitl [T4]; · iexact T4
    iexact T5
  iexact HS

end Cert.RingProof
end
-- ==== Proof.Ring.Run.lean ====
/-
The hops: both directions' steps put together, from the first hop to the last, with the products they store.
-/
module

public import proofs.«01_k».proof.Proof.Ring.Hops

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv slot_take slot_release slot_slot_false)

variable {F : FTy → Type} [FloatOps F]

local notation "𝕄" => MT nD τ sig ℕ (Elt F) ℕ UU ℕ

variable (X : Dev nD → XVec F) (w : Dev nD → WVec F) (κ : GSem nD τ sig → ℕ) (σ : Key → ℕ)
variable (c : Dev nD) (Q : PUnit → sProp (MT nD τ sig ℕ (Elt F) ℕ UU ℕ))

/-- The groups of rows whose product is stored once `n` hops are done. -/
def done (n : ℕ) (b : ℕ) : Prop := ∃ i < n, ∃ d : Bool, b / 2 = (org d i c).val

theorem done_next {n b : ℕ} (h : done c (n + 1) b) : (done c n b ∨ b / 2 = (org true n c).val) ∨ b / 2 = (org false n c).val := by
  obtain ⟨i, hi, d, hb⟩ := h
  rcases Nat.lt_succ_iff_lt_or_eq.1 hi with h | rfl
  · exact .inl (.inl ⟨i, h, d, hb⟩)
  · cases d
    · exact .inr hb
    · exact .inl (.inr hb)

/-- What the products use: the table of devices, the weights, the result so far. -/
def rest (B : ℕ → Prop) : sProp 𝕄 := iprop(devAt (F := F) c ∗ holds wM c fullShare (w c) ∗ out X w c B)

/-- Owed at the start of hop `h`. -/
def due (h k : ℕ) : CellTallies nD τ sig ℕ := arrS true h c + arrS false h c + crdS true k c + crdS false k c

theorem above_due {n h k : ℕ} (h1 : n < 10 * h + 4) (h2 : n < 10 * k + 2) : above n (due c h k) :=
  above_add (above_add (above_add (above_arrS true c h1) (above_arrS false c h1)) (above_crdS true c h2)) (above_crdS false c h2)

section Moves
variable (a b e d x : CellTallies nD τ sig ℕ)
theorem move1 : (a + x) + b + e + d = a + b + e + d + x := by
  rw [add_right_comm a x b, add_right_comm (a + b) x e, add_right_comm (a + b + e) x d]
theorem move2 : a + (b + x) + e + d = a + b + e + d + x := by
  rw [← add_assoc a b x, add_right_comm (a + b) x e, add_right_comm (a + b + e) x d]
theorem move3 : a + b + (e + x) + d = a + b + e + d + x := by
  rw [← add_assoc (a + b) e x, add_right_comm (a + b + e) x d]
theorem move4 : a + b + e + (d + x) = a + b + e + d + x := (add_assoc _ _ _).symm
end Moves

/-- Both blocks of hop `h` sent. -/
theorem wp_sends (h : ℕ) (hh : h < 15) (k : ℕ) (dr dl : Dev nD) (hr : dr = nb true c) (hl : dl = nb false c) (K : Txt F) :
    iprop(recs X κ σ ∗ ow (F := F) c (due c h k) ∗ S1 (F := F) true c h ∗ blk X true c h fullShare ∗ S1 (F := F) false c h ∗ blk X false c h fullShare
        ∗ (ow (F := F) c (due c (h + 1) k) -∗ S2 (F := F) true c h -∗ blk X true c h (PosShare.right fullShare)
          -∗ S2 (F := F) false c h -∗ blk X false c h (PosShare.right fullShare) -∗ run c K Q))
      ⊢ run c (sendSlot true (par h) (par (h + 1)) dr <| sendSlot false (par h) (par (h + 1)) dl K) Q := by
  iintro ⟨#HR, HO, HT, BT, HF, BF, Hk⟩
  iapply (st_send X κ σ c Q true h hh (O₀ := due c h k) (arrS true (h + 1) c + arrS false h c + crdS true k c + crdS false k c)
    (by unfold due; rw [arrS_peel true (show h < 16 by omega), move1]) dr hr _) $$ [HO HT BT HF BF Hk]
  isplitr; · iexact HR
  isplitl [HO]; · iexact HO
  isplitl [HT]; · iexact HT
  isplitl [BT]; · iexact BT
  iintro HO HT BT
  iapply (st_send X κ σ c Q false h hh (O₀ := arrS true (h + 1) c + arrS false h c + crdS true k c + crdS false k c) (due c (h + 1) k)
    (by unfold due; rw [arrS_peel false (show h < 16 by omega), move2]) dl hl _) $$ [HO HT BT HF BF Hk]
  isplitr; · iexact HR
  isplitl [HO]; · iexact HO
  isplitl [HF]; · iexact HF
  isplitl [BF]; · iexact BF
  iintro HO HF BF
  iapply Hk $$ HO HT BT HF BF

/-- The rest of a hop after its products. -/
theorem wp_after (h : ℕ) (hh : h < 15) (dr dl : Dev nD) (hr : dr = nb true c) (hl : dl = nb false c) (K : Txt F) :
    iprop(recs X κ σ ∗ ow (F := F) c (due c (h + 1) (h + 1)) ∗ S2 (F := F) true c h ∗ blk X true c h (PosShare.right fullShare)
        ∗ S2 (F := F) false c h ∗ blk X false c h (PosShare.right fullShare)
        ∗ (ow (F := F) c (due c (h + 1) (h + 2)) -∗ S0 (F := F) true c (h + 1) h -∗ blk X true c (h + 1) fullShare
          -∗ S0 (F := F) false c (h + 1) h -∗ blk X false c (h + 1) fullShare -∗ run c K Q))
      ⊢ run c (waitSent true (par h) (par (h + 1)) <| waitSent false (par h) (par (h + 1)) <|
          sigCred true dl <| sigCred false dr <|
          waitLanded true (par h) (par (h + 1)) <| waitLanded false (par h) (par (h + 1)) K) Q := by
  iintro ⟨#HR, HO, HT, BT, HF, BF, Hk⟩
  iapply (st_sent X κ σ c Q true h hh (due c (h + 1) (h + 1)) (above_due c (by omega) (by omega)) _) $$ [HO HT BT HF BF Hk]
  isplitr; · iexact HR
  isplitl [HO]; · iexact HO
  isplitl [HT]; · iexact HT
  isplitl [BT]; · iexact BT
  iintro HO HT
  iapply (st_sent X κ σ c Q false h hh (due c (h + 1) (h + 1)) (above_due c (by omega) (by omega)) _) $$ [HO HT HF BF Hk]
  isplitr; · iexact HR
  isplitl [HO]; · iexact HO
  isplitl [HF]; · iexact HF
  isplitl [BF]; · iexact BF
  iintro HO HF
  iapply (st_give X κ σ c Q true h hh (O₀ := due c (h + 1) (h + 1)) (arrS true (h + 1) c + arrS false (h + 1) c + crdS true (h + 2) c + crdS false (h + 1) c)
    (by unfold due; rw [crdS_peel true (show h + 1 < 16 by omega), move3]) dl hl _) $$ [HO HT HF Hk]
  isplitr; · iexact HR
  isplitl [HO]; · iexact HO
  isplitl [HT]; · iexact HT
  iintro HO HT
  iapply (st_give X κ σ c Q false h hh (O₀ := arrS true (h + 1) c + arrS false (h + 1) c + crdS true (h + 2) c + crdS false (h + 1) c) (due c (h + 1) (h + 2))
    (by unfold due; rw [crdS_peel false (show h + 1 < 16 by omega), move4]) dr hr _) $$ [HO HT HF Hk]
  isplitr; · iexact HR
  isplitl [HO]; · iexact HO
  isplitl [HF]; · iexact HF
  iintro HO HF
  iapply (st_land X κ σ c Q true h hh (due c (h + 1) (h + 2)) (above_due c (by omega) (by omega)) _) $$ [HO HT HF Hk]
  isplitr; · iexact HR
  isplitl [HO]; · iexact HO
  isplitl [HT]; · iexact HT
  iintro HO HT BT
  iapply (st_land X κ σ c Q false h hh (due c (h + 1) (h + 2)) (above_due c (by omega) (by omega)) _) $$ [HO HT BT HF Hk]
  isplitr; · iexact HR
  isplitl [HO]; · iexact HO
  isplitl [HF]; · iexact HF
  iintro HO HF BF
  iapply Hk $$ HO HT BT HF BF

/-- Both directions' credits of hop `n + 1` taken. -/
theorem wp_creds (n : ℕ) (h0 : n + 1 < 16) (K : Txt F) :
    iprop(recs X κ σ ∗ ow (F := F) c (due c (n + 1) (n + 2)) ∗ S0 (F := F) true c (n + 1) n ∗ S0 (F := F) false c (n + 1) n
        ∗ (ow (F := F) c (due c (n + 1) (n + 2)) -∗ S1 (F := F) true c (n + 1) -∗ S1 (F := F) false c (n + 1) -∗ run c K Q))
      ⊢ run c (waitCred true <| waitCred false K) Q := by
  iintro ⟨#HR, HO, HT, HF, Hk⟩
  iapply (st_cred X κ σ c Q true n h0 (due c (n + 1) (n + 2)) (above_due c (by omega) (by omega)) _) $$ [HO HT HF Hk]
  isplitr; · iexact HR
  isplitl [HO]; · iexact HO
  isplitl [HT]; · iexact HT
  iintro HO HT
  iapply (st_cred X κ σ c Q false n h0 (due c (n + 1) (n + 2)) (above_due c (by omega) (by omega)) _) $$ [HO HT HF Hk]
  isplitr; · iexact HR
  isplitl [HO]; · iexact HO
  isplitl [HF]; · iexact HF
  iintro HO HF
  iapply Hk $$ HO HT HF

/-- The products of hop `h`. -/
theorem wp_products (h : ℕ) (hh : h < 16) (q : PosShare TreeShare) (K : Txt F) :
    iprop(blk X true c h q ∗ blk X false c h q ∗ rest X w c (done c h)
        ∗ (blk X true c h q -∗ blk X false c h q -∗ rest X w c (done c (h + 1)) -∗ run c K Q))
      ⊢ run c (gemm true (par h) (offB h (lit0 c)) (offB_inb h (lit0 c)) <| gemm false (par h) (offA h (lit0 c)) (offA_inb h (lit0 c)) K) Q := by
  unfold blk rest
  iintro ⟨BT, BF, ⟨HD, HW, HB⟩, Hk⟩
  iapply (wp_gemm c Q X w true (par h) q (org true h c) (org_ne_anti true h hh c) _ (rdev_offB h hh c) _ _ _) $$ [BT BF HD HW HB Hk]
  isplitl [HD]; · iexact HD
  isplitl [BT]; · iexact BT
  isplitl [HW]; · iexact HW
  isplitl [HB]; · iexact HB
  iintro HD BT HW HB
  iapply (wp_gemm c Q X w false (par h) q (org false h c) (org_ne_anti false h hh c) _ (rdev_offA h hh c) _ _ _) $$ [BT BF HD HW HB Hk]
  isplitl [HD]; · iexact HD
  isplitl [BF]; · iexact BF
  isplitl [HW]; · iexact HW
  isplitl [HB]; · iexact HB
  iintro HD BF HW HB
  iapply Hk $$ BT BF
  isplitl [HD]; · iexact HD
  isplitl [HW]; · iexact HW
  iapply (out_mono c X w (fun b _ hb => done_next c hb)) $$ HB

/-- Hop `n + 1`. -/
theorem wp_hop (n : ℕ) (hn : n + 1 < 15) (dr dl : Dev nD) (hr : dr = nb true c) (hl : dl = nb false c) (K : Txt F) :
    iprop(recs X κ σ ∗ ow (F := F) c (due c (n + 1) (n + 2)) ∗ S0 (F := F) true c (n + 1) n ∗ blk X true c (n + 1) fullShare
        ∗ S0 (F := F) false c (n + 1) n ∗ blk X false c (n + 1) fullShare ∗ rest X w c (done c (n + 1))
        ∗ (ow (F := F) c (due c (n + 2) (n + 3)) -∗ S0 (F := F) true c (n + 2) (n + 1) -∗ blk X true c (n + 2) fullShare
          -∗ S0 (F := F) false c (n + 2) (n + 1) -∗ blk X false c (n + 2) fullShare -∗ rest X w c (done c (n + 2)) -∗ run c K Q))
      ⊢ run c (hop (n + 1) (offB (n + 1) (lit0 c)) (offB_inb (n + 1) (lit0 c)) (offA (n + 1) (lit0 c)) (offA_inb (n + 1) (lit0 c)) dr dl K) Q := by
  unfold hop
  iintro ⟨#HR, HO, HT, BT, HF, BF, HB, Hk⟩
  iapply (wp_creds X κ σ c Q n (by omega) _) $$ [HO HT BT HF BF HB Hk]
  isplitr; · iexact HR
  isplitl [HO]; · iexact HO
  isplitl [HT]; · iexact HT
  isplitl [HF]; · iexact HF
  iintro HO HT HF
  iapply (wp_sends X κ σ c Q (n + 1) hn (n + 2) dr dl hr hl _) $$ [HO HT BT HF BF HB Hk]
  isplitr; · iexact HR
  isplitl [HO]; · iexact HO
  isplitl [HT]; · iexact HT
  isplitl [BT]; · iexact BT
  isplitl [HF]; · iexact HF
  isplitl [BF]; · iexact BF
  iintro HO HT BT HF BF
  iapply (wp_products X w c Q (n + 1) (by omega) (PosShare.right fullShare) _) $$ [HO HT BT HF BF HB Hk]
  isplitl [BT]; · iexact BT
  isplitl [BF]; · iexact BF
  isplitl [HB]; · iexact HB
  iintro BT BF HB
  iapply (wp_after X κ σ c Q (n + 1) hn dr dl hr hl _) $$ [HO HT BT HF BF HB Hk]
  isplitr; · iexact HR
  isplitl [HO]; · iexact HO
  isplitl [HT]; · iexact HT
  isplitl [BT]; · iexact BT
  isplitl [HF]; · iexact HF
  isplitl [BF]; · iexact BF
  iintro HO HT BT HF BF
  iapply Hk $$ HO HT BT HF BF HB

/-- `n` hops from hop `m + 1` on. -/
theorem wp_hops (dr dl : Dev nD) (hr : dr = nb true c) (hl : dl = nb false c) (K : Txt F) (n : ℕ) : ∀ m : ℕ, m + n < 15 →
    (iprop(recs X κ σ ∗ ow (F := F) c (due c (m + 1) (m + 2)) ∗ S0 (F := F) true c (m + 1) m ∗ blk X true c (m + 1) fullShare
        ∗ S0 (F := F) false c (m + 1) m ∗ blk X false c (m + 1) fullShare ∗ rest X w c (done c (m + 1))
        ∗ (ow (F := F) c (due c (m + n + 1) (m + n + 2)) -∗ S0 (F := F) true c (m + n + 1) (m + n) -∗ blk X true c (m + n + 1) fullShare
          -∗ S0 (F := F) false c (m + n + 1) (m + n) -∗ blk X false c (m + n + 1) fullShare -∗ rest X w c (done c (m + n + 1)) -∗ run c K Q))
      ⊢ run c (hops (lit0 c) dr dl K n (m + 1)) Q) := by
  induction n with
  | zero =>
    intro m _
    iintro ⟨-, HO, HT, BT, HF, BF, HB, Hk⟩
    iapply Hk $$ HO HT BT HF BF HB
  | succ n ih =>
    intro m hm
    unfold hops
    have ih' := ih (m + 1) (by omega)
    rw [show m + 1 + n = m + (n + 1) by omega] at ih'
    iintro ⟨#HR, HO, HT, BT, HF, BF, HB, Hk⟩
    iapply (wp_hop X w κ σ c Q m (by omega) dr dl hr hl _) $$ [HO HT BT HF BF HB Hk]
    isplitr; · iexact HR
    isplitl [HO]; · iexact HO
    isplitl [HT]; · iexact HT
    isplitl [BT]; · iexact BT
    isplitl [HF]; · iexact HF
    isplitl [BF]; · iexact BF
    isplitl [HB]; · iexact HB
    iintro HO HT BT HF BF HB
    iapply ih' $$ [HO HT BT HF BF HB Hk]
    isplitr; · iexact HR
    isplitl [HO]; · iexact HO
    isplitl [HT]; · iexact HT
    isplitl [BT]; · iexact BT
    isplitl [HF]; · iexact HF
    isplitl [BF]; · iexact BF
    isplitl [HB]; · iexact HB
    iexact Hk

/-- Hop 0: the device's own block. -/
theorem wp_hop0 (dr dl : Dev nD) (hr : dr = nb true c) (hl : dl = nb false c) (q : PosShare TreeShare) (K : Txt F) :
    iprop(recs X κ σ ∗ ow (F := F) c (due c 0 1) ∗ holds xM c q (X c) ∗ S1 (F := F) true c 0 ∗ anyOf (F := F) (slotM true 0) c
        ∗ S1 (F := F) false c 0 ∗ anyOf (F := F) (slotM false 0) c ∗ rest X w c (done c 0)
        ∗ (holds xM c q (X c) -∗ ow (F := F) c (due c 1 2) -∗ S0 (F := F) true c 1 0 -∗ blk X true c 1 fullShare
          -∗ S0 (F := F) false c 1 0 -∗ blk X false c 1 fullShare -∗ rest X w c (done c 1) -∗ run c K Q))
      ⊢ run c (hop0 c dr dl K) Q := by
  unfold hop0
  iintro ⟨#HR, HO, HX, HT, BT, HF, BF, HB, Hk⟩
  iapply (wp_fill c Q true q (X c) _) $$ [HO HX HT BT HF BF HB Hk]
  isplitl [HX]; · iexact HX
  isplitl [BT]; · iexact BT
  iintro HX BT
  iapply (wp_fill c Q false q (X c) _) $$ [HO HX HT BT HF BF HB Hk]
  isplitl [HX]; · iexact HX
  isplitl [BF]; · iexact BF
  iintro HX BF
  iapply (wp_sends X κ σ c Q 0 (by omega) 1 dr dl hr hl _) $$ [HO HX HT BT HF BF HB Hk]
  isplitr; · iexact HR
  isplitl [HO]; · iexact HO
  isplitl [HT]; · iexact HT
  isplitl [BT]; · iapply (show holds (slotM true 0) c fullShare (X c) ⊢ blk X true c 0 fullShare from .rfl) $$ BT
  isplitl [HF]; · iexact HF
  isplitl [BF]; · iapply (show holds (slotM false 0) c fullShare (X c) ⊢ blk X false c 0 fullShare from .rfl) $$ BF
  iintro HO HT BT HF BF
  unfold rest
  icases HB with ⟨HD, HW, HB⟩
  unfold blk
  iapply (wp_gemmAt c Q X w true (par 0) (PosShare.right fullShare) (org true 0 c) (org_ne_anti true 0 (by omega) c) _ (off4_eq c) _ _ _)
    $$ [HO HX HT BT HF BF HD HW HB Hk]
  isplitl [BT]; · iexact BT
  isplitl [HW]; · iexact HW
  isplitl [HB]; · iexact HB
  iintro BT HW HB
  iapply (wp_after X κ σ c Q 0 (by omega) dr dl hr hl _) $$ [HO HX HT BT HF BF HD HW HB Hk]
  unfold blk
  isplitr; · iexact HR
  isplitl [HO]; · iexact HO
  isplitl [HT]; · iexact HT
  isplitl [BT]; · iexact BT
  isplitl [HF]; · iexact HF
  isplitl [BF]; · iexact BF
  iintro HO HT BT HF BF
  iapply Hk $$ HX HO HT BT HF BF
  isplitl [HD]; · iexact HD
  isplitl [HW]; · iexact HW
  iapply (out_mono c X w (B' := done c 1) (fun b _ hb => by
    obtain ⟨i, hi, d, hb⟩ := hb
    obtain rfl : i = 0 := by omega
    exact .inr hb)) $$ HB

/-! ## The last hop -/

/-- The half sent. -/
def H2 (d : Bool) : sProp 𝕄 :=
  iprop(Kp (F := F) d c 15 ∗ Ks (F := F) d c 15 ∗ Kc (F := F) d c 15 ∗ cred (tallyAt (sendC c d (par 15)) 15 (amt 15))
    ∗ landCreds (F := F) d c 15 ∗ credSt (F := F) d c 15)
/-- The half gone. -/
def H3 (d : Bool) : sProp 𝕄 :=
  iprop(Kp (F := F) d c 15 ∗ Ks (F := F) d c 15
    ∗ (readerAt EL (slotK c d (par 15)) 8 ∗ atPos ER (sendC c d (par 15)) 8 ∅ 0 ∗ atPos ER (recvC c d (par 16)) 7 ∅ 0)
    ∗ landCreds (F := F) d c 15 ∗ credSt (F := F) d c 15)
/-- The other half here: every cell of the direction is at its last round. -/
def H4 (d : Bool) : sProp 𝕄 :=
  iprop(frees (F := F) c d 16 ∗ atPos ER (sendC c d 0) 8 ∅ 0 ∗ atPos ER (sendC c d 1) 8 ∅ 0
    ∗ atPos ER (recvC c d 0) 8 ∅ 0 ∗ atPos ER (recvC c d 1) 8 ∅ 0 ∗ credSt (F := F) d c 15)

theorem st_sendHalf (d : Bool) {O₀ : CellTallies nD τ sig ℕ} (O : CellTallies nD τ sig ℕ) (hO : O₀ = O + arr d c 15)
    (e : Dev nD) (he : e = nb d c) (K : Txt F) :
    iprop(recs X κ σ ∗ ow (F := F) c O₀ ∗ S1 (F := F) d c 15 ∗ holds (hsM d) c fullShare (half d (X (org d 15 c))) ∗ anyOf (F := F) (hrM d) (nb d c)
        ∗ (ow (F := F) c O -∗ H2 (F := F) c d -∗ run c K Q))
      ⊢ run c (sendHalf d e K) Q := by
  subst he
  unfold S1 H2 Tk sendToks
  iintro ⟨#HR, HO, ⟨#HKp, HKs, HKc, ⟨T1, -, T3, -, -⟩, HS, #HF⟩, HH, HN, Hk⟩
  ihave T1 := (big_peel (show 15 < 16 by omega)) $$ T1
  icases T1 with ⟨⟨Ht1, Ht2⟩, -⟩
  unfold free
  icases HF with ⟨-, HF2⟩
  ihave #Hs := (show Kp (F := F) d c 15 ⊢ reached ER (sendC c d (par 15)) (15 / 2) by unfold Kp; iintro ⟨H, -⟩; iexact H) $$ HKp
  iapply (wp_sendOn X κ σ c Q d 15 (by omega) (hsM d) (hrM d) (hsM_whole d).wordExact (hrM_whole d).wordExact
    (hT := ⟨⟨rfl, Or.inl rfl⟩, trivial⟩) fullShare (half d (X (org d 15 c))) (hn := credit_hr d)
    (by unfold sendPay; rw [if_pos rfl]) (by unfold recvPay; rw [if_pos rfl, org_nb]) O hO K) $$ [HH HN HO Ht1 Ht2 HKs HKc T3 HS Hk]
  isplitr; · iexact HR
  isplitl [HH]; · iexact HH
  isplitl [HN]; · iexact HN
  isplitl [HO]; · iexact HO
  isplitl [Ht1]; · iexact Ht1
  isplitr; · iexact Hs
  isplitl [Ht2]; · iexact Ht2
  isplitr; · iexact HF2
  iintro HC HO
  iapply Hk $$ HO
  isplitr; · iexact HKp
  isplitl [HKs]; · iexact HKs
  isplitl [HKc]; · iexact HKc
  isplitl [HC]; · iexact HC
  isplitl [T3]; · iexact T3
  iexact HS

theorem st_halfSent (d : Bool) (O : CellTallies nD τ sig ℕ) (hO : above 153 O) (K : Txt F) :
    iprop(recs X κ σ ∗ ow (F := F) c O ∗ H2 (F := F) c d
        ∗ (ow (F := F) c O -∗ H3 (F := F) c d -∗ anyOf (F := F) (hsM d) c -∗ run c K Q))
      ⊢ run c (waitHalfSent d K) Q := by
  unfold H2 H3 Kc
  iintro ⟨#HR, HO, ⟨#HKp, HKs, ⟨Kr, Ka, Kb⟩, HC, HT, HS⟩, Hk⟩
  iapply (wp_waitOn X κ σ c Q (sendS d (par 15)) (15 / 2) 15 (amt 15) (sendPay X d 15 c) (hrM d) (hsM d) (hrM_whole d).wordExact
    (hsM_whole d).wordExact (mem_send c d (par 15)) (by omega) (credit_hs d)
    (expect_send X c d 15 (by omega)) (duties_send X c d (by omega) _) (payload_send X c d 15 0) O 153 (le_of_eq (lv_send c d (par 15) 15)) hO K)
    $$ [HC HO Ka HKs Kr Kb HT HS Hk]
  isplitr; · iexact HR
  isplitl [HC]; · iexact HC
  isplitl [HO]; · iexact HO
  isplitl [Ka]; · iexact Ka
  iintro HO Ka - HB
  have hp : sendPay X d 15 c ⊢ anyOf (F := F) (hsM d) c := by
    unfold sendPay; rw [if_pos rfl]; exact holds_any _ _ _
  ihave HB := hp $$ HB
  iapply Hk $$ HO [HKs Kr Ka Kb HT HS] HB
  isplitr; · iexact HKp
  isplitl [HKs]; · iexact HKs
  isplitl [Kr Ka Kb]
  · isplitl [Kr]; · iexact Kr
    isplitl [Ka]; · iexact Ka
    iexact Kb
  isplitl [HT]; · iexact HT
  iexact HS

theorem st_halfLanded (d : Bool) (O : CellTallies nD τ sig ℕ) (hO : above 154 O) (K : Txt F) :
    iprop(recs X κ σ ∗ ow (F := F) c O ∗ H3 (F := F) c d
        ∗ (ow (F := F) c O -∗ H4 (F := F) c d -∗ holds (hrM d) c fullShare (half d (X (anti c))) -∗ run c K Q))
      ⊢ run c (waitHalfLanded d K) Q := by
  unfold H3 H4 landCreds Ks
  iintro ⟨#HR, HO, ⟨#HKp, ⟨-, HKa, HKb⟩, ⟨-, Ka, Kb⟩, HC, HS⟩, Hk⟩
  ihave HC := (big_peel (show 15 < 16 by omega)) $$ HC
  icases HC with ⟨HC, -⟩
  iapply (wp_waitOn X κ σ c Q (recvS d (par 16)) (15 / 2) 15 (amt 15) (recvPay X d 15 c) (hsM d) (hrM d) (hsM_whole d).wordExact
    (hrM_whole d).wordExact (mem_recv c d (par 16)) (by omega) (credit_hr d)
    (expect_recv X c d 15 (by omega)) (duties_recv X c d (by omega) _) (payload_recv X c d 15 0) O 154 (le_of_eq (lv_recv c d (par 16) 15)) hO K)
    $$ [HC HO Ka HKa HKb Kb HS Hk]
  isplitr; · iexact HR
  isplitl [HC]; · iexact HC
  isplitl [HO]; · iexact HO
  isplitl [Kb]; · iexact Kb
  iintro HO Kb - HB
  have hp : recvPay X d 15 c ⊢ holds (hrM d) c fullShare (half d (X (anti c))) := by
    unfold recvPay; rw [if_pos rfl, org_anti]
  ihave HB := hp $$ HB
  ihave #HF := (show Kp (F := F) d c 15 ⊢ frees (F := F) c d 16 by unfold Kp; iintro ⟨-, -, -, -, H⟩; iexact H) $$ HKp
  iapply Hk $$ HO [HKa HKb Ka Kb HS] HB
  isplitr; · iexact HF
  isplitl [HKa]; · iexact HKa
  isplitl [Ka]; · iexact Ka
  isplitl [Kb]; · iexact Kb
  isplitl [HKb]; · iexact HKb
  iexact HS

/-- What a direction carries past the hops for the last one: the buffer of its half, and the neighbour's. -/
def spare (d : Bool) : sProp 𝕄 := iprop(anyOf (F := F) (hsM d) c ∗ anyOf (F := F) (hrM d) (nb d c))
/-- A direction after the last hop. -/
def fin (d : Bool) : sProp 𝕄 :=
  iprop(H4 (F := F) c d ∗ anyOf (F := F) (slotM d 1) c ∗ anyOf (F := F) (hsM d) c ∗ holds (hrM d) c fullShare (half d (X (anti c))))

theorem wp_hop15 (dr dl : Dev nD) (hr : dr = nb true c) (hl : dl = nb false c) (K : Txt F) :
    iprop(recs X κ σ ∗ ow (F := F) c (due c 15 16) ∗ S0 (F := F) true c 15 14 ∗ blk X true c 15 fullShare
        ∗ S0 (F := F) false c 15 14 ∗ blk X false c 15 fullShare ∗ rest X w c (done c 15) ∗ spare (F := F) c true ∗ spare (F := F) c false
        ∗ (ow (F := F) c 0 -∗ fin X c true -∗ fin X c false -∗ rest X w c (done c 16) -∗ run c K Q))
      ⊢ run c (hop15 (lit0 c) dr dl K) Q := by
  unfold hop15 spare
  iintro ⟨#HR, HO, HT, BT, HF, BF, HB, ⟨PT, NT⟩, ⟨PF, NF⟩, Hk⟩
  iapply (wp_creds X κ σ c Q 14 (by omega) _) $$ [HO HT BT HF BF HB PT NT PF NF Hk]
  isplitr; · iexact HR
  isplitl [HO]; · iexact HO
  isplitl [HT]; · iexact HT
  isplitl [HF]; · iexact HF
  iintro HO HT HF
  ihave BT := (show blk X true c 15 fullShare ⊢ holds (slotM true 1) c fullShare (X (org true 15 c)) from .rfl) $$ BT
  ihave BF := (show blk X false c 15 fullShare ⊢ holds (slotM false 1) c fullShare (X (org false 15 c)) from .rfl) $$ BF
  iapply (wp_cut c Q true fullShare (X (org true 15 c)) _) $$ [HO HT BT HF BF HB PT NT PF NF Hk]
  isplitl [BT]; · iexact BT
  isplitl [PT]; · iexact PT
  iintro BT PT
  iapply (wp_cut c Q false fullShare (X (org false 15 c)) _) $$ [HO HT BT HF BF HB PT NT PF NF Hk]
  isplitl [BF]; · iexact BF
  isplitl [PF]; · iexact PF
  iintro BF PF
  iapply (st_sendHalf X κ σ c Q true (O₀ := due c 15 16) (arrS true 16 c + arrS false 15 c + crdS true 16 c + crdS false 16 c)
    (by unfold due; rw [arrS_peel true (show 15 < 16 by omega), move1]) dr hr _) $$ [HO HT BT HF BF HB PT NT PF NF Hk]
  isplitr; · iexact HR
  isplitl [HO]; · iexact HO
  isplitl [HT]; · iexact HT
  isplitl [PT]; · iexact PT
  isplitl [NT]; · iexact NT
  iintro HO HT
  iapply (st_sendHalf X κ σ c Q false (O₀ := arrS true 16 c + arrS false 15 c + crdS true 16 c + crdS false 16 c) 0
    (by rw [arrS_peel false (show 15 < 16 by omega), arrS_end, arrS_end, crdS_end, crdS_end, move2, add_zero, add_zero, add_zero]) dl hl _) $$ [HO HT BT HF BF HB PF NF Hk]
  isplitr; · iexact HR
  isplitl [HO]; · iexact HO
  isplitl [HF]; · iexact HF
  isplitl [PF]; · iexact PF
  isplitl [NF]; · iexact NF
  iintro HO HF
  iapply (wp_products X w c Q 15 (by omega) fullShare _) $$ [HO HT BT HF BF HB Hk]
  isplitl [BT]; · iapply (show holds (slotM true 1) c fullShare (X (org true 15 c)) ⊢ blk X true c 15 fullShare from .rfl) $$ BT
  isplitl [BF]; · iapply (show holds (slotM false 1) c fullShare (X (org false 15 c)) ⊢ blk X false c 15 fullShare from .rfl) $$ BF
  isplitl [HB]; · iexact HB
  iintro BT BF HB
  iapply (st_halfSent X κ σ c Q true 0 (above_zero _) _) $$ [HO HT BT HF BF HB Hk]
  isplitr; · iexact HR
  isplitl [HO]; · iexact HO
  isplitl [HT]; · iexact HT
  iintro HO HT PT
  iapply (st_halfSent X κ σ c Q false 0 (above_zero _) _) $$ [HO HT BT HF BF HB PT Hk]
  isplitr; · iexact HR
  isplitl [HO]; · iexact HO
  isplitl [HF]; · iexact HF
  iintro HO HF PF
  iapply (st_halfLanded X κ σ c Q true 0 (above_zero _) _) $$ [HO HT BT HF BF HB PT PF Hk]
  isplitr; · iexact HR
  isplitl [HO]; · iexact HO
  isplitl [HT]; · iexact HT
  iintro HO HT NT
  iapply (st_halfLanded X κ σ c Q false 0 (above_zero _) _) $$ [HO HT BT HF BF HB PT PF NT Hk]
  isplitr; · iexact HR
  isplitl [HO]; · iexact HO
  isplitl [HF]; · iexact HF
  iintro HO HF NF
  ihave BT := (show blk X true c 15 fullShare ⊢ anyOf (F := F) (slotM true 1) c from holds_any (slotM true 1) c _) $$ BT
  ihave BF := (show blk X false c 15 fullShare ⊢ anyOf (F := F) (slotM false 1) c from holds_any (slotM false 1) c _) $$ BF
  iapply Hk $$ HO [HT BT PT NT] [HF BF PF NF] HB
  · unfold fin
    isplitl [HT]; · iexact HT
    isplitl [BT]; · iexact BT
    isplitl [PT]; · iexact PT
    iexact NT
  · unfold fin
    isplitl [HF]; · iexact HF
    isplitl [BF]; · iexact BF
    isplitl [PF]; · iexact PF
    iexact NF

/-- The groups of rows of the opposite device's block. -/
theorem all_done {b : ℕ} (hb : b < 64) : (done c 16 b ∨ b = (anti c).val * 2 + cond true 0 1) ∨ b = (anti c).val * 2 + cond false 0 1 := by
  have hlt : b / 2 < 32 := by omega
  rcases covered c ⟨b / 2, hlt⟩ with h | ⟨d, i, h⟩
  · have hv : b / 2 = (anti c).val := congrArg Fin.val h
    rcases Nat.mod_two_eq_zero_or_one b with h2 | h2
    · exact .inl (.inr (by show b = (anti c).val * 2 + 0; omega))
    · exact .inr (by show b = (anti c).val * 2 + 1; omega)
  · exact .inl (.inl ⟨i.val, i.isLt, d, congrArg Fin.val h⟩)

theorem wp_tail (hv : k0_chk1 (lit0 c)) :
    iprop(holds (hrM true) c fullShare (half true (X (anti c))) ∗ holds (hrM false) c fullShare (half false (X (anti c))) ∗ rest X w c (done c 16)
        ∗ (anyOf (F := F) (hrM true) c -∗ anyOf (F := F) (hrM false) c -∗ rest X w c (fun _ => True) -∗ run c (.ret ⟨⟩) Q))
      ⊢ run c (tail (lit0 c) hv) Q := by
  unfold tail rest
  iintro ⟨HT, HF, ⟨HD, HW, HB⟩, Hk⟩
  iapply (wp_dev c Q (k0_off65 (lit0 c)) (k0_off65_inb (lit0 c) hv) (anti c) (rdev_off65 c) _ _) $$ [HD HT HF HW HB Hk]
  isplitl [HD]; · iexact HD
  iintro HD
  iapply (wp_assume 𝒱₀ (c : Thread nD τ) none Set.univ (chk34 (anti c)))
  iapply (wp_gemmHalf c Q X w true (k0_off66 (word (anti c))) ((off66_eq (anti c)).trans (by rw [cond_true, Nat.add_zero])) _ _ _) $$ [HD HT HF HW HB Hk]
  isplitl [HT]; · iexact HT
  isplitl [HW]; · iexact HW
  isplitl [HB]; · iexact HB
  iintro HT HW HB
  iapply (wp_gemmHalf c Q X w false (k0_off67 (word (anti c))) ((off67_eq (anti c)).trans (by rw [cond_false])) _ _ _) $$ [HD HT HF HW HB Hk]
  isplitl [HF]; · iexact HF
  isplitl [HW]; · iexact HW
  isplitl [HB]; · iexact HB
  iintro HF HW HB
  ihave HT := (holds_any (hrM true) c _) $$ HT
  ihave HF := (holds_any (hrM false) c _) $$ HF
  iapply Hk $$ HT HF
  isplitl [HD]; · iexact HD
  isplitl [HW]; · iexact HW
  iapply (out_mono c X w (fun b hb _ => all_done c hb)) $$ HB

end Cert.RingProof
end
-- ==== Proof.Ring.Body.lean ====
/-
The whole body on one device: the entry barrier, the sixteen hops, the opposite device's rows, and the cells closed.
-/
module

public import proofs.«01_k».proof.Proof.Ring.Run

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv slot_take slot_release slot_slot_false)

variable {F : FTy → Type} [FloatOps F]

local notation "𝕄" => MT nD τ sig ℕ (Elt F) ℕ UU ℕ

variable (X : Dev nD → XVec F) (w : Dev nD → WVec F) (κ : GSem nD τ sig → ℕ) (σ : Key → ℕ)
variable (c : Dev nD) (Q : PUnit → sProp (MT nD τ sig ℕ (Elt F) ℕ UU ℕ))

/-! ## A direction at the start -/

/-- The direction's cells, all at their first round. -/
def ats (d : Bool) : sProp 𝕄 :=
  iprop(atPos ER (sendC c d 0) 0 ∅ 0 ∗ atPos ER (sendC c d 1) 0 ∅ 0 ∗ atPos ER (recvC c d 0) 0 ∅ 0 ∗ atPos ER (recvC c d 1) 0 ∅ 0
    ∗ atPos ER (credC c d) 0 ∅ 0)
/-- So much is reached. -/
def known (d : Bool) : sProp 𝕄 :=
  iprop(reached ER (sendC c d 0) 0 ∗ reached ER (sendC c d 1) 0 ∗ reached ER (recvC c d 0) 0 ∗ reached ER (recvC c d 1) 0
    ∗ reached ER (credC c d) 0)
instance known_persistent (d : Bool) : BI.Persistent (known (F := F) c d : sProp 𝕄) := by unfold known; infer_instance
/-- What the launch gives a direction: its places as the reader of its slots, the last turn to write its own slot 0, its unit of
    the barrier, and all that is spent along the hops. -/
def given (d : Bool) : sProp 𝕄 :=
  iprop(reached ER (barC (nb (!d) c)) 0 ∗ dutyTok ER (barC (nb (!d) c)) 0 (cond d 1 0)
    ∗ readerAt EL (slotK c d 0) 0 ∗ readerAt EL (slotK c d 1) 0 ∗ writeTok EL (slotK c d 0) 8 ∗ Tk (F := F) d c 0 0 0 1)
/-- Its buffers. -/
def bufs (d : Bool) : sProp 𝕄 :=
  iprop(anyOf (F := F) (slotM d 0) c ∗ anyOf (F := F) (slotM d 1) c ∗ anyOf (F := F) (hsM d) c ∗ anyOf (F := F) (hrM d) c)
/-- Its cells at the end. -/
def zeros (d : Bool) : sProp 𝕄 :=
  iprop(semVal (sendC c d 0) 0 ∗ semVal (sendC c d 1) 0 ∗ semVal (recvC c d 0) 0 ∗ semVal (recvC c d 1) 0 ∗ semVal (credC c d) 0)

/-- Slot 1 is empty from the start: the neighbour may write it. -/
theorem release_first (d : Bool) :
    iprop(recs X κ σ ∗ known (F := F) c d ∗ readerAt EL (slotK c d 1) 0 ∗ anyOf (F := F) (slotM d 1) c)
      ⊢ (|={Set.univ}=> (readerAt EL (slotK c d 1) 1 ∗ free (F := F) c d 0) : sProp 𝕄) := by
  unfold known
  iintro ⟨#HR, ⟨-, -, -, #Hr, -⟩, Hs, HB⟩
  ihave #Hsl := (recs_slot X κ σ c d 1) $$ HR
  imod (slot_release (E := EL) (ι := σ (slotK c d 1)) (k := slotK c d 1) (S := anyOf (F := F) (slotM d 1) c) (Set.mem_univ _)
    (slot_slot_false (slot_nonempty d 1)) 0) $$ [Hs HB] with ⟨Hs, #Hrel⟩
  · isplitr; · iexact Hsl
    isplitl [Hs]; · iexact Hs
    iexact HB
  imodintro
  isplitl [Hs]; · iexact Hs
  iapply (show iprop(released EL (slotK c d 1) (0 + 1) ∗ reached ER (recvC c d 1) 0) ⊢ (free (F := F) c d 0 : sProp 𝕄) from .rfl)
  isplitr; · iexact Hrel
  iexact Hr

theorem frees_one (d : Bool) : free (F := F) c d 0 ⊢ (frees c d 1 : sProp 𝕄) := by
  unfold frees
  rw [Finset.range_one, bigSep_singleton]

/-- The first state, once the barrier is passed. -/
theorem first_state (d : Bool) :
    iprop(known (F := F) c d ∗ ats (F := F) c d ∗ readerAt EL (slotK c d 0) 0 ∗ readerAt EL (slotK c d 1) 1 ∗ Tk (F := F) d c 0 0 0 1
        ∗ free (F := F) c d 0 ∗ free (F := F) (nb d c) d 0 ∗ reached ER (credC (nb (!d) c) d) 0)
      ⊢ (S1 (F := F) d c 0 : sProp 𝕄) := by
  unfold known ats S1
  iintro ⟨⟨#k1, #k2, #k3, #k4, #k5⟩, ⟨a1, a2, a3, a4, a5⟩, R0, R1, HT, #HF, #HN, #HC⟩
  ihave #HFs := (frees_one c d) $$ HF
  isplitr
  · unfold Kp
    isplitr; · iexact k1
    isplitr; · iexact k2
    isplitr; · iexact k3
    isplitr; · iexact HC
    iexact HFs
  isplitl [R1 a2 a3]
  · unfold Ks
    isplitl [R1]; · iexact R1
    isplitl [a2]; · iexact a2
    iexact a3
  isplitl [R0 a1 a4]
  · unfold Kc
    isplitl [R0]; · iexact R0
    isplitl [a1]; · iexact a1
    iexact a4
  isplitl [HT]; · iexact HT
  isplitl [a5]
  · unfold credSt
    iexists ∅
    isplitr; · ipureintro; exact ⟨Finset.empty_subset _, Nat.zero_le _⟩
    isplitl [a5]; · iexact a5
    rw [bigSep_empty]
    iempintro
  iexact HN

/-! ## The barrier -/

/-- All that a device owes at its entry. -/
def dues : CellTallies nD τ sig ℕ := due c 0 1 + bard true c + bard false c

theorem wp_signalBar (d : Bool) {O₀ : CellTallies nD τ sig ℕ} (O : CellTallies nD τ sig ℕ) (hO : O₀ = O + bard d c)
    (e : Dev nD) (he : e = nb (!d) c) (K : Txt F) :
    iprop(recs X κ σ ∗ ow (F := F) c O₀ ∗ dutyTok ER (barC (nb (!d) c)) 0 (cond d 1 0) ∗ reached ER (barC (nb (!d) c)) 0 ∗ barPay (F := F) c d
        ∗ (ow (F := F) c O -∗ run c K Q))
      ⊢ run c (.op (.semSignal (Dev.tc e) barS (1#32 : BitVec 32).toInt) fun _ => K) Q := by
  subst he
  unfold ow
  iintro ⟨#HR, ⟨%W, HO⟩, Ht, #Hr, HP, Hk⟩
  ihave #Hc := (recs_cell X κ σ (mem_bar (nb (!d) c))) $$ HR
  iapply (Rounds.wp_signal 𝒱₀ ER (Rd X) (c : Thread nD τ) none (dst := (nb (!d) c : Thread nD τ)) (sem := barS) (r := 0) (d := cond d 1 0)
      (k' := 1) (κ := κ (barC (nb (!d) c))) (by rw [duties_bar]; cases d <;> decide) (amount_bar X (nb (!d) c) 0 _) 0 O hO)
    $$ [HO Ht HP]
  · isplitr; · iexact Hc
    isplitl [HO]; · iexact HO
    isplitl [Ht]; · iexact Ht
    isplitl [HP]
    · rw [payload_bar, nb_nb]; iexact HP
    iexact Hr
  iintro HO
  iapply Hk
  iexists W; iexact HO

theorem bar_pays : bigSep ((Rd X).duties (barC c) 0 \ ∅) (fun j => (Rd X).payload (barC c) 0 j)
    ⊢ iprop(barPay (F := F) (nb true c) true ∗ barPay (F := F) (nb false c) false) := by
  rw [duties_bar, Finset.sdiff_empty, bigSep_insert (by decide), bigSep_singleton,
    show (Rd X).payload (barC c) 0 0 = barPay (nb false c) false from payload_bar X c false,
    show (Rd X).payload (barC c) 0 1 = barPay (nb true c) true from payload_bar X c true]
  exact sep_comm.1

theorem wp_waitBar (O : CellTallies nD τ sig ℕ) (hO : above 1 O) (K : Txt F) :
    iprop(recs X κ σ ∗ ow (F := F) c O ∗ atPos ER (barC c) 0 ∅ 0 ∗ cred (tallyAt (barC c) 0 2)
        ∗ (ow (F := F) c O -∗ atPos ER (barC c) 1 ∅ 0 -∗ barPay (F := F) (nb true c) true -∗ barPay (F := F) (nb false c) false -∗ run c K Q))
      ⊢ run c (.op (.semWait barS (2#32 : BitVec 32).toInt) fun _ => K) Q := by
  unfold ow
  iintro ⟨#HR, ⟨%W, HO⟩, HA, HC, Hk⟩
  ihave #Hc := (recs_cell X κ σ (mem_bar c)) $$ HR
  iapply (Rounds.wp_wait_rest_token 𝒱₀ ER (Rd X) (c : Thread nD τ) none (κ := κ (barC c)) (k' := 2)
      (wpE_semWait_eq 𝒱₀ (c : Thread nD τ) none Set.univ) (Set.mem_univ _) 0 (O := O) (W := W) (R := 0) (m := 0) (T := ∅)
      ((Nat.zero_add 2).trans (expect_bar X c).symm)) $$ [HC HO HA]
  · isplitr; · iexact Hc
    isplitl [HC]; · iexact HC
    isplitl [HO]; · iexact HO
    isplitr
    · iapply (mayWait c (.reg barS) (show 0 < 16 by omega) (le_of_eq (lv_bar c 0)) hO)
      iapply (recs_lev X κ σ) $$ HR
    iexact HA
  iintro ⟨HO, HA, -, HP⟩
  ihave HP := (bar_pays X c) $$ HP
  icases HP with ⟨HT, HF⟩
  iapply Hk $$ [HO] HA HT HF
  iexists _; iexact HO

/-! ## The end -/

theorem close_at {g : GSem nD τ sig} (hg : g ∈ bars ∪ inner) {R : ℕ} (hR : ∀ r, R ≤ r → (Rd X).duties g r = ∅) :
    iprop(recs X κ σ ∗ atPos ER g R ∅ 0) ⊢ (|={Set.univ}=> semVal g 0 : sProp 𝕄) := by
  iintro ⟨#HR, HA⟩
  ihave #Hc := (recs_cell X κ σ hg) $$ HR
  iapply (Rounds.cell_close ER (Rd X) (Set.mem_univ (κ g)) id hR)
  isplitr; · iexact Hc
  iexact HA

theorem close_cred (d : Bool) : iprop(recs X κ σ ∗ credSt (F := F) d c 15) ⊢ (|={Set.univ}=> semVal (credC c d) 0 : sProp 𝕄) := by
  unfold credSt
  iintro ⟨#HR, ⟨%S, %hS, HA, -⟩⟩
  ihave #Hc := (recs_cell X κ σ (mem_cred c d)) $$ HR
  have hall : S = Finset.Icc 1 15 := Finset.eq_of_subset_of_card_le hS.1 (by rw [Nat.card_Icc]; exact hS.2)
  imod (Rounds.fupd_skip ER (Rd X) (κ := κ (credC c d)) (g := credC c d) (R := 0) (m := 15) (T := S) (by rw [duties_cred, hall])
    (expect_cred X c d).symm (Set.mem_univ _)) $$ [HA] with ⟨HA, -⟩
  · isplitr; · iexact Hc
    iexact HA
  iapply (close_at X κ σ (mem_cred c d) (R := 1) (fun r hr => later_cred X c d r hr))
  isplitr; · iexact HR
  iexact HA

theorem close_dir (d : Bool) :
    iprop(recs X κ σ ∗ H4 (F := F) c d ∗ writeTok EL (slotK c d 0) 8)
      ⊢ (|={Set.univ}=> (zeros (F := F) c d ∗ anyOf (F := F) (slotM d 0) c) : sProp 𝕄) := by
  unfold H4 zeros
  iintro ⟨#HR, ⟨HF, a1, a2, a3, a4, HS⟩, HW⟩
  ihave HF := (frees_free c d (show 15 < 16 by omega)) $$ HF
  ihave HF := (show free (F := F) c d 15 ⊢ (released EL (slotK c d 0) 8 : sProp 𝕄) by unfold free; iintro ⟨H, -⟩; iexact H) $$ HF
  ihave #Hsl := (recs_slot X κ σ c d 0) $$ HR
  imod (slot_take (E := EL) (ι := σ (slotK c d 0)) (k := slotK c d 0) (S := anyOf (F := F) (slotM d 0) c) (Set.mem_univ _) 8) $$ [HF HW] with HN
  · isplitr; · iexact Hsl
    isplitl [HF]; · iexact HF
    iexact HW
  imod (close_at X κ σ (mem_send c d 0) (fun r hr => later_send X c d 0 r hr)) $$ [a1] with a1
  · isplitr; · iexact HR
    iexact a1
  imod (close_at X κ σ (mem_send c d 1) (fun r hr => later_send X c d 1 r hr)) $$ [a2] with a2
  · isplitr; · iexact HR
    iexact a2
  imod (close_at X κ σ (mem_recv c d 0) (fun r hr => later_recv X c d 0 r hr)) $$ [a3] with a3
  · isplitr; · iexact HR
    iexact a3
  imod (close_at X κ σ (mem_recv c d 1) (fun r hr => later_recv X c d 1 r hr)) $$ [a4] with a4
  · isplitr; · iexact HR
    iexact a4
  imod (close_cred X κ σ c d) $$ [HS] with a5
  · isplitr; · iexact HR
    iexact HS
  imodintro
  isplitr [HN]
  · isplitl [a1]; · iexact a1
    isplitl [a2]; · iexact a2
    isplitl [a3]; · iexact a3
    isplitl [a4]; · iexact a4
    iexact a5
  iexact HN

/-! ## The body -/

/-- Before and after the barrier, in one direction. -/
def pay (d : Bool) : sProp 𝕄 :=
  iprop(dutyTok ER (barC (nb (!d) c)) 0 (cond d 1 0) ∗ reached ER (barC (nb (!d) c)) 0 ∗ barPay (F := F) c d)

theorem wp_enter (dr dl : Dev nD) (hr : dr = nb true c) (hl : dl = nb false c) (K : Txt F) :
    iprop(recs X κ σ ∗ ow (F := F) c (dues c) ∗ pay (F := F) c true ∗ pay (F := F) c false ∗ atPos ER (barC c) 0 ∅ 0 ∗ cred (tallyAt (barC c) 0 2)
        ∗ (ow (F := F) c (due c 0 1) -∗ atPos ER (barC c) 1 ∅ 0 -∗ barPay (F := F) (nb true c) true -∗ barPay (F := F) (nb false c) false -∗ run c K Q))
      ⊢ run c (enter dr dl K) Q := by
  unfold enter pay
  iintro ⟨#HR, HO, ⟨T1, T2, T3⟩, ⟨F1, F2, F3⟩, HA, HC, Hk⟩
  iapply (wp_signalBar X κ σ c Q true (O₀ := dues c) (due c 0 1 + bard false c) (add_right_comm _ _ _) dl hl _) $$ [HO T1 T2 T3 F1 F2 F3 HA HC Hk]
  isplitr; · iexact HR
  isplitl [HO]; · iexact HO
  isplitl [T1]; · iexact T1
  isplitl [T2]; · iexact T2
  isplitl [T3]; · iexact T3
  iintro HO
  iapply (wp_signalBar X κ σ c Q false (due c 0 1) rfl dr hr _) $$ [HO F1 F2 F3 HA HC Hk]
  isplitr; · iexact HR
  isplitl [HO]; · iexact HO
  isplitl [F1]; · iexact F1
  isplitl [F2]; · iexact F2
  isplitl [F3]; · iexact F3
  iintro HO
  iapply (wp_waitBar X κ σ c Q (due c 0 1) (above_due c (by omega) (by omega)) K) $$ [HO HA HC Hk]
  isplitr; · iexact HR
  isplitl [HO]; · iexact HO
  isplitl [HA]; · iexact HA
  isplitl [HC]; · iexact HC
  iexact Hk

theorem wp_main (dr dl : Dev nD) (hr : dr = nb true c) (hl : dl = nb false c) (hv : k0_chk1 (lit0 c)) (q : PosShare TreeShare) :
    iprop(recs X κ σ ∗ ow (F := F) c (dues c) ∗ (known (F := F) c true ∗ ats (F := F) c true ∗ given (F := F) c true ∗ bufs (F := F) c true)
        ∗ (known (F := F) c false ∗ ats (F := F) c false ∗ given (F := F) c false ∗ bufs (F := F) c false)
        ∗ atPos ER (barC c) 0 ∅ 0 ∗ cred (tallyAt (barC c) 0 2) ∗ holds xM c q (X c) ∗ rest X w c (done c 0)
        ∗ (ow (F := F) c 0 -∗ (zeros (F := F) c true ∗ bufs (F := F) c true) -∗ (zeros (F := F) c false ∗ bufs (F := F) c false) -∗ semVal (barC c) 0
          -∗ holds xM c q (X c) -∗ rest X w c (fun _ => True) -∗ Q ⟨⟩))
      ⊢ run c (enter dr dl <| hop0 c dr dl <| hops (lit0 c) dr dl (hop15 (lit0 c) dr dl (tail (lit0 c) hv)) 14 1) Q := by
  unfold given bufs
  iintro ⟨#HR, HO, ⟨#KT, AT, ⟨#RT, DT, T0, T1, TW, TT⟩, ⟨BT0, BT1, ST, VT⟩⟩, ⟨#KF, AF, ⟨#RF, DF, F0, F1, FW, FT⟩, ⟨BF0, BF1, SF, VF⟩⟩, HA, HC, HX, HB, Hk⟩
  imod (release_first X κ σ c true) $$ [T1 BT1] with ⟨T1, #FrT⟩
  · isplitr; · iexact HR
    isplitr; · iexact KT
    isplitl [T1]; · iexact T1
    iexact BT1
  imod (release_first X κ σ c false) $$ [F1 BF1] with ⟨F1, #FrF⟩
  · isplitr; · iexact HR
    isplitr; · iexact KF
    isplitl [F1]; · iexact F1
    iexact BF1
  ihave #CT := (show known (F := F) c true ⊢ (reached ER (credC c true) 0 : sProp 𝕄) by unfold known; iintro ⟨-, -, -, -, H⟩; iexact H) $$ KT
  ihave #CF := (show known (F := F) c false ⊢ (reached ER (credC c false) 0 : sProp 𝕄) by unfold known; iintro ⟨-, -, -, -, H⟩; iexact H) $$ KF
  iapply (wp_enter X κ σ c Q dr dl hr hl _) $$ [HO AT DT T0 T1 TW TT BT0 ST VT AF DF F0 F1 FW FT BF0 SF VF HA HC HX HB Hk]
  isplitr; · iexact HR
  isplitl [HO]; · iexact HO
  isplitl [DT VT]
  · unfold pay barPay
    isplitl [DT]; · iexact DT
    isplitr; · iexact RT
    isplitr; · iexact FrT
    isplitl [VT]; · iexact VT
    iexact CF
  isplitl [DF VF]
  · unfold pay barPay
    isplitl [DF]; · iexact DF
    isplitr; · iexact RF
    isplitr; · iexact FrF
    isplitl [VF]; · iexact VF
    iexact CT
  isplitl [HA]; · iexact HA
  isplitl [HC]; · iexact HC
  iintro HO HA
  unfold barPay
  iintro ⟨#NFT, NVT, #NCF⟩ ⟨#NFF, NVF, #NCT⟩
  ihave HT := (first_state (F := F) c true) $$ [AT T0 T1 TT]
  · isplitr; · iexact KT
    isplitl [AT]; · iexact AT
    isplitl [T0]; · iexact T0
    isplitl [T1]; · iexact T1
    isplitl [TT]; · iexact TT
    isplitr; · iexact FrT
    isplitr; · iexact NFT
    iexact NCT
  ihave HF := (first_state (F := F) c false) $$ [AF F0 F1 FT]
  · isplitr; · iexact KF
    isplitl [AF]; · iexact AF
    isplitl [F0]; · iexact F0
    isplitl [F1]; · iexact F1
    isplitl [FT]; · iexact FT
    isplitr; · iexact FrF
    isplitr; · iexact NFF
    iexact NCF
  iapply (wp_hop0 X w κ σ c Q dr dl hr hl q _) $$ [HO HT HF TW BT0 ST FW BF0 SF NVT NVF HA HX HB Hk]
  isplitr; · iexact HR
  isplitl [HO]; · iexact HO
  isplitl [HX]; · iexact HX
  isplitl [HT]; · iexact HT
  isplitl [BT0]; · iexact BT0
  isplitl [HF]; · iexact HF
  isplitl [BF0]; · iexact BF0
  isplitl [HB]; · iexact HB
  iintro HX HO HT BT HF BF HB
  iapply (wp_hops X w κ σ c Q dr dl hr hl _ 14 0 (by omega)) $$ [HO HT HF TW BT ST FW BF SF NVT NVF HA HX HB Hk]
  isplitr; · iexact HR
  isplitl [HO]; · iexact HO
  isplitl [HT]; · iexact HT
  isplitl [BT]; · iexact BT
  isplitl [HF]; · iexact HF
  isplitl [BF]; · iexact BF
  isplitl [HB]; · iexact HB
  iintro HO HT BT HF BF HB
  iapply (wp_hop15 X w κ σ c Q dr dl hr hl _) $$ [HO HT HF TW BT ST FW BF SF NVT NVF HA HX HB Hk]
  isplitr; · iexact HR
  isplitl [HO]; · iexact HO
  isplitl [HT]; · iexact HT
  isplitl [BT]; · iexact BT
  isplitl [HF]; · iexact HF
  isplitl [BF]; · iexact BF
  isplitl [HB]; · iexact HB
  isplitl [ST NVT]
  · unfold spare
    isplitl [ST]; · iexact ST
    iexact NVT
  isplitl [SF NVF]
  · unfold spare
    isplitl [SF]; · iexact SF
    iexact NVF
  unfold fin
  iintro HO ⟨HT, BT, ST, VT⟩ ⟨HF, BF, SF, VF⟩ HB
  iapply (wp_tail X w c Q hv) $$ [HO HT HF TW BT ST VT FW BF SF VF HA HX HB Hk]
  isplitl [VT]; · iexact VT
  isplitl [VF]; · iexact VF
  isplitl [HB]; · iexact HB
  iintro VT VF HB
  unfold run
  rw [wp_ret]
  imod (close_dir X κ σ c true) $$ [HT TW] with ⟨ZT, BT0⟩
  · isplitr; · iexact HR
    isplitl [HT]; · iexact HT
    iexact TW
  imod (close_dir X κ σ c false) $$ [HF FW] with ⟨ZF, BF0⟩
  · isplitr; · iexact HR
    isplitl [HF]; · iexact HF
    iexact FW
  imod (close_at X κ σ (mem_bar c) (R := 1) (fun r hr => later_bar X c r hr)) $$ [HA] with HA
  · isplitr; · iexact HR
    iexact HA
  imodintro
  iapply Hk $$ HO [ZT BT0 BT ST VT] [ZF BF0 BF SF VF] HA HX HB
  · isplitl [ZT]; · iexact ZT
    isplitl [BT0]; · iexact BT0
    isplitl [BT]; · iexact BT
    isplitl [ST]; · iexact ST
    iexact VT
  · isplitl [ZF]; · iexact ZF
    isplitl [BF0]; · iexact BF0
    isplitl [BF]; · iexact BF
    isplitl [SF]; · iexact SF
    iexact VF

/-- The body's run on device `c`. -/
theorem wp_body (q : PosShare TreeShare) :
    iprop(recs X κ σ ∗ ow (F := F) c (dues c) ∗ (known (F := F) c true ∗ ats (F := F) c true ∗ given (F := F) c true ∗ bufs (F := F) c true)
        ∗ (known (F := F) c false ∗ ats (F := F) c false ∗ given (F := F) c false ∗ bufs (F := F) c false)
        ∗ atPos ER (barC c) 0 ∅ 0 ∗ cred (tallyAt (barC c) 0 2) ∗ posAt (F := F) c ∗ holds xM c q (X c) ∗ rest X w c (done c 0)
        ∗ (ow (F := F) c 0 -∗ (zeros (F := F) c true ∗ bufs (F := F) c true) -∗ (zeros (F := F) c false ∗ bufs (F := F) c false) -∗ semVal (barC c) 0
          -∗ posAt (F := F) c -∗ holds xM c q (X c) -∗ rest X w c (fun _ => True) -∗ Q ⟨⟩))
      ⊢ run c (body (F := F)) Q := by
  unfold body
  simp only [wp_deviceId]
  rw [show rest X w c (done c 0) = iprop(devAt (F := F) c ∗ holds wM c fullShare (w c) ∗ out X w c (done c 0)) from rfl]
  iintro ⟨#HR, HO, HT, HF, HA, HC, HP, HX, ⟨HD, HB⟩, Hk⟩
  iapply (wp_pos c Q _ _) $$ [HO HT HF HA HC HP HX HD HB Hk]
  isplitl [HP]; · iexact HP
  iintro HP
  iapply (wp_assume 𝒱₀ (c : Thread nD τ) none Set.univ (chk1 c))
  iapply (wp_dev c Q (k0_off2 (lit0 c)) (k0_off2_inb (lit0 c) (chk1 c)) (nb true c) (rdev_off2 c) _ _) $$ [HO HT HF HA HC HP HX HD HB Hk]
  isplitl [HD]; · iexact HD
  iintro HD
  iapply (wp_assume 𝒱₀ (c : Thread nD τ) none Set.univ (chk3 (nb true c)))
  iapply (wp_dev c Q (k0_off3 (lit0 c)) (k0_off3_inb (lit0 c) (chk1 c)) (nb false c) (rdev_off3 c) _ _) $$ [HO HT HF HA HC HP HX HD HB Hk]
  isplitl [HD]; · iexact HD
  iintro HD
  iapply (wp_assume 𝒱₀ (c : Thread nD τ) none Set.univ (chk2 (nb false c)))
  iapply (wp_main X w κ σ c Q _ _ (Fin.ext (dev2_eq (nb true c))) (Fin.ext (dev1_eq (nb false c))) (chk1 c) q) $$ [HO HT HF HA HC HP HX HD HB Hk]
  isplitr; · iexact HR
  isplitl [HO]; · iexact HO
  isplitl [HT]; · iexact HT
  isplitl [HF]; · iexact HF
  isplitl [HA]; · iexact HA
  isplitl [HC]; · iexact HC
  isplitl [HX]; · iexact HX
  isplitl [HD HB]
  · unfold rest
    isplitl [HD]; · iexact HD
    iexact HB
  iintro HO HT HF HA HX HB
  iapply Hk $$ HO HT HF HA HP HX HB

end Cert.RingProof
end
-- ==== Proof.Ring.Region.lean ====
/-
The region: the arrays before and after, what the pipeline stages, the body at its one point, and the region's entry and exit,
where the inner semaphores' cells are opened and where their counters are back at zero.
-/
module

public import proofs.«01_k».proof.Proof.Ring.Body
public import proofs.«01_k».proof.Proof.Gen.KernelIdeal.Launch
public import proofs.«01_k».proof.Proof.Gen.KernelIdeal.Points
public import Idealize.ShloMosaic.Lib.Pipeline.RegionTalk

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The arrays -/

/-- A device's block of `x`, of `w`, and its result block. -/
def xs (c : Dev nD) : XVec F := m ((c : Thread nD τ).loc main_arg0)
def ws (c : Dev nD) : WVec F := m ((c : Thread nD τ).loc main_arg1)
def res (c : Dev nD) : S8192x128.Idx → Elt F .f32 := tgt (xs m) (ws m) c

/-- The arrays at launch, at the region's entry, at its exit. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v1) (res m c)

theorem V₁_dev (c : Dev nD) : V₁ m c main_c_0 = devTab := by
  show StableHlo.after hostOps0 (V₀ m c) (Proc.devRef .tc main_c_0) = _
  rw [StableHlo.after_cons, StableHlo.after_cons, StableHlo.after_nil]
  exact StableHlo.nullary_result _ _ _ _
theorem V₁_pos (c : Dev nD) : V₁ m c main_c = posTab := by
  show StableHlo.after hostOps0 (V₀ m c) (Proc.devRef .tc main_c) = _
  rw [StableHlo.after_cons, StableHlo.after_cons, StableHlo.after_nil]
  exact (StableHlo.nullary_result_ne _ _ _ _ (by decide)).trans (StableHlo.nullary_result _ _ _ _)
theorem V₁_arg (c : Dev nD) {b : Ref sig .tc} (h₀ : b ≠ main_c_0) (h₁ : b ≠ main_c) : V₁ m c b = m ((c : Thread nD τ).loc b) := by
  show StableHlo.after hostOps0 (V₀ m c) (Proc.devRef .tc b) = _
  rw [StableHlo.after_cons, StableHlo.after_cons, StableHlo.after_nil]
  exact (StableHlo.nullary_result_ne _ _ _ _ h₀).trans (StableHlo.nullary_result_ne _ _ _ _ h₁)
theorem V₁_x (c : Dev nD) : V₁ m c main_arg0 = xs m c := V₁_arg m c (by decide) (by decide)
theorem V₁_w (c : Dev nD) : V₁ m c main_arg1 = ws m c := V₁_arg m c (by decide) (by decide)
theorem V₂_res (c : Dev nD) : V₂ m c main_v1 = res m c := Function.update_self ..
theorem V₂_of (c : Dev nD) {b : Ref sig .tc} (h : b ≠ main_v1) : V₂ m c b = V₁ m c b :=
  Function.update_of_ne (StableHlo.devRef_ne_of_ne h) ..

/-! ## The semaphores -/

/-- Two families as one of pairs, and back. -/
theorem big_pair {I : Type} [Fintype I] {Φ Ψ : I → sProp (MT nD τ sig ℕ (Elt F) ℕ UU ℕ)} :
    iprop(bigSep Finset.univ Φ ∗ bigSep Finset.univ Ψ) ⊢ bigSep Finset.univ (fun c => iprop(Φ c ∗ Ψ c)) :=
  Entails.of_eq (bigSep_sep _ _ _).symm
theorem big_unpair {I : Type} [Fintype I] {Φ Ψ : I → sProp (MT nD τ sig ℕ (Elt F) ℕ UU ℕ)} :
    bigSep Finset.univ (fun c => iprop(Φ c ∗ Ψ c)) ⊢ iprop(bigSep Finset.univ Φ ∗ bigSep Finset.univ Ψ) :=
  Entails.of_eq (bigSep_sep _ _ _)

/-- A device's inner semaphores. -/
def semAt (i : CellIx) : SemLoc sig :=
  match i.2 with
  | none => .reg (credS i.1)
  | some (true, k) => .dma (sendS i.1 k)
  | some (false, k) => .dma (recvS i.1 k)
theorem cellAt_eq (c : Dev nD) (i : CellIx) : cellAt (c, i) = ((c : Thread nD τ), semAt i) := by
  obtain ⟨d, _ | ⟨_ | _, k⟩⟩ := i <;> rfl

/-- All of a direction's inner cells. -/
theorem big_cells (Φ : CellIx → sProp 𝕄) : bigSep Finset.univ Φ
    = iprop((Φ (true, some (true, 0)) ∗ Φ (true, some (true, 1)) ∗ Φ (true, some (false, 0)) ∗ Φ (true, some (false, 1)) ∗ Φ (true, none))
      ∗ (Φ (false, some (true, 0)) ∗ Φ (false, some (true, 1)) ∗ Φ (false, some (false, 0)) ∗ Φ (false, some (false, 1)) ∗ Φ (false, none))) := by
  have e (d : Bool) : bigSep Finset.univ (fun o : Option (Bool × Fin 2) => Φ (d, o))
      = iprop(Φ (d, some (true, 0)) ∗ Φ (d, some (true, 1)) ∗ Φ (d, some (false, 0)) ∗ Φ (d, some (false, 1)) ∗ Φ (d, none)) :=
    bigSep_univ_eq_bigSepL [some (true, 0), some (true, 1), some (false, 0), some (false, 1), none] (by decide) (by decide) _
  rw [bigSep_univ_prod, bigSep_univ_eq_bigSepL [true, false] (by decide) (by decide)]
  show iprop(bigSep Finset.univ (fun o : Option (Bool × Fin 2) => Φ (true, o)) ∗ bigSep Finset.univ (fun o : Option (Bool × Fin 2) => Φ (false, o))) = _
  rw [e, e]

theorem inner_zero (c : Dev nD) : (Pipeline.ownSems0 semAt c : sProp 𝕄) = iprop(zeros (F := F) c true ∗ zeros (F := F) c false) := by
  unfold Pipeline.ownSems0
  rw [big_cells]
  rfl

/-! ## The scratch buffers -/

theorem slots_disjoint (d : Bool) : Disjoint (slotM d 0).view.set (slotM d 1).view.set := by
  refine Finset.disjoint_left.mpr fun i h₀ h₁ => ?_
  rw [slot_set] at h₀ h₁
  change i ∈ ((bufM d).view.slice (slotR 0)).set at h₀
  change i ∈ ((bufM d).view.slice (slotR 1)).set at h₁
  rw [View.set_slice] at h₀ h₁
  obtain ⟨j, hj, rfl⟩ := Finset.mem_map.mp h₀
  have hj' := (Finset.mem_map' _).mp h₁
  rw [Rect.mem_set_unit] at hj hj'
  have a₀ : (j 0).val < 0 + 1 := (hj 0).2
  have a₁ : 1 ≤ (j 0).val := (hj' 0).1
  omega
theorem slots_cover (d : Bool) : (slotM d 0).view.set ∪ (slotM d 1).view.set = (bufM d).view.set := by
  have e (k : Fin 2) : (slotM d k).view.set = (slotR k).set.map (bufM d).view.emb := by
    rw [slot_set]; exact View.set_slice _ _
  rw [e, e]
  refine (Finset.map_union _ _).symm.trans (congrArg (Finset.map _) (Finset.eq_univ_iff_forall.mpr fun j => ?_))
  have h₀ : (j 0).val < 2 := (j 0).isLt
  have h₁ : (j 1).val < 256 := (j 1).isLt
  have h₂ : (j 2).val < 8192 := (j 2).isLt
  rw [Finset.mem_union, Rect.mem_set_unit, Rect.mem_set_unit]
  rcases Nat.lt_or_ge (j 0).val 1 with h | h
  · left; intro a
    fin_cases a
    · exact ⟨Nat.zero_le _, h⟩
    · exact ⟨Nat.zero_le _, by simpa using h₁⟩
    · exact ⟨Nat.zero_le _, by simpa using h₂⟩
  · right; intro a
    fin_cases a
    · exact ⟨h, h₀⟩
    · exact ⟨Nat.zero_le _, by simpa using h₁⟩
    · exact ⟨Nat.zero_le _, by simpa using h₂⟩

/-- A direction's buffer is its two slots. -/
theorem any_split {ℓ : Loc nD τ sig} {I J K : Finset (Idx ℓ)} (h : Disjoint I J) (e : I ∪ J = K) :
    (iprop(∃ f : Buf (Elt F) ℓ, ℓ ↦[K]{fullShare} f) : sProp 𝕄)
      ⊢ iprop((∃ f : Buf (Elt F) ℓ, ℓ ↦[I]{fullShare} f) ∗ (∃ f : Buf (Elt F) ℓ, ℓ ↦[J]{fullShare} f)) := by
  subst e
  iintro ⟨%f, H⟩
  ihave H := (pointsTo_union h).1 $$ H
  icases H with ⟨H1, H2⟩
  isplitl [H1]
  · iexists f; iexact H1
  · iexists f; iexact H2
theorem slots_split (c : Dev nD) (d : Bool) :
    anyOf (F := F) (bufM d) c ⊢ (iprop(anyOf (F := F) (slotM d 0) c ∗ anyOf (F := F) (slotM d 1) c) : sProp 𝕄) :=
  any_split (ℓ := (bufM d).view.loc (c : Thread nD τ)) (slots_disjoint d) (slots_cover d)
theorem slots_join (c : Dev nD) (d : Bool) :
    (iprop(anyOf (F := F) (slotM d 0) c ∗ anyOf (F := F) (slotM d 1) c) : sProp 𝕄) ⊢ anyOf (F := F) (bufM d) c := by
  unfold anyOf
  rw [← slots_cover d]
  iintro ⟨⟨%f, H1⟩, ⟨%g, H2⟩⟩
  iexists _
  iapply (pointsTo_join (slots_disjoint d))
  isplitl [H1]; · iexact H1
  iexact H2

theorem any_whole (c : Dev nD) (b : Ref sig .tc) :
    (iprop(∃ f : Buf (Elt F) ((c : Thread nD τ).loc b), ((c : Thread nD τ).loc b) ↦{fullShare} f) : sProp 𝕄) = anyOf (F := F) (Memref.whole b) c := by
  unfold anyOf
  simp only [Memref.view_whole, View.set_whole]

/-- The scratch buffers, as the body uses them. -/
theorem scratch_eq (c : Dev nD) : (Pipeline.scopedRest (Ix := ℕ) (Name := ℕ) (U := UU) (Lvl := ℕ) (Val := Elt F) spec0 c : sProp 𝕄)
    = iprop(anyOf (F := F) (bufM true) c ∗ anyOf (F := F) (bufM false) c ∗ anyOf (F := F) (hsM true) c ∗ anyOf (F := F) (hsM false) c
      ∗ anyOf (F := F) (hrM true) c ∗ anyOf (F := F) (hrM false) c) := by
  rw [scopedRest0_eq]
  simp only [any_whole]
  rfl
theorem scratch_split (c : Dev nD) : (Pipeline.scopedRest (Ix := ℕ) (Name := ℕ) (U := UU) (Lvl := ℕ) (Val := Elt F) spec0 c : sProp 𝕄)
    ⊢ iprop(bufs (F := F) c true ∗ bufs (F := F) c false) := by
  rw [scratch_eq]
  unfold bufs
  iintro ⟨H1, H2, H3, H4, H5, H6⟩
  ihave H1 := (slots_split c true) $$ H1
  ihave H2 := (slots_split c false) $$ H2
  icases H1 with ⟨H1, H1'⟩
  icases H2 with ⟨H2, H2'⟩
  isplitl [H1 H1' H3 H5]
  · isplitl [H1]; · iexact H1
    isplitl [H1']; · iexact H1'
    isplitl [H3]; · iexact H3
    iexact H5
  · isplitl [H2]; · iexact H2
    isplitl [H2']; · iexact H2'
    isplitl [H4]; · iexact H4
    iexact H6
theorem scratch_join (c : Dev nD) : (iprop(bufs (F := F) c true ∗ bufs (F := F) c false) : sProp 𝕄)
    ⊢ Pipeline.scopedRest (Ix := ℕ) (Name := ℕ) (U := UU) (Lvl := ℕ) (Val := Elt F) spec0 c := by
  rw [scratch_eq]
  unfold bufs
  iintro ⟨⟨H1, H1', H3, H5⟩, ⟨H2, H2', H4, H6⟩⟩
  isplitl [H1 H1']
  · iapply (slots_join c true)
    isplitl [H1]; · iexact H1
    iexact H1'
  isplitl [H2 H2']
  · iapply (slots_join c false)
    isplitl [H2]; · iexact H2
    iexact H2'
  isplitl [H3]; · iexact H3
  isplitl [H4]; · iexact H4
  isplitl [H5]; · iexact H5
  iexact H6

/-! ## What enters and what leaves -/

/-- From the launch: the invariants' names, the rights to open the inner cells, and what is given. -/
def start (c : Dev nD) : sProp 𝕄 :=
  iprop(∃ (κ : GSem nD τ sig → ℕ) (σ : Key → ℕ), recs (xs m) κ σ ∗ bigSep Finset.univ (fun i : CellIx => openTok ER (cellAt (c, i)))
    ∗ given (F := F) c true ∗ given (F := F) c false ∗ atPos ER (barC c) 0 ∅ 0 ∗ cred (tallyAt (barC c) 0 2))
/-- The cells opened. -/
def opened (c : Dev nD) : sProp 𝕄 :=
  iprop(∃ (κ : GSem nD τ sig → ℕ) (σ : Key → ℕ), recs (xs m) κ σ ∗ (known (F := F) c true ∗ ats (F := F) c true ∗ given (F := F) c true)
    ∗ (known (F := F) c false ∗ ats (F := F) c false ∗ given (F := F) c false) ∗ atPos ER (barC c) 0 ∅ 0 ∗ cred (tallyAt (barC c) 0 2))

/-- A fresh inner cell opens at its first round. -/
theorem open_cell (κ : GSem nD τ sig → ℕ) (σ : Key → ℕ) (X : Dev nD → XVec F) (c : Dev nD) (i : CellIx) :
    iprop(recs X κ σ ∗ openTok ER (cellAt (c, i)) ∗ semVal ((c : Thread nD τ), semAt i) 0)
      ⊢ (|={Set.univ}=> (atPos ER (cellAt (c, i)) 0 ∅ 0 ∗ reached ER (cellAt (c, i)) 0) : sProp 𝕄) := by
  iintro ⟨#HR, Ho, Hv⟩
  ihave #Hc := (recs_cell X κ σ (mem_scoped c i)) $$ HR
  iapply (Rounds.cell_open ER (Rd X) (g := cellAt (c, i)) (Set.mem_univ (κ (cellAt (c, i))))) $$ [Ho Hv]
  isplitr; · iexact Hc
  isplitl [Ho]; · iexact Ho
  rw [cellAt_eq]
  iexact Hv

theorem open_cells (κ : GSem nD τ sig → ℕ) (σ : Key → ℕ) (X : Dev nD → XVec F) (c : Dev nD) :
    iprop(recs X κ σ ∗ bigSep Finset.univ (fun i : CellIx => openTok ER (cellAt (c, i))) ∗ Pipeline.ownSems0 semAt c)
      ⊢ (|={Set.univ}=> ((known (F := F) c true ∗ ats (F := F) c true) ∗ (known (F := F) c false ∗ ats (F := F) c false)) : sProp 𝕄) := by
  have h : iprop(recs X κ σ ∗ bigSep Finset.univ (fun i : CellIx => iprop(openTok ER (cellAt (c, i)) ∗ semVal ((c : Thread nD τ), semAt i) 0)))
      ⊢ (|={Set.univ}=> bigSep Finset.univ (fun i : CellIx => iprop(atPos ER (cellAt (c, i)) 0 ∅ 0 ∗ reached ER (cellAt (c, i)) 0)) : sProp 𝕄) :=
    BIBase.Entails.trans (bigSep_with_persistent (R := recs X κ σ) fun i _ => open_cell κ σ X c i) (bigSep_fupd _ _)
  iintro ⟨#HR, Ho, Hv⟩
  imod h $$ [Ho Hv] with H
  · isplitr; · iexact HR
    iapply big_pair
    isplitl [Ho]; · iexact Ho
    iapply (show (Pipeline.ownSems0 semAt c : sProp 𝕄) ⊢ bigSep Finset.univ (fun i : CellIx => semVal ((c : Thread nD τ), semAt i) 0) from .rfl) $$ Hv
  imodintro
  ihave H := big_unpair $$ H
  icases H with ⟨HA, HK⟩
  ihave HA := (Entails.of_eq (big_cells (F := F) _)) $$ HA
  ihave HK := (Entails.of_eq (big_cells (F := F) _)) $$ HK
  icases HA with ⟨HA, HA'⟩
  icases HK with ⟨HK, HK'⟩
  isplitl [HA HK]
  · isplitl [HK]
    · unfold known; iexact HK
    · unfold ats; iexact HA
  · isplitl [HK']
    · unfold known; iexact HK'
    · unfold ats; iexact HA'

theorem region_open (c : Dev nD) : iprop(start m c ∗ Pipeline.ownSems0 semAt c ∗ levAts L lv) ⊢ (|={Set.univ}=> opened m c : sProp 𝕄) := by
  unfold start opened
  iintro ⟨⟨%κ, %σ, #HR, Ho, HT, HF, HB, HC⟩, Hv, -⟩
  imod (open_cells κ σ (xs m) c) $$ [Ho Hv] with ⟨⟨KT, AT⟩, ⟨KF, AF⟩⟩
  · isplitr; · iexact HR
    isplitl [Ho]; · iexact Ho
    iexact Hv
  imodintro
  iexists κ; iexists σ
  isplitr; · iexact HR
  isplitl [KT AT HT]
  · isplitl [KT]; · iexact KT
    isplitl [AT]; · iexact AT
    iexact HT
  isplitl [KF AF HF]
  · isplitl [KF]; · iexact KF
    isplitl [AF]; · iexact AF
    iexact HF
  isplitl [HB]; · iexact HB
  iexact HC

/-! ## The body at its one point -/

/-- Before the body, and after it. -/
def before (c : Dev nD) : sProp 𝕄 := iprop(opened m c ∗ (bufs (F := F) c true ∗ bufs (F := F) c false) ∗ ∃ r, prngReg c r)
def after (c : Dev nD) : sProp 𝕄 :=
  iprop((zeros (F := F) c true ∗ bufs (F := F) c true) ∗ (zeros (F := F) c false ∗ bufs (F := F) c false) ∗ semVal (barC c) 0 ∗ ∃ r, prngReg c r)

/-- The region's data. -/
def dat (c : Dev nD) : Dat τ (Elt F) ℕ ℕ UU ℕ cfg0 c where
  A w := V₁ m c (Proc.devRef .tc (Pipeline.arrRef spec0 w))
  after w _ := match w with
    | ⟨0, _⟩ => posTab
    | ⟨1, _⟩ => devTab
    | ⟨2, _⟩ => xs m c
    | ⟨3, _⟩ => ws m c
    | ⟨4, _⟩ => res m c
  Φ t := if t.val = 0 then before m c else after c
  q _ := fullShare
  owed t := if t.val = 0 then dues c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c := fun _ => dat m

theorem owed_first (c : Dev nD) : (dat m c).owed t0_0.castSucc = dues c := by
  show (if (t0_0.castSucc : Fin (cfg0.N + 1)).val = 0 then dues c else 0) = dues c; exact if_pos rfl
theorem owed_last (c : Dev nD) : (dat m c).owed (Fin.last _) = 0 := by
  show (if (Fin.last cfg0.N).val = 0 then dues c else 0) = 0
  rw [Fin.val_last, if_neg (by rw [show cfg0.N = 1 from N_0]; decide)]

/-- A rectangle that starts at the origin and steps by one names each element by itself. -/
theorem idx_origin {s : Shape} (r : Rect s) (h₀ : ∀ a, r.off a = 0) (h₁ : ∀ a, r.stride a = 1) (j : r.shape.Idx) (a : Fin s.rank) :
    (r.idx j a).val = (j a).val := by
  show r.off a + r.stride a * (j a).val = _
  rw [h₀, h₁, Nat.zero_add, Nat.one_mul]
/-- A window's block is its whole array: what the body finds staged. -/
theorem before_0 (c : Dev nD) (d) : (dat m c).before 0 t0_0 d = posTab := by
  unfold Dat.before
  rw [if_pos (fetch0_0 t0_0)]
  refine (funext fun i => ?_ : _ = V₁ m c main_c).trans (V₁_pos m c)
  exact congrArg (V₁ m c main_c) (funext fun a => Fin.ext (idx_origin (win0_0.rect t0_0) (fun a => Nat.zero_mul _) (fun _ => rfl) i a))
theorem before_1 (c : Dev nD) (d) : (dat m c).before 1 t0_0 d = devTab := by
  unfold Dat.before
  rw [if_pos (fetch0_1 t0_0)]
  refine (funext fun i => ?_ : _ = V₁ m c main_c_0).trans (V₁_dev m c)
  exact congrArg (V₁ m c main_c_0) (funext fun a => Fin.ext (idx_origin (win0_1.rect t0_0) (fun a => Nat.zero_mul _) (fun _ => rfl) i a))
theorem before_2 (c : Dev nD) (d) : (dat m c).before 2 t0_0 d = xs m c := by
  unfold Dat.before
  rw [if_pos (fetch0_2 t0_0)]
  refine (funext fun i => ?_ : _ = V₁ m c main_arg0).trans (V₁_x m c)
  exact congrArg (V₁ m c main_arg0) (funext fun a => Fin.ext (idx_origin (win0_2.rect t0_0) (fun a => Nat.zero_mul _) (fun _ => rfl) i a))
theorem before_3 (c : Dev nD) (d) : (dat m c).before 3 t0_0 d = ws m c := by
  unfold Dat.before
  rw [if_pos (fetch0_3 t0_0)]
  refine (funext fun i => ?_ : _ = V₁ m c main_arg1).trans (V₁_w m c)
  exact congrArg (V₁ m c main_arg1) (funext fun a => Fin.ext (idx_origin (win0_3.rect t0_0) (fun a => Nat.zero_mul _) (fun _ => rfl) i a))

theorem owes_in (c : Dev nD) : ((dat m c).owesAt 0 t0_0.castSucc : sProp 𝕄) ⊢ ow c (dues c) := by
  unfold Dat.owesAt Pipeline.owesWithin ow
  rw [owed_first]
  iintro ⟨%W, -, HO⟩
  iexists W; iexact HO
theorem owes_out (c : Dev nD) : (ow c 0 : sProp 𝕄) ⊢ (dat m c).owesAt 0 t0_0.succ := by
  unfold Dat.owesAt Pipeline.owesWithin Dat.bound ow
  rw [show (dat m c).owed t0_0.succ = 0 from owed_last m c]
  iintro ⟨%W, HO⟩
  iexists W
  isplitr; · ipureintro; exact fun _ _ => Or.inl trivial
  iexact HO

/-- What the body writes is the result once every block is. -/
theorem out_all (c : Dev nD) : out (xs m) (ws m) c (fun _ => True) ⊢ (holds oM c fullShare (res m c) : sProp 𝕄) := by
  unfold out holds
  iintro ⟨%f, %hf, H⟩
  iexists f
  isplitr
  · ipureintro; exact funext fun i => hf i trivial
  iexact H
theorem out_none (c : Dev nD) (X : S8192x128.Idx → Elt F .f32) : (holds oM c fullShare X : sProp 𝕄) ⊢ out (xs m) (ws m) c (done c 0) := by
  unfold out holds
  iintro ⟨%f, -, H⟩
  iexists f
  isplitr
  · ipureintro; exact fun i h => absurd h.choose_spec.1 (Nat.not_lt_zero _)
  iexact H

/-- The staging buffers at the body's entry and exit. -/
def staged (c : Dev nD) (X : S8192x128.Idx → Elt F .f32) : sProp 𝕄 :=
  iprop(posAt (F := F) c ∗ devAt (F := F) c ∗ holds xM c fullShare (xs m c) ∗ holds wM c fullShare (ws m c) ∗ holds oM c fullShare X)

theorem body_run (c : Dev nD) (X : S8192x128.Idx → Elt F .f32) (Q : PUnit → sProp (MT nD τ sig ℕ (Elt F) ℕ UU ℕ)) :
    iprop(before m c ∗ ow c (dues c) ∗ staged m c X ∗ (after (F := F) c -∗ ow c 0 -∗ staged m c (res m c) -∗ Q ⟨⟩)) ⊢ run c body Q := by
  unfold before opened staged after
  iintro ⟨⟨⟨%κ, %σ, #HR, ⟨KT, AT, GT⟩, ⟨KF, AF, GF⟩, HB, HC⟩, ⟨BT, BF⟩, HP⟩, HO, ⟨Hpos, Hdev, Hx, Hw, Ho⟩, Hk⟩
  iapply (wp_body (xs m) (ws m) κ σ c Q fullShare)
  isplitr; · iexact HR
  isplitl [HO]; · iexact HO
  isplitl [KT AT GT BT]
  · isplitl [KT]; · iexact KT
    isplitl [AT]; · iexact AT
    isplitl [GT]; · iexact GT
    iexact BT
  isplitl [KF AF GF BF]
  · isplitl [KF]; · iexact KF
    isplitl [AF]; · iexact AF
    isplitl [GF]; · iexact GF
    iexact BF
  isplitl [HB]; · iexact HB
  isplitl [HC]; · iexact HC
  isplitl [Hpos]; · iexact Hpos
  isplitl [Hx]; · iexact Hx
  isplitl [Hdev Hw Ho]
  · unfold rest
    isplitl [Hdev]; · iexact Hdev
    isplitl [Hw]; · iexact Hw
    iapply (out_none m c X) $$ Ho
  iintro HO ZT ZF HB Hpos Hx Hr
  ihave Hr := (show rest (xs m) (ws m) c (fun _ => True) ⊢ (iprop(devAt (F := F) c ∗ holds wM c fullShare (ws m c) ∗ out (xs m) (ws m) c (fun _ => True)) : sProp 𝕄) from .rfl) $$ Hr
  icases Hr with ⟨Hdev, Hw, Ho⟩
  iapply Hk $$ [ZT ZF HB HP] [HO]
  · isplitl [ZT]; · iexact ZT
    isplitl [ZF]; · iexact ZF
    isplitl [HB]; · iexact HB
    iexact HP
  · iexact HO
  isplitl [Hpos]; · iexact Hpos
  isplitl [Hdev]; · iexact Hdev
  isplitl [Hx]; · iexact Hx
  isplitl [Hw]; · iexact Hw
  iapply (out_all m c) $$ Ho

/-- The library's obligation for the body. -/
theorem body_obligation (c : Dev nD) : BodyObligation (dat m c) (defs₀ (F := F)) 𝒱₀ 0 Set.univ := fun t => by
  obtain rfl := fin_N0 t
  rw [bigSep_W0, bigSep_W0]
  rw [show (dat m c).Φ t0_0.castSucc = before m c from rfl, show (dat m c).Φ t0_0.succ = after c from rfl]
  show iprop(before m c ∗ (dat m c).owesAt 0 t0_0.castSucc ∗ (∃ d, holds posT c fullShare ((dat m c).before 0 t0_0 d))
      ∗ (∃ d, holds devT c fullShare ((dat m c).before 1 t0_0 d)) ∗ (∃ d, holds xM c fullShare ((dat m c).before 2 t0_0 d))
      ∗ (∃ d, holds wM c fullShare ((dat m c).before 3 t0_0 d)) ∗ (∃ d, holds oM c fullShare ((dat m c).before 4 t0_0 d)))
    ⊢ run c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10 cc0_scratch11)
    (fun _ => iprop(after c ∗ (dat m c).owesAt 0 t0_0.succ ∗ holds posT c fullShare posTab ∗ holds devT c fullShare devTab
      ∗ holds xM c fullShare (xs m c) ∗ holds wM c fullShare (ws m c) ∗ holds oM c fullShare (res m c)))
  rw [body_eq]
  iintro ⟨HB, HO, ⟨%d0, H0⟩, ⟨%d1, H1⟩, ⟨%d2, H2⟩, ⟨%d3, H3⟩, ⟨%d4, H4⟩⟩
  rw [before_0, before_1, before_2, before_3]
  ihave HO := (owes_in m c) $$ HO
  iapply (body_run m c _ _)
  isplitl [HB]; · iexact HB
  isplitl [HO]; · iexact HO
  isplitl [H0 H1 H2 H3 H4]
  · unfold staged posAt devAt
    isplitl [H0]; · iexact H0
    isplitl [H1]; · iexact H1
    isplitl [H2]; · iexact H2
    isplitl [H3]; · iexact H3
    iexact H4
  iintro HA HO HS
  unfold staged posAt devAt
  icases HS with ⟨H0, H1, H2, H3, H4⟩
  isplitl [HA]; · iexact HA
  isplitl [HO]; · iapply (owes_out m c) $$ HO
  isplitl [H0]; · iexact H0
  isplitl [H1]; · iexact H1
  isplitl [H2]; · iexact H2
  isplitl [H3]; · iexact H3
  iexact H4

/-! ## The region, and the program around it -/

theorem array_out (c : Dev nD) : (dat m c).arrAt 4 cfg0.N = V₂ m c main_v1 := by
  rw [V₂_res, show cfg0.N = 0 + 1 from N_0]
  unfold Dat.arrAt
  rw [dif_pos (Nat.lt_of_lt_of_eq Nat.zero_lt_one N_0.symm), if_pos (flush0_4 _)]
  have h := View.read_write_univ (Val := Elt F) (v := (win0_4.blk t0_0).view) ((dat m c).arrAt 4 0) ((dat m c).flushed 4 t0_0)
  refine funext fun i => ?_
  refine Eq.trans ?_ (congrFun h i)
  exact congrArg (View.write (Elt F) _ _ _ _) (funext fun a => Fin.ext (idx_origin (win0_4.rect t0_0) (fun a => Nat.zero_mul _) (fun _ => rfl) i a).symm)

theorem arrays_after (c : Dev nD) (w : Fin 5) : (dat m c).arrAt w cfg0.N = V₂ m c (Proc.devRef .tc (Pipeline.arrRef spec0 w)) := by
  match w with
  | ⟨0, _⟩ => exact ((dat m c).arrAt_in 0 rfl _).trans (V₂_of m c (b := main_c) (by decide)).symm
  | ⟨1, _⟩ => exact ((dat m c).arrAt_in 1 rfl _).trans (V₂_of m c (b := main_c_0) (by decide)).symm
  | ⟨2, _⟩ => exact ((dat m c).arrAt_in 2 rfl _).trans (V₂_of m c (b := main_arg0) (by decide)).symm
  | ⟨3, _⟩ => exact ((dat m c).arrAt_in 3 rfl _).trans (V₂_of m c (b := main_arg1) (by decide)).symm
  | ⟨4, _⟩ => exact array_out m c

theorem region_in (c : Dev nD) : iprop(Pipeline.scopedRest (Ix := ℕ) (Name := ℕ) (U := UU) (Lvl := ℕ) (Val := Elt F) spec0 c ∗ (∃ r, prngReg c r)
    ∗ StableHlo.held (c : Thread nD τ) ∅ (V₁ m c) ∗ opened m c) ⊢ (before m c : sProp 𝕄) := by
  unfold before
  iintro ⟨HS, HP, -, HO⟩
  isplitl [HO]; · iexact HO
  isplitl [HS]; · iapply (scratch_split c) $$ HS
  iexact HP
theorem region_out (c : Dev nD) : (after (F := F) c : sProp 𝕄)
    ⊢ iprop(Pipeline.scopedRest (Ix := ℕ) (Name := ℕ) (U := UU) (Lvl := ℕ) (Val := Elt F) spec0 c ∗ (∃ r, prngReg c r)
      ∗ StableHlo.held (c : Thread nD τ) ∅ (V₂ m c) ∗ Pipeline.ownSems0 semAt c ∗ semVal (barC c) 0) := by
  unfold after
  rw [inner_zero]
  iintro ⟨⟨ZT, BT⟩, ⟨ZF, BF⟩, HB, HP⟩
  isplitl [BT BF]
  · iapply (scratch_join c)
    isplitl [BT]; · iexact BT
    iexact BF
  isplitl [HP]; · iexact HP
  isplitr
  · iapply (show (iprop(emp) : sProp 𝕄) ⊢ StableHlo.held (c : Thread nD τ) ∅ (V₂ m c) from by unfold StableHlo.held; rw [bigSep_empty]; exact .rfl)
    iempintro
  isplitl [ZT ZF]
  · isplitl [ZT]; · iexact ZT
    iexact ZF
  iexact HB

theorem stage_kind : ∀ (w : Fin 5) (s : Fin (spec0 w).nbuf), kind (.dma ((spec0 w).sem s)) = .other := by decide

/-- The staging waits stand below all that is owed. -/
theorem levels : Pipeline.LevelCutOwed (pcfgs (F := F)) adm (pdats m) 0 L lv 0 (fun _ => 0) where
  hι c w s := mem_L _ _ (by decide)
  hιb c w s := by
    have e : lv ((c : Thread nD τ), .dma ((spec0 w).sem s)) 0 = 0 := by
      unfold lv
      rw [stage_kind w s]
    exact le_of_eq e
  hD c t g i h := by
    have e : (pdats m 0 c).owed t = if t.val = 0 then dues c else 0 := rfl
    rw [e] at h
    split at h
    · exact above_add (above_add (above_due c (by decide) (by decide)) (above_bard true c)) (above_bard false c) g i h
    · exact absurd h (Nat.lt_irrefl 0)

def kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 semAt := by decide

set_option backward.isDefEq.respectTransparency.types false in
/-- The region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 semAt own_sems ∅ ∅ (Finset.Subset.refl _) kitP rfl
    (fun c => (body_obligation m c).loose) (D := fun _ => 0) (due := dues)
    (fun c => by rw [zero_add]; exact owed_first m c) (fun c => owed_last m c) (fun _ => rfl)
    (fun c w => by unfold Dat.share; split <;> rfl)
    (V₁ m) (V₂ m) (fun _ b hb => absurd (Finset.mem_sdiff.mp hb).1 (Finset.notMem_empty b))
    (start m) (fun c => semVal (barC c) 0) (opened m) (fun c => semVal (barC c) 0)
    (region_open m) (region_in m) (region_out m) (fun c => by iintro H; imodintro; iexact H)
    (fun _ => 0) (levels m) (fun _ => iprop(emp)) (fun _ _ => rfl) (arrays_after m)

/-- The host's constants, before it. -/
abbrev arrs : Finset (DevRef τ sig) := Pipeline.arrRefs spec0
def ride (c : Dev nD) : sProp 𝕄 := iprop(start m c ∗ (∃ r, prngReg c r) ∗ ow c (dues c))
theorem ops_sub : ∀ op ∈ (hostOps0 : List (HloOp τ sig (Elt F))), op.bufs ⊆ arrs := by
  intro op h
  rcases List.mem_cons.mp h with rfl | h
  · rw [StableHlo.nullary_bufs]; decide
  · rw [List.mem_singleton.mp h, StableHlo.nullary_bufs]; decide
theorem ops_fresh : ∀ op ∈ (hostOps0 : List (HloOp τ sig (Elt F))), op.fresh = ∅ := by
  intro op h
  rcases List.mem_cons.mp h with rfl | h
  · rfl
  · rw [List.mem_singleton.mp h]; rfl
def seg0 : Pipeline.HostSeg (Name := ℕ) (U := UU) (pcfgs (F := F)) defs₀ 𝒱₀ L lv :=
  Pipeline.HostSeg.ofOps _ _ _ _ _ arrs hostOps0 ops_sub ops_fresh (V₀ m) (ride m)

theorem region_enter (c : Dev nD) : (seg0 m).post c ⊢ ((reg0 m).pre c : sProp 𝕄) := by
  show iprop(StableHlo.held (c : Thread nD τ) arrs (V₁ m c) ∗ ride m c) ⊢ iprop(StableHlo.held (c : Thread nD τ) arrs (V₁ m c)
    ∗ (∃ r, prngReg c r) ∗ (StableHlo.held (c : Thread nD τ) ∅ (V₁ m c) ∗ emp) ∗ start m c ∗ ∃ W, owes (c : Thread nD τ) (0 + dues c) W)
  unfold ride ow
  rw [zero_add]
  iintro ⟨HA, HS, HP, HO⟩
  isplitl [HA]; · iexact HA
  isplitl [HP]; · iexact HP
  isplitr
  · isplitr
    · iapply (show (iprop(emp) : sProp 𝕄) ⊢ StableHlo.held (c : Thread nD τ) ∅ (V₁ m c) from by unfold StableHlo.held; rw [bigSep_empty]; exact .rfl)
      iempintro
    iempintro
  isplitl [HS]; · iexact HS
  iexact HO
theorem region_leave (c : Dev nD) : ((reg0 m).post c : sProp 𝕄)
    ⊢ iprop((StableHlo.held (c : Thread nD τ) arrs (V₂ m c) ∗ semVal (barC c) 0) ∗ ∃ W, owes (c : Thread nD τ) 0 W) := by
  show iprop(StableHlo.held (c : Thread nD τ) arrs (V₂ m c)
    ∗ (∃ r, prngReg c r) ∗ (StableHlo.held (c : Thread nD τ) ∅ (V₂ m c) ∗ emp) ∗ semVal (barC c) 0 ∗ ∃ W, owes (c : Thread nD τ) 0 W) ⊢ _
  iintro ⟨HA, -, -, HB, HO⟩
  isplitl [HA HB]
  · isplitl [HA]; · iexact HA
    iexact HB
  iexact HO

abbrev segs : List (Pipeline.Seg (pcfgs (F := F)) adm (pdats m) 0 defs₀ 𝒱₀ L lv) := [.host (seg0 m), .region (reg0 m)]
theorem main_eq (c : Dev nD) : main (F := F) c = Pipeline.Seg.run (segs m) := main_segs adm (pdats m) 0 𝒱₀ L lv (seg0 m) (reg0 m) rfl c

end Cert.RingProof
end
-- ==== Proof.Ring.Deal.lean ====
/-
What the launch hands out: the tokens of the semaphores' duties, made at each device's own cells and dealt along the ring to the
devices that pay them; the turns to write the slots, likewise; and the credit of what all devices owe a device's cells.
-/
module

public import proofs.«01_k».proof.Proof.Ring.Region

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv initSlots)

variable {F : FTy → Type} [FloatOps F]

local notation "𝕄" => MT nD τ sig ℕ (Elt F) ℕ UU ℕ

/-! ## The duty tokens -/

/-- What is made at a device's own cells in direction `d`: the tokens of its send completions, of its landings, of its credits,
    of its barrier unit, and the turns to write its slots. -/
def ownS (d : Bool) (c : Dev nD) : sProp 𝕄 := bigSep (Finset.Ico 0 16) fun i => dutyTok ER (sendC c d (par i)) (i / 2) 0
def ownR (d : Bool) (c : Dev nD) : sProp 𝕄 := bigSep (Finset.Ico 0 16) fun i => dutyTok ER (recvC c d (par (i + 1))) (i / 2) 0
def ownC (d : Bool) (c : Dev nD) : sProp 𝕄 := bigSep (Finset.Ico 1 16) fun j => dutyTok ER (credC c d) 0 j
def ownB (d : Bool) (c : Dev nD) : sProp 𝕄 := dutyTok ER (barC c) 0 (cond d 1 0)
def ownW (d : Bool) (c : Dev nD) : sProp 𝕄 := bigSep (Finset.Ico 0 15) fun i => writeTok EL (slotK c d (par (i + 1))) ((i + 2) / 2)

/-- A token's kind and number, and the duty it is for. -/
abbrev TokIx : Type := Dev nD × Bool × Fin 4 × ℕ
def tokAt (x : TokIx) : GSem nD τ sig × ℕ × ℕ :=
  match x.2.2.1 with
  | 0 => (sendC x.1 x.2.1 (par x.2.2.2), x.2.2.2 / 2, 0)
  | 1 => (recvC x.1 x.2.1 (par (x.2.2.2 + 1)), x.2.2.2 / 2, 0)
  | 2 => (credC x.1 x.2.1, 0, x.2.2.2)
  | 3 => (barC x.1, 0, cond x.2.1 1 0 + 2 * x.2.2.2)

theorem par_half {i j : ℕ} (h : par i = par j) (h' : i / 2 = j / 2) : i = j := by
  have := congrArg Fin.val h
  change i % 2 = j % 2 at this
  omega
theorem par_half' {i j : ℕ} (h : par (i + 1) = par (j + 1)) (h' : i / 2 = j / 2) : i = j := by
  have := congrArg Fin.val h
  change (i + 1) % 2 = (j + 1) % 2 at this
  omega
theorem cond_half {d e : Bool} {i j : ℕ} (h : cond d 1 0 + 2 * i = cond e 1 0 + 2 * j) : d = e ∧ i = j := by
  cases d <;> cases e <;> simp at h ⊢ <;> omega

/-- The kind tells the cell apart. -/
theorem tok_kind (x : TokIx) : kind (tokAt x).1.2 = match x.2.2.1 with
    | 0 => .send x.2.1 (par x.2.2.2) | 1 => .recv x.2.1 (par (x.2.2.2 + 1)) | 2 => .cred x.2.1 | 3 => .bar := by
  obtain ⟨c, d, k, i⟩ := x
  fin_cases k
  · exact kind_send d _
  · exact kind_recv d _
  · exact kind_cred d
  · exact kind_bar
theorem tok_dev (x : TokIx) : (tokAt x).1.1 = (x.1 : Thread nD τ) := by
  obtain ⟨c, d, k, i⟩ := x
  fin_cases k <;> rfl
def tokE : TokIx ↪ GSem nD τ sig × ℕ × ℕ where
  toFun := tokAt
  inj' := by
    intro x y h
    have hc : x.1 = y.1 := tc_inj (by rw [← tok_dev x, ← tok_dev y, h])
    have hk := (tok_kind x).symm.trans ((congrArg (fun z => kind z.1.2) h).trans (tok_kind y))
    have hr := congrArg (fun z => z.2.1) h
    have hj := congrArg (fun z => z.2.2) h
    obtain ⟨c, d, k, i⟩ := x
    obtain ⟨c', d', k', i'⟩ := y
    change c = c' at hc
    subst hc
    fin_cases k <;> fin_cases k' <;> simp only [Fin.zero_eta, Fin.mk_one, Fin.reduceFinMk, reduceCtorEq, Kind.send.injEq, Kind.recv.injEq, Kind.cred.injEq] at hk
    · rw [hk.1, par_half hk.2 hr]
    · rw [hk.1, par_half' hk.2 hr]
    · rw [hk, show i = i' from hj]
    · obtain ⟨h1, h2⟩ := cond_half hj
      change d = d' at h1
      change i = i' at h2
      rw [h1, h2]

/-- The numbers of each kind of token. -/
def nums : Finset (Fin 4 × ℕ) :=
  ({0} ×ˢ Finset.Ico 0 16) ∪ (({1} ×ˢ Finset.Ico 0 16) ∪ (({2} ×ˢ Finset.Ico 1 16) ∪ ({3} ×ˢ {0})))
def toks : Finset (GSem nD τ sig × ℕ × ℕ) := (Finset.univ ×ˢ (Finset.univ ×ˢ nums)).map tokE

theorem big_prod {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert i s h ih =>
    have hd : Disjoint (t.map ⟨Prod.mk i, Prod.mk_right_injective i⟩) (s ×ˢ t) := by
      refine Finset.disjoint_left.mpr fun x h₁ h₂ => ?_
      obtain ⟨j, -, rfl⟩ := Finset.mem_map.mp h₁
      exact h (Finset.mem_product.mp h₂).1
    have he : insert i s ×ˢ t = t.map ⟨Prod.mk i, Prod.mk_right_injective i⟩ ∪ s ×ˢ t := by
      ext ⟨a, b⟩
      simp only [Finset.mem_product, Finset.mem_insert, Finset.mem_union, Finset.mem_map, Function.Embedding.coeFn_mk, Prod.mk.injEq]
      constructor
      · rintro ⟨rfl | ha, hb⟩
        · exact .inl ⟨b, hb, rfl, rfl⟩
        · exact .inr ⟨ha, hb⟩
      · rintro (⟨b', hb, rfl, rfl⟩ | ⟨ha, hb⟩)
        · exact ⟨.inl rfl, hb⟩
        · exact ⟨.inr ha, hb⟩
    rw [he, bigSep_union hd, bigSep_insert h, ih, bigSep_map]
    rfl
theorem big_two (Φ : Bool → sProp 𝕄) : bigSep Finset.univ Φ = iprop(Φ true ∗ Φ false) :=
  bigSep_univ_eq_bigSepL [true, false] (by decide) (by decide) Φ
theorem big_nums (Φ : Fin 4 × ℕ → sProp 𝕄) : bigSep nums Φ
    = iprop(bigSep (Finset.Ico 0 16) (fun i => Φ (0, i)) ∗ bigSep (Finset.Ico 0 16) (fun i => Φ (1, i)) ∗ bigSep (Finset.Ico 1 16) (fun i => Φ (2, i)) ∗ Φ (3, 0)) := by
  unfold nums
  rw [bigSep_union (by decide), bigSep_union (by decide), bigSep_union (by decide), big_prod, big_prod, big_prod, big_prod,
    bigSep_singleton, bigSep_singleton, bigSep_singleton, bigSep_singleton, bigSep_singleton]
  rfl

theorem toks_own : bigSep toks (fun x => (dutyTok ER x.1 x.2.1 x.2.2 : sProp 𝕄)) = bigSep Finset.univ fun c : Dev nD =>
    iprop((ownS (F := F) true c ∗ ownR (F := F) true c ∗ ownC (F := F) true c ∗ ownB (F := F) true c)
      ∗ (ownS (F := F) false c ∗ ownR (F := F) false c ∗ ownC (F := F) false c ∗ ownB (F := F) false c)) := by
  unfold toks
  rw [bigSep_map, big_prod]
  refine bigSep_congr fun c _ => ?_
  rw [big_prod, big_two, big_nums, big_nums]
  rfl

/-- A family over the devices, each device's member handed to the neighbour. -/
theorem big_ring (d : Bool) (Φ : Dev nD → sProp 𝕄) : bigSep Finset.univ Φ = bigSep Finset.univ (fun c => Φ (nb d c)) :=
  bigSep_univ_equiv (ring d) Φ

/-- What device `c` holds of them: its own send completions, its successor's landings, its predecessor's credits and barrier. -/
def dealt (d : Bool) (c : Dev nD) : sProp 𝕄 :=
  iprop(ownS (F := F) d c ∗ ownR (F := F) d (nb d c) ∗ ownC (F := F) d (nb (!d) c) ∗ ownB (F := F) d (nb (!d) c))
theorem deal (d : Bool) : bigSep Finset.univ (fun c : Dev nD => iprop(ownS (F := F) d c ∗ ownR (F := F) d c ∗ ownC (F := F) d c ∗ ownB (F := F) d c))
    = (bigSep Finset.univ fun c : Dev nD => dealt (F := F) d c : sProp 𝕄) := by
  unfold dealt
  rw [bigSep_sep', bigSep_sep', bigSep_sep', bigSep_sep', bigSep_sep', bigSep_sep', big_ring d (ownR d), big_ring (!d) (ownC d), big_ring (!d) (ownB d)]

/-! ## The turns at the slots -/

/-- A device's places and turns at its own slots: all turns to write but the last are dealt. -/
def turnE : ℕ ↪ Fin 2 × ℕ where
  toFun i := (par (i + 1), i / 2)
  inj' i j h := par_half' (congrArg Prod.fst h) (congrArg Prod.snd h)
theorem turns : (Finset.univ : Finset (Fin 2)) ×ˢ Finset.range 8 = (Finset.Ico 0 16).map turnE := by decide

theorem slots_own : bigSep ((Finset.univ : Finset Key) ×ˢ Finset.range 8) (fun x => (writeTok EL x.1 (x.2 + 1) : sProp 𝕄))
    = bigSep Finset.univ fun c : Dev nD => iprop((writeTok EL (slotK c true 0) 8 ∗ ownW (F := F) true c) ∗ (writeTok EL (slotK c false 0) 8 ∗ ownW (F := F) false c)) := by
  rw [big_prod, bigSep_univ_prod]
  refine bigSep_congr fun c _ => ?_
  have e (d : Bool) : bigSep (Finset.univ : Finset (Fin 2)) (fun k => bigSep (Finset.range 8) fun n => (writeTok EL (slotK c d k) (n + 1) : sProp 𝕄))
      = iprop(writeTok EL (slotK c d 0) 8 ∗ ownW (F := F) d c) := by
    rw [← big_prod (Finset.univ : Finset (Fin 2)) (Finset.range 8) (fun x => (writeTok EL (slotK c d x.1) (x.2 + 1) : sProp 𝕄)), turns, bigSep_map,
      show Finset.Ico 0 16 = insert 15 (Finset.Ico 0 15) from by decide, bigSep_insert (by decide)]
    unfold ownW
    rw [bigSep_congr (s := Finset.Ico 0 15) (Ψ := fun i => writeTok EL (slotK c d (par (i + 1))) ((i + 2) / 2)) fun i _ => by
      show writeTok EL (slotK c d (par (i + 1))) (i / 2 + 1) = _
      rw [show (i + 2) / 2 = i / 2 + 1 by omega]]
    rfl
  rw [bigSep_univ_prod, big_two, e, e]
theorem readers_own : bigSep (Finset.univ : Finset Key) (fun k => (readerAt EL k 0 : sProp 𝕄))
    = bigSep Finset.univ fun c : Dev nD => iprop((readerAt EL (slotK c true 0) 0 ∗ readerAt EL (slotK c true 1) 0)
      ∗ (readerAt EL (slotK c false 0) 0 ∗ readerAt EL (slotK c false 1) 0)) := by
  rw [bigSep_univ_prod]
  refine bigSep_congr fun c _ => ?_
  rw [bigSep_univ_prod, big_two, bigSep_fin_two, bigSep_fin_two]
  rfl

/-! ## The credits -/

/-- A finite sum of credits is the credits. -/
theorem cred_sum {I : Type} [DecidableEq I] (s : Finset I) (T : I → CellTallies nD τ sig ℕ) :
    (cred (∑ i ∈ s, T i) : sProp 𝕄) ⊢ bigSep s fun i => cred (T i) := by
  induction s using Finset.induction_on with
  | empty => rw [Finset.sum_empty, cred_zero, bigSep_empty]; exact .rfl
  | insert i s h ih =>
    rw [Finset.sum_insert h, bigSep_insert h]
    exact BIBase.Entails.trans (cred_add _ _).1 (BIClass.sep_mono .rfl ih)

theorem tally_at (g : GSem nD τ sig) (i n : ℕ) : tallyAt g i n g = Finsupp.single i n := by
  unfold tallyAt; exact tallyOn_self _ _

/-- What a device owes, at the cell of another. -/
theorem arrS_other {d : Bool} {c : Dev nD} {g : GSem nD τ sig} (h : ∀ i, g ≠ recvC (nb d c) d (par (i + 1))) : arrS d 0 c g = 0 := by
  unfold arrS
  rw [Finset.sum_apply]
  exact Finset.sum_eq_zero fun i _ => tallyAt_ne_cell (h i) _ _
theorem crdS_other {d : Bool} {c : Dev nD} {g : GSem nD τ sig} (h : g ≠ credC (nb (!d) c) d) : crdS d 1 c g = 0 := by
  unfold crdS
  rw [Finset.sum_apply]
  exact Finset.sum_eq_zero fun i _ => tallyAt_ne_cell h _ _
theorem bard_other {d : Bool} {c : Dev nD} {g : GSem nD τ sig} (h : g ≠ barC (nb (!d) c)) : bard d c g = 0 := tallyAt_ne_cell h _ _

theorem ne_kind {g g' : GSem nD τ sig} (h : kind g.2 ≠ kind g'.2) : g ≠ g' := fun e => h (by rw [e])
theorem nb_eq_iff {d : Bool} {c e : Dev nD} : e = nb d c ↔ c = nb (!d) e :=
  ⟨fun h => by rw [h, nb_nb'], fun h => by rw [h, nb_nb]⟩

theorem arrS_recv (d : Bool) (k : Fin 2) (c e : Dev nD) : arrS d 0 e (recvC c d k)
    = if e = nb (!d) c then ∑ i ∈ Finset.Ico 0 16, (if par (i + 1) = k then Finsupp.single i (amt i) else 0) else 0 := by
  split
  · next h =>
    subst h
    unfold arrS
    rw [Finset.sum_apply]
    refine Finset.sum_congr rfl fun i _ => ?_
    unfold arr
    rw [nb_nb]
    split
    · next h => rw [h]; exact tally_at _ _ _
    · next h => exact tallyAt_ne_cell (ne_kind (by rw [kind_recv, kind_recv]; exact fun e => h (by injection e with _ e; exact e.symm))) _ _
  · next h =>
    exact arrS_other fun i e' => h (nb_eq_iff.mp (tc_inj (congrArg Prod.fst e')) |>.trans rfl)
theorem crdS_cred (d : Bool) (c e : Dev nD) : crdS d 1 e (credC c d)
    = if e = nb d c then ∑ j ∈ Finset.Ico 1 16, Finsupp.single j 1 else 0 := by
  split
  · next h =>
    subst h
    unfold crdS
    rw [Finset.sum_apply]
    refine Finset.sum_congr rfl fun i _ => ?_
    unfold crd
    rw [nb_nb']
    exact tally_at _ _ _
  · next h =>
    exact crdS_other fun e' => h (by rw [tc_inj (congrArg Prod.fst e'), nb_nb])
theorem bard_bar (d : Bool) (c e : Dev nD) : bard d e (barC c) = if e = nb d c then Finsupp.single 0 1 else 0 := by
  split
  · next h => subst h; unfold bard; rw [nb_nb']; exact tally_at _ _ _
  · next h => exact bard_other fun e' => h (by rw [tc_inj (congrArg Prod.fst e'), nb_nb])

theorem dues_apply (c : Dev nD) (g : GSem nD τ sig) :
    dues c g = arrS true 0 c g + arrS false 0 c g + crdS true 1 c g + crdS false 1 c g + bard true c g + bard false c g := rfl

theorem dues_recv (d : Bool) (k : Fin 2) (c e : Dev nD) : dues e (recvC c d k)
    = if e = nb (!d) c then ∑ i ∈ Finset.Ico 0 16, (if par (i + 1) = k then Finsupp.single i (amt i) else 0) else 0 := by
  have ho : arrS (!d) 0 e (recvC c d k) = 0 := arrS_other fun i => ne_kind (by rw [kind_recv, kind_recv]; cases d <;> exact fun h => by injection h with h; cases h)
  have hc (d' : Bool) : crdS d' 1 e (recvC c d k) = 0 := crdS_other (ne_kind (by rw [kind_recv, kind_cred]; exact fun h => by cases h))
  have hb (d' : Bool) : bard d' e (recvC c d k) = 0 := bard_other (ne_kind (by rw [kind_recv, kind_bar]; exact fun h => by cases h))
  rw [dues_apply, hc, hc, hb, hb, ← arrS_recv]
  cases d
  · rw [show arrS true 0 e (recvC c false k) = 0 from ho]; simp only [add_zero, zero_add]
  · rw [show arrS false 0 e (recvC c true k) = 0 from ho]; simp only [add_zero]
theorem dues_cred (d : Bool) (c e : Dev nD) : dues e (credC c d) = if e = nb d c then ∑ j ∈ Finset.Ico 1 16, Finsupp.single j 1 else 0 := by
  have ha (d' : Bool) : arrS d' 0 e (credC c d) = 0 := arrS_other fun i => ne_kind (by rw [kind_cred, kind_recv]; exact fun h => by cases h)
  have ho : crdS (!d) 1 e (credC c d) = 0 := crdS_other (ne_kind (by rw [kind_cred, kind_cred]; cases d <;> exact fun h => by injection h with h; cases h))
  have hb (d' : Bool) : bard d' e (credC c d) = 0 := bard_other (ne_kind (by rw [kind_cred, kind_bar]; exact fun h => by cases h))
  rw [dues_apply, ha, ha, hb, hb, ← crdS_cred]
  cases d
  · rw [show crdS true 1 e (credC c false) = 0 from ho]; simp only [add_zero, zero_add]
  · rw [show crdS false 1 e (credC c true) = 0 from ho]; simp only [add_zero, zero_add]
theorem dues_bar (c e : Dev nD) : dues e (barC c) = (if e = nb true c then Finsupp.single 0 1 else 0) + (if e = nb false c then Finsupp.single 0 1 else 0) := by
  have ha (d' : Bool) : arrS d' 0 e (barC c) = 0 := arrS_other fun i => ne_kind (by rw [kind_bar, kind_recv]; exact fun h => by cases h)
  have hc (d' : Bool) : crdS d' 1 e (barC c) = 0 := crdS_other (ne_kind (by rw [kind_bar, kind_cred]; exact fun h => by cases h))
  rw [dues_apply, ha, ha, hc, hc, bard_bar, bard_bar]
  simp only [add_zero, zero_add]

/-- The credit at a cell is the sum of what all devices owe it. -/
theorem launch_at (g : GSem nD τ sig) : launchCredit (Pipeline.owing dues) 0 g = ∑ e : Dev nD, dues e g := by
  refine Finsupp.ext fun u => ?_
  rw [Pipeline.launchCredit_owing, Finsupp.finset_sum_apply]
theorem launch_recv (d : Bool) (k : Fin 2) (c : Dev nD) : launchCredit (Pipeline.owing dues) 0 (recvC c d k)
    = ∑ i ∈ Finset.Ico 0 16, (if par (i + 1) = k then Finsupp.single i (amt i) else 0) := by
  rw [launch_at, Finset.sum_congr rfl fun e _ => dues_recv d k c e, Finset.sum_ite_eq', if_pos (Finset.mem_univ _)]
theorem launch_cred (d : Bool) (c : Dev nD) : launchCredit (Pipeline.owing dues) 0 (credC c d) = ∑ j ∈ Finset.Ico 1 16, Finsupp.single j 1 := by
  rw [launch_at, Finset.sum_congr rfl fun e _ => dues_cred d c e, Finset.sum_ite_eq', if_pos (Finset.mem_univ _)]
theorem launch_bar (c : Dev nD) : launchCredit (Pipeline.owing dues) 0 (barC c) = Finsupp.single 0 2 := by
  rw [launch_at, Finset.sum_congr rfl fun e _ => dues_bar c e, Finset.sum_add_distrib, Finset.sum_ite_eq', Finset.sum_ite_eq', if_pos (Finset.mem_univ _),
    if_pos (Finset.mem_univ _), ← Finsupp.single_add]

theorem tallyOn_sum {I : Type} [DecidableEq I] (g : GSem nD τ sig) (s : Finset I) (f : I → Tally ℕ) :
    (tallyOn g (∑ i ∈ s, f i) : CellTallies nD τ sig ℕ) = ∑ i ∈ s, tallyOn g (f i) := by
  induction s using Finset.induction_on with
  | empty => rw [Finset.sum_empty, Finset.sum_empty, tallyOn_zero]
  | insert i s h ih =>
    rw [Finset.sum_insert h, Finset.sum_insert h, ← ih]
    exact Pi.single_add (f := fun _ : GSem nD τ sig => Tally ℕ) g _ _

/-- The credit of a device's cell. -/
def credAt (c : Dev nD) (sm : SemLoc sig) : sProp 𝕄 :=
  cred (tallyOn ((c : Thread nD τ), sm) (launchCredit (Pipeline.owing dues) 0 ((c : Thread nD τ), sm)))

theorem cred_creds (d : Bool) (c : Dev nD) : credAt (F := F) c (.reg (credS d)) ⊢ (credCreds (F := F) d c 1 : sProp 𝕄) := by
  unfold credAt credCreds
  rw [launch_cred, tallyOn_sum]
  exact cred_sum _ _
theorem cred_bar (c : Dev nD) : credAt (F := F) c (.reg barS) ⊢ (cred (tallyAt (barC c) 0 2) : sProp 𝕄) := by
  unfold credAt
  rw [launch_bar]
  exact .rfl
theorem cred_recv (d : Bool) (k : Fin 2) (c : Dev nD) : credAt (F := F) c (.dma (recvS d k))
    ⊢ (bigSep (Finset.Ico 0 16) fun i => cred (tallyOn (recvC c d k) (if par (i + 1) = k then Finsupp.single i (amt i) else 0)) : sProp 𝕄) := by
  unfold credAt
  rw [launch_recv, tallyOn_sum]
  exact cred_sum _ _
theorem cred_lands (d : Bool) (c : Dev nD) : iprop(credAt (F := F) c (.dma (recvS d 0)) ∗ credAt (F := F) c (.dma (recvS d 1))) ⊢ (landCreds (F := F) d c 0 : sProp 𝕄) := by
  refine BIBase.Entails.trans (BIClass.sep_mono (cred_recv d 0 c) (cred_recv d 1 c)) (BIBase.Entails.trans (Entails.of_eq (bigSep_sep' _ _ _).symm) ?_)
  unfold landCreds
  refine big_mono fun i _ => ?_
  have h : par (i + 1) = 0 ∨ par (i + 1) = 1 := by generalize par (i + 1) = k; revert k; decide
  iintro ⟨H0, H1⟩
  rcases h with h | h
  · rw [h, if_pos rfl]
    iexact H0
  · rw [h, if_pos rfl]
    iexact H1

/-- Of a device's credit, what the protocol spends. -/
def semE : CellIx ↪ SemLoc sig := ⟨semAt, by decide⟩
theorem creds (c : Dev nD) : (Pipeline.launchCred dues c : sProp 𝕄)
    ⊢ iprop(cred (tallyAt (barC c) 0 2) ∗ (landCreds (F := F) true c 0 ∗ credCreds (F := F) true c 1) ∗ (landCreds (F := F) false c 0 ∗ credCreds (F := F) false c 1)) := by
  have h0 : (Pipeline.launchCred dues c : sProp 𝕄) ⊢ bigSep (insert (SemLoc.reg barS) (Finset.univ.map semE)) (credAt (F := F) c) :=
    bigSep_subset (Finset.subset_univ _)
  refine BIBase.Entails.trans h0 ?_
  rw [bigSep_insert (by decide), bigSep_map, big_cells]
  show iprop(credAt (F := F) c (.reg barS)
    ∗ (credAt (F := F) c (.dma (sendS true 0)) ∗ credAt (F := F) c (.dma (sendS true 1)) ∗ credAt (F := F) c (.dma (recvS true 0))
      ∗ credAt (F := F) c (.dma (recvS true 1)) ∗ credAt (F := F) c (.reg (credS true)))
    ∗ (credAt (F := F) c (.dma (sendS false 0)) ∗ credAt (F := F) c (.dma (sendS false 1)) ∗ credAt (F := F) c (.dma (recvS false 0))
      ∗ credAt (F := F) c (.dma (recvS false 1)) ∗ credAt (F := F) c (.reg (credS false)))) ⊢ _
  iintro ⟨HB, ⟨-, -, T0, T1, TC⟩, -, -, F0, F1, FC⟩
  isplitl [HB]; · iapply (cred_bar c) $$ HB
  isplitl [T0 T1 TC]
  · isplitl [T0 T1]
    · iapply (cred_lands true c)
      isplitl [T0]; · iexact T0
      iexact T1
    · iapply (cred_creds true c) $$ TC
  · isplitl [F0 F1]
    · iapply (cred_lands false c)
      isplitl [F0]; · iexact F0
      iexact F1
    · iapply (cred_creds false c) $$ FC

end Cert.RingProof
end
-- ==== Proof.Ring.Launch.lean ====
/-
The launch: every cell and slot funded, each device given its share, and the run of the program on all devices.
-/
module

public import proofs.«01_k».proof.Proof.Ring.Deal

@[expose] public section

set_option maxRecDepth 16384

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots released readerAt writeTok slotInv initSlots)

variable {F : FTy → Type} [FloatOps F]

local notation "𝕄" => MT nD τ sig ℕ (Elt F) ℕ UU ℕ

variable (m : (ℓ : Loc nD τ sig) → Buf (Elt F) ℓ) (ρ : Dev nD → PrngReg)

/-! ## The launch element -/

/-- The protocol's part: the cells, their tokens, and eight turns at every slot. -/
def uT : UT := (launchOf bars inner toks, initSlots Finset.univ 8)
def u₀ : UU :=
  (initOf (Pipeline.cells (Pipeline.pin (pcfgs (F := F)) adm) cellOf_inj) (Pipeline.launchToks (Pipeline.pin (pcfgs (F := F)) adm) cellOf_inj), uT)

/-- It is used as a whole, by all devices at once: device 0 carries it. -/
def carried (c : Dev nD) : sProp 𝕄 := if c = 0 then BI.own (embR uT : 𝕄) else iprop(emp)
theorem carried_all : bigSep Finset.univ (carried (F := F)) = (BI.own (embR uT) : sProp 𝕄) := by
  have h (c : Dev nD) (hc : c ∈ (Finset.univ : Finset (Dev nD)).erase 0) : carried (F := F) c = (BI.emp : sProp 𝕄) := if_neg (Finset.ne_of_mem_erase hc)
  rw [bigSep_univ_at _ 0, bigSep_congr h, BI.bigSep_emp_const, show carried (F := F) 0 = BI.own (embR uT) from if_pos rfl]
  exact BI.equiv_iff.mp sep_emp
theorem carried_parts : (BI.own (embR uT) : sProp 𝕄) ⊢ iprop(BI.own (ER (launchOf bars inner toks)) ∗ BI.own (EL (initSlots Finset.univ 8))) :=
  BI.own_op_elim (embR.op_of_mem (Prod.mk_mem_op (URA.mem_op_one _) (URA.mem_one_op _)))

theorem cells_disjoint : Disjoint bars inner := by
  refine Finset.disjoint_left.mpr fun g h₁ h₂ => ?_
  obtain ⟨c, -, rfl⟩ := Finset.mem_map.mp h₁
  obtain ⟨⟨e, i⟩, -, h⟩ := Finset.mem_map.mp h₂
  have hk := congrArg (fun g : GSem nD τ sig => kind g.2) h
  have hi := kind_cellAt e i
  change kind (cellAt (e, i)).2 = kind (.reg barS) at hk
  rw [hi, kind_bar] at hk
  revert i; decide +revert

/-! ## What each device starts with -/

/-- The invariants of all cells and slots, and that every barrier is at its first round. -/
def shared (κ : GSem nD τ sig → ℕ) (σ : Key → ℕ) : sProp 𝕄 :=
  iprop(recs (xs m) κ σ ∗ bigSep bars fun g => reached ER g 0)
instance shared_persistent (κ : GSem nD τ sig → ℕ) (σ : Key → ℕ) : BI.Persistent (shared m κ σ) := by unfold shared; infer_instance

/-- A direction's tokens, turns and credits on a device. -/
def held₁ (d : Bool) (c : Dev nD) : sProp 𝕄 :=
  iprop(dealt (F := F) d c ∗ (readerAt EL (slotK c d 0) 0 ∗ readerAt EL (slotK c d 1) 0) ∗ (writeTok EL (slotK c d 0) 8 ∗ ownW (F := F) d (nb d c))
    ∗ landCreds (F := F) d c 0 ∗ credCreds (F := F) d c 1)
theorem given_intro (κ : GSem nD τ sig → ℕ) (σ : Key → ℕ) (d : Bool) (c : Dev nD) : iprop(shared m κ σ ∗ held₁ (F := F) d c) ⊢ (given (F := F) c d : sProp 𝕄) := by
  unfold shared held₁ dealt given Tk ownB
  iintro ⟨⟨-, #HR⟩, ⟨HS, HV, HC, HB⟩, ⟨H0, H1⟩, ⟨HW, HWs⟩, HL, HD⟩
  isplitr
  · iapply (big_elim (show barC (nb (!d) c) ∈ bars from Finset.mem_map_of_mem barE (Finset.mem_univ _))) $$ HR
  isplitl [HB]; · iexact HB
  isplitl [H0]; · iexact H0
  isplitl [H1]; · iexact H1
  isplitl [HW]; · iexact HW
  isplitl [HS HV]
  · unfold sendToks
    iapply (show iprop(ownS (F := F) d c ∗ ownR (F := F) d (nb d c)) ⊢ _ from Entails.of_eq (bigSep_sep' _ _ _).symm)
    isplitl [HS]; · iexact HS
    iexact HV
  isplitl [HWs]; · iapply (show ownW (F := F) d (nb d c) ⊢ writeToks d c 0 from .rfl) $$ HWs
  isplitl [HL]; · iexact HL
  isplitl [HC]; · iapply (show ownC (F := F) d (nb (!d) c) ⊢ sigToks d c 0 from .rfl) $$ HC
  iexact HD

/-- What the launch hands a device beside the shared. -/
def mine (c : Dev nD) : sProp 𝕄 :=
  iprop(StableHlo.held (c : Thread nD τ) arrs (V₀ m c) ∗ (∃ r, prngReg c r) ∗ owes (c : Thread nD τ) (dues c) ∅
    ∗ cred (tallyAt (barC c) 0 2) ∗ (landCreds (F := F) true c 0 ∗ credCreds (F := F) true c 1) ∗ (landCreds (F := F) false c 0 ∗ credCreds (F := F) false c 1))
def ghost (c : Dev nD) : sProp 𝕄 :=
  iprop(atPos ER (barC c) 0 ∅ 0 ∗ bigSep Finset.univ (fun i : CellIx => openTok ER (cellAt (c, i)))
    ∗ (dealt (F := F) true c ∗ dealt (F := F) false c)
    ∗ ((readerAt EL (slotK c true 0) 0 ∗ readerAt EL (slotK c true 1) 0) ∗ (readerAt EL (slotK c false 0) 0 ∗ readerAt EL (slotK c false 1) 0))
    ∗ ((writeTok EL (slotK c true 0) 8 ∗ ownW (F := F) true (nb true c)) ∗ (writeTok EL (slotK c false 0) 8 ∗ ownW (F := F) false (nb false c))))

abbrev T₀ (c : Dev nD) : sProp 𝕄 := iprop(StableHlo.held (c : Thread nD τ) arrs (V₀ m c) ∗ ride m c)
abbrev Tₙ (c : Dev nD) : sProp 𝕄 := iprop(StableHlo.held (c : Thread nD τ) arrs (V₂ m c) ∗ semVal (barC c) 0)

theorem T₀_intro (κ : GSem nD τ sig → ℕ) (σ : Key → ℕ) (c : Dev nD) : iprop(shared m κ σ ∗ (ghost (F := F) c ∗ mine m c)) ⊢ T₀ m c := by
  unfold ghost mine T₀ ride start ow
  iintro ⟨#HR, ⟨HA, HO, ⟨DT, DF⟩, ⟨RT, RF⟩, ⟨WT, WF⟩⟩, Hh, Hp, Hw, HB, ⟨LT, CT⟩, ⟨LF, CF⟩⟩
  isplitl [Hh]; · iexact Hh
  isplitr [Hp Hw]
  · iexists κ; iexists σ
    isplitr
    · unfold shared; icases HR with ⟨H, -⟩; iexact H
    isplitl [HO]; · iexact HO
    isplitl [DT RT WT LT CT]
    · iapply (given_intro m κ σ true c)
      isplitr; · iexact HR
      unfold held₁
      isplitl [DT]; · iexact DT
      isplitl [RT]; · iexact RT
      isplitl [WT]; · iexact WT
      isplitl [LT]; · iexact LT
      iexact CT
    isplitl [DF RF WF LF CF]
    · iapply (given_intro m κ σ false c)
      isplitr; · iexact HR
      unfold held₁
      isplitl [DF]; · iexact DF
      isplitl [RF]; · iexact RF
      isplitl [WF]; · iexact WF
      isplitl [LF]; · iexact LF
      iexact CF
    isplitl [HA]; · iexact HA
    iexact HB
  isplitl [Hp]; · iexact Hp
  iexists ∅; iexact Hw

/-! ## The launch dealt -/

theorem arrs_eq : (StableHlo.tcRefs τ sig).filter (fun b => ¬ b.isScoped) = arrs := by decide
theorem bufs_held (c : Dev nD) : (unscopedBufs c (fun b => m ((c : Thread nD τ).loc b)) : sProp 𝕄) = StableHlo.held (c : Thread nD τ) arrs (V₀ m c) := by
  rw [← arrs_eq]
  unfold unscopedBufs StableHlo.held StableHlo.tcRefs
  rw [Finset.filter_map, BI.bigSep_map]
  rfl
theorem sems_bar (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- A device's part of the launch. -/
def first (c : Dev nD) : sProp 𝕄 :=
  iprop(unscopedBufs c (fun b => m ((c : Thread nD τ).loc b)) ∗ unscopedSems0 c ∗ owes (c : Thread nD τ) (dues c) ∅ ∗ Pipeline.launchCred dues c
    ∗ prngReg c (ρ c) ∗ carried (F := F) c)
theorem first_split (c : Dev nD) : first m ρ c ⊢ (iprop(mine m c ∗ (semVal (barC c) 0 ∗ carried (F := F) c)) : sProp 𝕄) := by
  unfold first mine
  rw [bufs_held, sems_bar]
  iintro ⟨Hh, Hs, HO, Hc, Hp, HG⟩
  ihave Hc := (creds (F := F) c) $$ Hc
  icases Hc with ⟨HB, HT, HF⟩
  isplitr [Hs HG]
  · isplitl [Hh]; · iexact Hh
    isplitl [Hp]; · iexists (ρ c); iexact Hp
    isplitl [HO]; · iexact HO
    isplitl [HB]; · iexact HB
    isplitl [HT]; · iexact HT
    iexact HF
  isplitl [Hs]; · iexact Hs
  iexact HG

/-- The tokens, dealt along the ring; and the turns. -/
theorem toks_dealt : (bigSep toks fun x => (dutyTok ER x.1 x.2.1 x.2.2 : sProp 𝕄))
    ⊢ bigSep Finset.univ fun c : Dev nD => iprop(dealt (F := F) true c ∗ dealt (F := F) false c) := by
  rw [toks_own, bigSep_sep', deal, deal, ← bigSep_sep']
theorem turns_dealt : (bigSep ((Finset.univ : Finset Key) ×ˢ Finset.range 8) fun x => (writeTok EL x.1 (x.2 + 1) : sProp 𝕄))
    ⊢ bigSep Finset.univ fun c : Dev nD =>
      iprop((writeTok EL (slotK c true 0) 8 ∗ ownW (F := F) true (nb true c)) ∗ (writeTok EL (slotK c false 0) 8 ∗ ownW (F := F) false (nb false c))) := by
  rw [slots_own, bigSep_sep', bigSep_sep', bigSep_sep', big_ring true (ownW true), big_ring false (ownW false), ← bigSep_sep', ← bigSep_sep', ← bigSep_sep']
theorem opens_dealt : (bigSep inner fun g => (openTok ER g : sProp 𝕄)) ⊢ bigSep Finset.univ fun c : Dev nD => bigSep Finset.univ fun i : CellIx => openTok ER (cellAt (c, i)) := by
  unfold inner
  rw [bigSep_map, bigSep_univ_prod]
  exact .rfl
theorem bars_map (Φ : GSem nD τ sig → sProp 𝕄) : bigSep bars Φ = bigSep Finset.univ fun c : Dev nD => Φ (barC c) := bigSep_map (s := Finset.univ) barE

theorem init : iprop(bigSep Finset.univ (first m ρ) ∗ levAts L lv) ⊢ (|={Set.univ}=> bigSep Finset.univ (T₀ m) : sProp 𝕄) := by
  iintro ⟨H, #HL⟩
  ihave H := (big_mono fun c _ => first_split m ρ c) $$ H
  ihave H := big_unpair $$ H
  icases H with ⟨HM, H⟩
  ihave H := big_unpair $$ H
  icases H with ⟨Hv, HG⟩
  ihave HG := (Entails.of_eq (carried_all (F := F))) $$ HG
  ihave HG := (carried_parts (F := F)) $$ HG
  icases HG with ⟨HU, HS⟩
  imod (Rounds.fund_launch ER (Rd (xs m)) cells_disjoint (fun g _ h => h) toks) $$ [Hv HU] with ⟨%κ, -, #HI, #HR, HA, HO, HT⟩
  · isplitl [Hv]
    · iapply (Entails.of_eq (bars_map (F := F) fun g => semVal g 0).symm) $$ Hv
    iexact HU
  imod (Release.slots_init EL Finset.univ 8 fun p : Key => anyOf (F := F) (slotM p.2.1 p.2.2) p.1) $$ HS with ⟨%σ, -, #HJ, HD, HW⟩
  imodintro
  iapply (bigSep_with_persistent (R := shared m κ σ) (Φ := fun c => iprop(ghost (F := F) c ∗ mine m c)) fun c _ => T₀_intro m κ σ c)
  isplitr
  · unfold shared recs
    isplitr
    · isplitr; · iexact HI
      isplitr; · iexact HJ
      iexact HL
    iexact HR
  iapply big_pair
  isplitr [HM]
  · unfold ghost
    iapply big_pair; isplitl [HA]; · iapply (Entails.of_eq (bars_map (F := F) fun g => atPos ER g 0 ∅ 0)) $$ HA
    iapply big_pair; isplitl [HO]; · iapply (opens_dealt (F := F)) $$ HO
    iapply big_pair; isplitl [HT]; · iapply (toks_dealt (F := F)) $$ HT
    iapply big_pair; isplitl [HD]; · iapply (Entails.of_eq (readers_own (F := F))) $$ HD
    iapply (turns_dealt (F := F)) $$ HW
  iexact HM

/-! ## The run -/

theorem unscoped_bar : ∀ sm : SemLoc sig, sm.isScoped .tc = false → sm = .reg barS := by decide
theorem arrs_held (c : Dev nD) (W : Valuation τ sig (Elt F)) : (StableHlo.held (c : Thread nD τ) arrs W : sProp 𝕄)
    = iprop(((c : Thread nD τ).loc main_arg0 ↦{fullShare} W main_arg0) ∗ ((c : Thread nD τ).loc main_arg1 ↦{fullShare} W main_arg1)
      ∗ ((c : Thread nD τ).loc main_v1 ↦{fullShare} W main_v1) ∗ ((c : Thread nD τ).loc main_c ↦{fullShare} W main_c)
      ∗ ((c : Thread nD τ).loc main_c_0 ↦{fullShare} W main_c_0)) := by
  unfold StableHlo.held
  rw [bigSep_eq_bigSepL_of_eq [Proc.devRef .tc main_arg0, Proc.devRef .tc main_arg1, Proc.devRef .tc main_v1, Proc.devRef .tc main_c, Proc.devRef .tc main_c_0]
    (by decide) (by decide)]
  rfl

set_option backward.isDefEq.respectTransparency.types false in
/-- From any memory with all counters at zero, every execution ends; then each device's arguments are as they were, its result is
    that of the blocks of `x` against its block of `w`, and all counters are at zero. -/
theorem run_main : θ_run defs (onTc (τ := τ) (main (F := F))) (⟨m, fun _ => 0, ρ⟩ : MemSt nD τ sig (Elt F))
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = res m c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := dues) (hL := L_of_ne) (G := carried (F := F)) (u₀ := u₀ (F := F))
    (hu₀ := by
      unfold u₀
      iintro Hu
      ihave H := (ownU_pair _ _) $$ Hu
      icases H with ⟨HP, HX⟩
      imodintro
      isplitl [HP]; · iexact HP
      rw [carried_all]; iexact HX)
    (T₀ := T₀ m) (Tₙ := Tₙ m)
    (hch := ⟨fun c => .rfl, fun c => region_enter m c, fun c => region_leave m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v1) = V₂ m c main_v1) ∧ s.sem (barC c) = 0)
    (hfin := fun c s' => by
      dsimp only [Tₙ]; rw [arrs_held]
      iintro ⟨⟨⟨H0, H1, H2, -, -⟩, HB⟩, HSI⟩
      icombine HSI H0 gives %h0
      icombine HSI H1 gives %h1
      icombine HSI H2 gives %h2
      icombine HSI HB gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_of m c (b := main_arg0) (by decide), V₁_x] at h0
        rw [V₂_of m c (b := main_arg1) (by decide), V₁_w] at h1
        rw [V₂_res] at h2
        exact ⟨h0, h1, h2⟩,
      sem_eq_zero hs fun c sm hsm => by
        obtain rfl := unscoped_bar sm hsm
        exact (h c).2⟩)

end Cert.RingProof
end
-- ==== Proof.Ring.Value.lean ====
/-
At the extended reals, a device's result block is its block of columns of the reference's product.
-/
module

public import proofs.«01_k».proof.Defs
public import proofs.«01_k».proof.Proof.Ring.Launch
public import proofs.«01_k».proof.Proof.Gen.ReferenceIdeal
public import Idealize.ShloMosaic.Lib.MatmulPlain
public import Idealize.ShloMosaic.Lib.Pointwise.Reshape
public import Idealize.ShloMosaic.Lib.ValueIdx
public import Idealize.ShloMosaic.Lib.Layout

@[expose] public section

set_option maxRecDepth 16384

noncomputable section

namespace Cert.RingProof

open Cert.KernelIdeal Cert.KernelIdeal.Gen
open Idealize.ShloMosaic hiding ix2 eq_ix2
open Idealize.ShloMosaic.ValueIdx (ix2 eq_ix2)
open scoped BigOperators

/-! ## The products, entry by entry -/

theorem mulX_at (Y : XVec Ideal) (W : WVec Ideal) (i : S256x128.Idx) :
    mulX Y W i = ∑ k : Fin 8192, Y (ix2 (n0 := 256) (i 0) k) * W (ix2 (n1 := 128) k (i 1)) := by
  unfold mulX
  rw [shapeCast_id]
  refine (congrArg _ (eq_ix2 (n0 := 256) (n1 := 128) i)).trans ?_
  refine (Ideal.matmul_plain_apply none Y W (constant S256x128 .f32 0x00000000#32) (i 0) (i 1)).trans ?_
  rw [ValueIdx.constant_apply, Ideal.ofBits_zero_f32, zero_add]
theorem mulH_at (Y : HVec Ideal) (W : WVec Ideal) (i : S128x128.Idx) :
    mulH Y W i = ∑ k : Fin 8192, Y (ix2 (n0 := 128) (i 0) k) * W (ix2 (n1 := 128) k (i 1)) := by
  unfold mulH k0_pay1
  rw [shapeCast_id]
  refine (congrArg _ (eq_ix2 (n0 := 128) (n1 := 128) i)).trans ?_
  refine (Ideal.matmul_plain_apply none Y W (constant S128x128 .f32 0x00000000#32) (i 0) (i 1)).trans ?_
  rw [ValueIdx.constant_apply, Ideal.ofBits_zero_f32, zero_add]

/-- The reference's result from whole arrays. -/
def whole (A : Cert.ReferenceIdeal.S8192x8192.Idx → Elt Ideal .bf16) (B : Cert.ReferenceIdeal.S8192x4096.Idx → Elt Ideal .bf16) :
    Cert.ReferenceIdeal.S8192x4096.Idx → Elt Ideal .f32 :=
  extf (F := Ideal) .f32 (truncf (F := Ideal) .bf16
    (Host.dotGeneral (F := Ideal) (φ₁ := .bf16) (φ₂ := .bf16) Cert.ReferenceIdeal.dot_S8192x8192_S8192x4096_S8192x4096_1_0_0_1_n_n none A B)
    Cert.ReferenceIdeal.Gen.bitsLt_bf16_f32) Cert.ReferenceIdeal.Gen.bitsLt_bf16_f32
/-- A format change is the identity there, so it is the product. -/
theorem whole_at (A : Cert.ReferenceIdeal.S8192x8192.Idx → Elt Ideal .bf16) (B : Cert.ReferenceIdeal.S8192x4096.Idx → Elt Ideal .bf16)
    (i : Cert.ReferenceIdeal.S8192x4096.Idx) : whole A B i = ∑ k : Fin 8192, A (ix2 (n0 := 8192) (i 0) k) * B (ix2 (n1 := 4096) k (i 1)) := by
  refine (congrArg (whole A B) (eq_ix2 (n0 := 8192) (n1 := 4096) i)).trans ?_
  refine (show whole A B (ix2 (n0 := 8192) (n1 := 4096) (i 0) (i 1))
    = FloatOps.matmul (F := Ideal) (φ₁ := .bf16) (φ₂ := .bf16) (DotDims.plain 8192 8192 4096) none A B (fun _ => (0 : EReal)) (ix2 (i 0) (i 1)) from rfl).trans ?_
  refine (Ideal.matmul_plain_apply (M := 8192) (K := 8192) (N := 4096) (φ₁ := .bf16) (φ₂ := .bf16) none A B (fun _ => (0 : EReal)) (i 0) (i 1)).trans ?_
  exact zero_add _

/-! ## The result block -/

/-- A row of the result, in the block of `x` of the device it belongs to. -/
def inRow (i : S8192x128.Idx) : Fin 256 := ⟨(i 0).val % 256, Nat.mod_lt _ (by decide)⟩
/-- An entry of the result is the sum of its row of `x` against its column of `w`, in whichever of the two ways it is computed. -/
theorem tgt_at (X : Dev nD → XVec Ideal) (w : Dev nD → WVec Ideal) (c : Dev nD) (i : S8192x128.Idx) :
    tgt X w c i = ∑ k : Fin 8192, X (owner i) (ix2 (inRow i) k) * w c (ix2 (n1 := 128) k (i 1)) := by
  unfold tgt
  split
  · refine (mulH_at _ _ _).trans (Finset.sum_congr rfl fun k _ => congrArg₂ (· * ·) ?_ rfl)
    refine congrArg (X (owner i)) (funext fun a => Fin.ext ?_)
    match a with
    | ⟨0, _⟩ =>
      show (i 0).val % 128 + cond (decide ((i 0).val / 128 % 2 = 0)) 0 128 = (i 0).val % 256
      by_cases h : (i 0).val / 128 % 2 = 0
      · rw [decide_eq_true h]; show (i 0).val % 128 + 0 = _; omega
      · rw [decide_eq_false h]; show (i 0).val % 128 + 128 = _; omega
    | ⟨1, _⟩ => rfl
  · exact mulX_at _ _ _

/-- Blocks of `x` and `w` in, blocks of the product out. -/
theorem tgt_block (A : Cert.ReferenceIdeal.S8192x8192.Idx → Elt Ideal .bf16) (B : Cert.ReferenceIdeal.S8192x4096.Idx → Elt Ideal .bf16)
    (X : Dev nD → XVec Ideal) (w : Dev nD → WVec Ideal) (hX : ∀ c, X c = Layout.block ⟨2, ![256, 8192]⟩ ⟨2, ![8192, 8192]⟩ 0 32 c A)
    (hw : ∀ c, w c = Layout.block ⟨2, ![8192, 128]⟩ ⟨2, ![8192, 4096]⟩ 1 32 c B) (c : Dev nD) :
    tgt X w c = Layout.block ⟨2, ![8192, 128]⟩ ⟨2, ![8192, 4096]⟩ 1 32 c (whole A B) := by
  funext i
  refine (tgt_at X w c i).trans (Eq.trans (Finset.sum_congr rfl fun k _ => ?_) (whole_at A B _).symm)
  rw [hX, hw, Layout.block_apply, Layout.block_apply]
  refine congrArg₂ (· * ·) (congrArg A (funext fun a => Fin.ext ?_)) (congrArg B (funext fun a => Fin.ext ?_))
  · match a with
    | ⟨0, _⟩ =>
      show (i 0).val / 256 * 256 + (i 0).val % 256 = (i 0).val
      omega
    | ⟨1, _⟩ => rfl
  · match a with
    | ⟨0, _⟩ => rfl
    | ⟨1, _⟩ => rfl

end Cert.RingProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Same
public import proofs.«01_k».proof.Proof.Ring.Value
public import Idealize.ShloMosaic.Adequacy
public import Idealize.ShloMosaic.Init

@[expose] public section

noncomputable section

namespace Cert.Proof

open Idealize.ShloMosaic Idealize.SL.Sem Cert.Kernel

open Cert.RingProof in
/-- The idealized kernel ends, with its arguments unchanged and its counters at zero. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

open Cert.RingProof in
/-- The kernel, whose text is the same, likewise. -/
theorem frame_kernel : Cert.quiescent_Kernel := fun m ρ _ => by
  rw [defs_same, main_same]
  exact (θ_run Cert.KernelIdeal.defs _ _).mono (fun _ h => ⟨fun c => ⟨(h.1 c).1, (h.1 c).2.1⟩, h.2⟩) (run_main (F := Bits) m ρ)

/-- The reference likewise. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

open Cert.RingProof in
/-- Every device's result is its block of the reference's. -/
theorem values : Cert.algebraic_KernelIdeal_ReferenceIdeal := fun m ρ m' ρ' _ hm =>
  ⟨_, (θ_run Cert.KernelIdeal.defs _ _).mono
    (fun _ h c => ⟨(h.1 c).2.2.trans (tgt_block _ _ (xs m) (ws m) (fun c => (hm c).1) (fun c => (hm c).2) c), (h.1 c).1, (h.1 c).2.1⟩) (run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
